-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "floor" .f32 0xFF7FC99E#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192 : Shape := ⟨1, ![8192]⟩
abbrev S8192x2048 : Shape := ⟨2, ![8192, 2048]⟩
abbrev S100000x2 : Shape := ⟨2, ![100000, 2]⟩
abbrev S8192x64 : Shape := ⟨2, ![8192, 64]⟩
abbrev S32x256x64 : Shape := ⟨3, ![32, 256, 64]⟩
abbrev S32x64x256 : Shape := ⟨3, ![32, 64, 256]⟩
abbrev S64x256 : Shape := ⟨2, ![64, 256]⟩
abbrev S256 : Shape := ⟨1, ![256]⟩
abbrev S272 : Shape := ⟨1, ![272]⟩
abbrev S16x2048 : Shape := ⟨2, ![16, 2048]⟩
abbrev S16 : Shape := ⟨1, ![16]⟩
abbrev S_ : Shape := ⟨0, ![]⟩
abbrev S1x64x256 : Shape := ⟨3, ![1, 64, 256]⟩
abbrev S1x16 : Shape := ⟨2, ![1, 16]⟩
abbrev S1 : Shape := ⟨1, ![1]⟩
abbrev S16x128 : Shape := ⟨2, ![16, 128]⟩
abbrev S8192x128 : Shape := ⟨2, ![8192, 128]⟩

abbrev nBuf : Table → Nat
  | .hbm => 11
  | .local .scVector .vmem => 7
  | _ => 0

abbrev bufTy : (tb : Table) → Fin (nBuf tb) → BufTy
  | .hbm, ⟨0, _⟩ => ⟨S8192, .i32⟩
  | .hbm, ⟨1, _⟩ => ⟨S8192, .i32⟩
  | .hbm, ⟨2, _⟩ => ⟨S8192, .f32⟩
  | .hbm, ⟨3, _⟩ => ⟨S8192x2048, .f32⟩
  | .hbm, ⟨4, _⟩ => ⟨S8192x2048, .f32⟩
  | .hbm, ⟨5, _⟩ => ⟨S100000x2, .f32⟩
  | .hbm, ⟨6, _⟩ => ⟨S100000x2, .f32⟩
  | .hbm, ⟨7, _⟩ => ⟨S8192x64, .f32⟩
  | .hbm, ⟨8, _⟩ => ⟨S32x256x64, .f32⟩
  | .hbm, ⟨9, _⟩ => ⟨S32x64x256, .f32⟩
  | .hbm, ⟨10, _⟩ => ⟨S8192, .f32⟩
  | .local .scVector .vmem, ⟨0, _⟩ => ⟨S64x256, .f32⟩
  | .local .scVector .vmem, ⟨1, _⟩ => ⟨S256, .f32⟩
  | .local .scVector .vmem, ⟨2, _⟩ => ⟨S256, .f32⟩
  | .local .scVector .vmem, ⟨3, _⟩ => ⟨S272, .i32⟩
  | .local .scVector .vmem, ⟨4, _⟩ => ⟨S16x2048, .f32⟩
  | .local .scVector .vmem, ⟨5, _⟩ => ⟨S16, .i32⟩
  | .local .scVector .vmem, ⟨6, _⟩ => ⟨S16, .f32⟩
  | _, _ => ⟨S8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_arg2_scv : Ref sig .scVector := ⟨.hbm, 2, rfl⟩
abbrev main_arg4_scv : Ref sig .scVector := ⟨.hbm, 4, rfl⟩
abbrev main_v2_scv : Ref sig .scVector := ⟨.hbm, 9, rfl⟩
abbrev main_v3_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
@[reducible] def k0_t1_loop : Scf.Loop 32 :=
  let c0_i32_10 : BitVec 32 := 0#32
  let c8_i32 : BitVec 32 := 8#32
  let v73 : BitVec 32 := Scalar.addi c0_i32_10 c8_i32
  let c1_i32 : BitVec 32 := 1#32
  ⟨c0_i32_10, v73, c1_i32⟩
def k0_off3 (k0_t1 : Fin k0_t1_loop.trips) : Fin 1 → Nat :=
  let c0_i32_10 : BitVec 32 := 0#32
  let c1_i32 : BitVec 32 := 1#32
  let arg16 : BitVec 32 := Scf.iv c0_i32_10 c1_i32 k0_t1
  let c32_i32 : BitVec 32 := 32#32
  let v78 : BitVec 32 := Scalar.muli arg16 c32_i32
  let v80 : Index := Scalar.indexCast v78
  ![v80.toNat]
def k0_off4 (k0_t1 : Fin k0_t1_loop.trips) : Fin 1 → Nat :=
  let c0_i32_10 : BitVec 32 := 0#32
  let c1_i32 : BitVec 32 := 1#32
  let arg16 : BitVec 32 := Scf.iv c0_i32_10 c1_i32 k0_t1
  let c32_i32 : BitVec 32 := 32#32
  let v78 : BitVec 32 := Scalar.muli arg16 c32_i32
  let c16_i32 : BitVec 32 := 16#32
  let v79 : BitVec 32 := Scalar.addi v78 c16_i32
  let v83 : Index := Scalar.indexCast v79
  ![v83.toNat]
@[reducible] def k0_t2_loop : Scf.Loop 32 :=
  let c0_i32_15 : BitVec 32 := 0#32
  let c4_i32 : BitVec 32 := 4#32
  let v87 : BitVec 32 := Scalar.addi c0_i32_15 c4_i32
  let c1_i32_16 : BitVec 32 := 1#32
  ⟨c0_i32_15, v87, c1_i32_16⟩
def k0_off5 (k0_t1 : Fin k0_t1_loop.trips) (k0_t2 : Fin k0_t2_loop.trips) (c0_i32_47 : BitVec 32) : Fin 2 → Nat :=
  let c0_i32_15 : BitVec 32 := 0#32
  let c1_i32_16 : BitVec 32 := 1#32
  let arg18 : BitVec 32 := Scf.iv c0_i32_15 c1_i32_16 k0_t2
  let c16_i32_46 : BitVec 32 := 16#32
  let v185 : BitVec 32 := Scalar.muli arg18 c16_i32_46
  let v186 : BitVec 32 := Scalar.addi v185 c0_i32_47
  let v187 : Index := Scalar.indexCast v186
  let c0_i32_10 : BitVec 32 := 0#32
  let c1_i32 : BitVec 32 := 1#32
  let arg16 : BitVec 32 := Scf.iv c0_i32_10 c1_i32 k0_t1
  let c32_i32 : BitVec 32 := 32#32
  let v78 : BitVec 32 := Scalar.muli arg16 c32_i32
  let v188 : Index := Scalar.indexCast v78
  ![v187.toNat, v188.toNat]
def k0_off6 (k0_t1 : Fin k0_t1_loop.trips) (k0_t2 : Fin k0_t2_loop.trips) (c0_i32_49 : BitVec 32) : Fin 2 → Nat :=
  let c0_i32_15 : BitVec 32 := 0#32
  let c1_i32_16 : BitVec 32 := 1#32
  let arg18 : BitVec 32 := Scf.iv c0_i32_15 c1_i32_16 k0_t2
  let c16_i32_48 : BitVec 32 := 16#32
  let v191 : BitVec 32 := Scalar.muli arg18 c16_i32_48
  let v192 : BitVec 32 := Scalar.addi v191 c0_i32_49
  let v193 : Index := Scalar.indexCast v192
  let c0_i32_10 : BitVec 32 := 0#32
  let c1_i32 : BitVec 32 := 1#32
  let arg16 : BitVec 32 := Scf.iv c0_i32_10 c1_i32 k0_t1
  let c32_i32 : BitVec 32 := 32#32
  let v78 : BitVec 32 := Scalar.muli arg16 c32_i32
  let c16_i32 : BitVec 32 := 16#32
  let v79 : BitVec 32 := Scalar.addi v78 c16_i32
  let v194 : Index := Scalar.indexCast v79
  ![v193.toNat, v194.toNat]

def k0_chk1 (v107 : IVec S16 32) : Prop :=
  (∀ a x, ((![v107] : Fin 1 → IVec S16 32) a x).toNat < S16.size a)
theorem k0_idx1_inb : ∀ (v107 : IVec S16 32) (k0_hw1 : k0_chk1 v107), ∀ a x, ((![v107] : Fin 1 → IVec S16 32) a x).toNat < S16.size a := fun v107 k0_hw1 => k0_hw1

def k0_chk2 (v114 : IVec S16 32) : Prop :=
  (∀ a x, ((![v114] : Fin 1 → IVec S16 32) a x).toNat < S16.size a)
theorem k0_idx2_inb : ∀ (v114 : IVec S16 32) (k0_hw2 : k0_chk2 v114), ∀ a x, ((![v114] : Fin 1 → IVec S16 32) a x).toNat < S16.size a := fun v114 k0_hw2 => k0_hw2

def k0_chk3 (v121 : IVec S16 32) : Prop :=
  (∀ a x, ((![v121] : Fin 1 → IVec S16 32) a x).toNat < S16.size a)
theorem k0_idx3_inb : ∀ (v121 : IVec S16 32) (k0_hw3 : k0_chk3 v121), ∀ a x, ((![v121] : Fin 1 → IVec S16 32) a x).toNat < S16.size a := fun v121 k0_hw3 => k0_hw3

def k0_chk4 (v128 : IVec S16 32) : Prop :=
  (∀ a x, ((![v128] : Fin 1 → IVec S16 32) a x).toNat < S16.size a)
theorem k0_idx4_inb : ∀ (v128 : IVec S16 32) (k0_hw4 : k0_chk4 v128), ∀ a x, ((![v128] : Fin 1 → IVec S16 32) a x).toNat < S16.size a := fun v128 k0_hw4 => k0_hw4
def k0_off7 (arg17 : BitVec 32) : Fin 1 → Nat :=
  let v281 : Index := Scalar.indexCast arg17
  ![v281.toNat]
def k0_cond1 (v132 : BitVec 32) : BitVec 1 :=
  let c0_i32_30 : BitVec 32 := 0#32
  let v133 : BitVec 1 := Scalar.cmpi .sgt v132 c0_i32_30
  let v134 : BitVec 32 := Scalar.extui v133
  let c0_i32_31 : BitVec 32 := 0#32
  let v135 : BitVec 1 := Scalar.cmpi .ne v134 c0_i32_31
  v135

def k0_cond2 (v186 : BitVec 32) : BitVec 1 :=
  let c0_i32_46 : BitVec 32 := 0#32
  let v187 : BitVec 1 := Scalar.cmpi .sgt v186 c0_i32_46
  let v188 : BitVec 32 := Scalar.extui v187
  let c0_i32_47 : BitVec 32 := 0#32
  let v189 : BitVec 1 := Scalar.cmpi .ne v188 c0_i32_47
  v189

def k0_chk5 (arg17 : BitVec 32) (v132 : BitVec 32) (v186 : BitVec 32) : Prop :=
  (∀ (k0_h1 : k0_cond1 v132 = 1#1), ∀ (k0_h2 : k0_cond2 v186 = 1#1), ∀ a, (k0_off7 arg17) a + S16.size a ≤ S272.size a)
theorem k0_off7_inb : ∀ (arg17 : BitVec 32) (v132 : BitVec 32) (v186 : BitVec 32) (k0_hw5 : k0_chk5 arg17 v132 v186), ∀ (k0_h1 : k0_cond1 v132 = 1#1), ∀ (k0_h2 : k0_cond2 v186 = 1#1), ∀ a, (k0_off7 arg17) a + S16.size a ≤ S272.size a := fun arg17 v132 v186 k0_hw5 k0_h1 k0_h2 => k0_hw5 k0_h1 k0_h2

def k0_off8 (arg17 : BitVec 32) (v186 : BitVec 32) : Fin 1 → Nat :=
  let v190 : BitVec 32 := Scalar.addi arg17 v186
  let v281 : Index := Scalar.indexCast v190
  ![v281.toNat]
def k0_cond3 (v192 : BitVec 32) : BitVec 1 :=
  let c0_i32_48 : BitVec 32 := 0#32
  let v193 : BitVec 1 := Scalar.cmpi .sgt v192 c0_i32_48
  let v194 : BitVec 32 := Scalar.extui v193
  let c0_i32_49 : BitVec 32 := 0#32
  let v195 : BitVec 1 := Scalar.cmpi .ne v194 c0_i32_49
  v195

def k0_chk6 (arg17 : BitVec 32) (v132 : BitVec 32) (v186 : BitVec 32) (v192 : BitVec 32) : Prop :=
  (∀ (k0_h1 : k0_cond1 v132 = 1#1), ∀ (k0_h3 : k0_cond3 v192 = 1#1), ∀ a, (k0_off8 arg17 v186) a + S16.size a ≤ S272.size a)
theorem k0_off8_inb : ∀ (arg17 : BitVec 32) (v132 : BitVec 32) (v186 : BitVec 32) (v192 : BitVec 32) (k0_hw6 : k0_chk6 arg17 v132 v186 v192), ∀ (k0_h1 : k0_cond1 v132 = 1#1), ∀ (k0_h3 : k0_cond3 v192 = 1#1), ∀ a, (k0_off8 arg17 v186) a + S16.size a ≤ S272.size a := fun arg17 v132 v186 v192 k0_hw6 k0_h1 k0_h3 => k0_hw6 k0_h1 k0_h3

def k0_off9 (arg17 : BitVec 32) (v186 : BitVec 32) (v192 : BitVec 32) : Fin 1 → Nat :=
  let v190 : BitVec 32 := Scalar.addi arg17 v186
  let v196 : BitVec 32 := Scalar.addi v190 v192
  let v281 : Index := Scalar.indexCast v196
  ![v281.toNat]
def k0_cond4 (v198 : BitVec 32) : BitVec 1 :=
  let c0_i32_50 : BitVec 32 := 0#32
  let v199 : BitVec 1 := Scalar.cmpi .sgt v198 c0_i32_50
  let v200 : BitVec 32 := Scalar.extui v199
  let c0_i32_51 : BitVec 32 := 0#32
  let v201 : BitVec 1 := Scalar.cmpi .ne v200 c0_i32_51
  v201

def k0_chk7 (arg17 : BitVec 32) (v132 : BitVec 32) (v186 : BitVec 32) (v192 : BitVec 32) (v198 : BitVec 32) : Prop :=
  (∀ (k0_h1 : k0_cond1 v132 = 1#1), ∀ (k0_h4 : k0_cond4 v198 = 1#1), ∀ a, (k0_off9 arg17 v186 v192) a + S16.size a ≤ S272.size a)
theorem k0_off9_inb : ∀ (arg17 : BitVec 32) (v132 : BitVec 32) (v186 : BitVec 32) (v192 : BitVec 32) (v198 : BitVec 32) (k0_hw7 : k0_chk7 arg17 v132 v186 v192 v198), ∀ (k0_h1 : k0_cond1 v132 = 1#1), ∀ (k0_h4 : k0_cond4 v198 = 1#1), ∀ a, (k0_off9 arg17 v186 v192) a + S16.size a ≤ S272.size a := fun arg17 v132 v186 v192 v198 k0_hw7 k0_h1 k0_h4 => k0_hw7 k0_h1 k0_h4

def k0_off10 (arg17 : BitVec 32) (v186 : BitVec 32) (v192 : BitVec 32) (v198 : BitVec 32) : Fin 1 → Nat :=
  let v190 : BitVec 32 := Scalar.addi arg17 v186
  let v196 : BitVec 32 := Scalar.addi v190 v192
  let v202 : BitVec 32 := Scalar.addi v196 v198
  let v281 : Index := Scalar.indexCast v202
  ![v281.toNat]
def k0_cond5 (v204 : BitVec 32) : BitVec 1 :=
  let c0_i32_52 : BitVec 32 := 0#32
  let v205 : BitVec 1 := Scalar.cmpi .sgt v204 c0_i32_52
  let v206 : BitVec 32 := Scalar.extui v205
  let c0_i32_53 : BitVec 32 := 0#32
  let v207 : BitVec 1 := Scalar.cmpi .ne v206 c0_i32_53
  v207

def k0_chk8 (arg17 : BitVec 32) (v132 : BitVec 32) (v186 : BitVec 32) (v192 : BitVec 32) (v198 : BitVec 32) (v204 : BitVec 32) : Prop :=
  (∀ (k0_h1 : k0_cond1 v132 = 1#1), ∀ (k0_h5 : k0_cond5 v204 = 1#1), ∀ a, (k0_off10 arg17 v186 v192 v198) a + S16.size a ≤ S272.size a)
theorem k0_off10_inb : ∀ (arg17 : BitVec 32) (v132 : BitVec 32) (v186 : BitVec 32) (v192 : BitVec 32) (v198 : BitVec 32) (v204 : BitVec 32) (k0_hw8 : k0_chk8 arg17 v132 v186 v192 v198 v204), ∀ (k0_h1 : k0_cond1 v132 = 1#1), ∀ (k0_h5 : k0_cond5 v204 = 1#1), ∀ a, (k0_off10 arg17 v186 v192 v198) a + S16.size a ≤ S272.size a := fun arg17 v132 v186 v192 v198 v204 k0_hw8 k0_h1 k0_h5 => k0_hw8 k0_h1 k0_h5

def k0_off11 (arg17 : BitVec 32) (v186 : BitVec 32) (v192 : BitVec 32) (v198 : BitVec 32) (v204 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v281 : Index := Scalar.indexCast v208
  ![v281.toNat]
def k0_cond6 (v210 : BitVec 32) : BitVec 1 :=
  let c0_i32_54 : BitVec 32 := 0#32
  let v211 : BitVec 1 := Scalar.cmpi .sgt v210 c0_i32_54
  let v212 : BitVec 32 := Scalar.extui v211
  let c0_i32_55 : BitVec 32 := 0#32
  let v213 : BitVec 1 := Scalar.cmpi .ne v212 c0_i32_55
  v213

def k0_chk9 (arg17 : BitVec 32) (v132 : BitVec 32) (v186 : BitVec 32) (v192 : BitVec 32) (v198 : BitVec 32) (v204 : BitVec 32) (v210 : BitVec 32) : Prop :=
  (∀ (k0_h1 : k0_cond1 v132 = 1#1), ∀ (k0_h6 : k0_cond6 v210 = 1#1), ∀ a, (k0_off11 arg17 v186 v192 v198 v204) a + S16.size a ≤ S272.size a)
theorem k0_off11_inb : ∀ (arg17 : BitVec 32) (v132 : BitVec 32) (v186 : BitVec 32) (v192 : BitVec 32) (v198 : BitVec 32) (v204 : BitVec 32) (v210 : BitVec 32) (k0_hw9 : k0_chk9 arg17 v132 v186 v192 v198 v204 v210), ∀ (k0_h1 : k0_cond1 v132 = 1#1), ∀ (k0_h6 : k0_cond6 v210 = 1#1), ∀ a, (k0_off11 arg17 v186 v192 v198 v204) a + S16.size a ≤ S272.size a := fun arg17 v132 v186 v192 v198 v204 v210 k0_hw9 k0_h1 k0_h6 => k0_hw9 k0_h1 k0_h6

def k0_off12 (arg17 : BitVec 32) (v186 : BitVec 32) (v192 : BitVec 32) (v198 : BitVec 32) (v204 : BitVec 32) (v210 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v214 : BitVec 32 := Scalar.addi v208 v210
  let v281 : Index := Scalar.indexCast v214
  ![v281.toNat]
def k0_cond7 (v216 : BitVec 32) : BitVec 1 :=
  let c0_i32_56 : BitVec 32 := 0#32
  let v217 : BitVec 1 := Scalar.cmpi .sgt v216 c0_i32_56
  let v218 : BitVec 32 := Scalar.extui v217
  let c0_i32_57 : BitVec 32 := 0#32
  let v219 : BitVec 1 := Scalar.cmpi .ne v218 c0_i32_57
  v219

def k0_chk10 (arg17 : BitVec 32) (v132 : BitVec 32) (v186 : BitVec 32) (v192 : BitVec 32) (v198 : BitVec 32) (v204 : BitVec 32) (v210 : BitVec 32) (v216 : BitVec 32) : Prop :=
  (∀ (k0_h1 : k0_cond1 v132 = 1#1), ∀ (k0_h7 : k0_cond7 v216 = 1#1), ∀ a, (k0_off12 arg17 v186 v192 v198 v204 v210) a + S16.size a ≤ S272.size a)
theorem k0_off12_inb : ∀ (arg17 : BitVec 32) (v132 : BitVec 32) (v186 : BitVec 32) (v192 : BitVec 32) (v198 : BitVec 32) (v204 : BitVec 32) (v210 : BitVec 32) (v216 : BitVec 32) (k0_hw10 : k0_chk10 arg17 v132 v186 v192 v198 v204 v210 v216), ∀ (k0_h1 : k0_cond1 v132 = 1#1), ∀ (k0_h7 : k0_cond7 v216 = 1#1), ∀ a, (k0_off12 arg17 v186 v192 v198 v204 v210) a + S16.size a ≤ S272.size a := fun arg17 v132 v186 v192 v198 v204 v210 v216 k0_hw10 k0_h1 k0_h7 => k0_hw10 k0_h1 k0_h7

def k0_off13 (arg17 : BitVec 32) (v186 : BitVec 32) (v192 : BitVec 32) (v198 : BitVec 32) (v204 : BitVec 32) (v210 : BitVec 32) (v216 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v281 : Index := Scalar.indexCast v220
  ![v281.toNat]
def k0_cond8 (v222 : BitVec 32) : BitVec 1 :=
  let c0_i32_58 : BitVec 32 := 0#32
  let v223 : BitVec 1 := Scalar.cmpi .sgt v222 c0_i32_58
  let v224 : BitVec 32 := Scalar.extui v223
  let c0_i32_59 : BitVec 32 := 0#32
  let v225 : BitVec 1 := Scalar.cmpi .ne v224 c0_i32_59
  v225

def k0_chk11 (arg17 : BitVec 32) (v132 : BitVec 32) (v186 : BitVec 32) (v192 : BitVec 32) (v198 : BitVec 32) (v204 : BitVec 32) (v210 : BitVec 32) (v216 : BitVec 32) (v222 : BitVec 32) : Prop :=
  (∀ (k0_h1 : k0_cond1 v132 = 1#1), ∀ (k0_h8 : k0_cond8 v222 = 1#1), ∀ a, (k0_off13 arg17 v186 v192 v198 v204 v210 v216) a + S16.size a ≤ S272.size a)
theorem k0_off13_inb : ∀ (arg17 : BitVec 32) (v132 : BitVec 32) (v186 : BitVec 32) (v192 : BitVec 32) (v198 : BitVec 32) (v204 : BitVec 32) (v210 : BitVec 32) (v216 : BitVec 32) (v222 : BitVec 32) (k0_hw11 : k0_chk11 arg17 v132 v186 v192 v198 v204 v210 v216 v222), ∀ (k0_h1 : k0_cond1 v132 = 1#1), ∀ (k0_h8 : k0_cond8 v222 = 1#1), ∀ a, (k0_off13 arg17 v186 v192 v198 v204 v210 v216) a + S16.size a ≤ S272.size a := fun arg17 v132 v186 v192 v198 v204 v210 v216 v222 k0_hw11 k0_h1 k0_h8 => k0_hw11 k0_h1 k0_h8

def k0_off14 (arg17 : BitVec 32) (v186 : BitVec 32) (v192 : BitVec 32) (v198 : BitVec 32) (v204 : BitVec 32) (v210 : BitVec 32) (v216 : BitVec 32) (v222 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v281 : Index := Scalar.indexCast v226
  ![v281.toNat]
def k0_cond9 (v228 : BitVec 32) : BitVec 1 :=
  let c0_i32_60 : BitVec 32 := 0#32
  let v229 : BitVec 1 := Scalar.cmpi .sgt v228 c0_i32_60
  let v230 : BitVec 32 := Scalar.extui v229
  let c0_i32_61 : BitVec 32 := 0#32
  let v231 : BitVec 1 := Scalar.cmpi .ne v230 c0_i32_61
  v231

def k0_chk12 (arg17 : BitVec 32) (v132 : BitVec 32) (v186 : BitVec 32) (v192 : BitVec 32) (v198 : BitVec 32) (v204 : BitVec 32) (v210 : BitVec 32) (v216 : BitVec 32) (v222 : BitVec 32) (v228 : BitVec 32) : Prop :=
  (∀ (k0_h1 : k0_cond1 v132 = 1#1), ∀ (k0_h9 : k0_cond9 v228 = 1#1), ∀ a, (k0_off14 arg17 v186 v192 v198 v204 v210 v216 v222) a + S16.size a ≤ S272.size a)
theorem k0_off14_inb : ∀ (arg17 : BitVec 32) (v132 : BitVec 32) (v186 : BitVec 32) (v192 : BitVec 32) (v198 : BitVec 32) (v204 : BitVec 32) (v210 : BitVec 32) (v216 : BitVec 32) (v222 : BitVec 32) (v228 : BitVec 32) (k0_hw12 : k0_chk12 arg17 v132 v186 v192 v198 v204 v210 v216 v222 v228), ∀ (k0_h1 : k0_cond1 v132 = 1#1), ∀ (k0_h9 : k0_cond9 v228 = 1#1), ∀ a, (k0_off14 arg17 v186 v192 v198 v204 v210 v216 v222) a + S16.size a ≤ S272.size a := fun arg17 v132 v186 v192 v198 v204 v210 v216 v222 v228 k0_hw12 k0_h1 k0_h9 => k0_hw12 k0_h1 k0_h9

def k0_off15 (arg17 : BitVec 32) (v186 : BitVec 32) (v192 : BitVec 32) (v198 : BitVec 32) (v204 : BitVec 32) (v210 : BitVec 32) (v216 : BitVec 32) (v222 : BitVec 32) (v228 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v281 : Index := Scalar.indexCast v232
  ![v281.toNat]
def k0_cond10 (v234 : BitVec 32) : BitVec 1 :=
  let c0_i32_62 : BitVec 32 := 0#32
  let v235 : BitVec 1 := Scalar.cmpi .sgt v234 c0_i32_62
  let v236 : BitVec 32 := Scalar.extui v235
  let c0_i32_63 : BitVec 32 := 0#32
  let v237 : BitVec 1 := Scalar.cmpi .ne v236 c0_i32_63
  v237

def k0_chk13 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) : Prop :=
  (∀ (k0_h1 : k0_cond1 v132 = 1#1), ∀ (k0_h10 : k0_cond10 v234 = 1#1), ∀ a, (k0_off15 arg17 v186 v192 v198 v204 v210 v216 v222 v228) a + S16.size a ≤ S272.size a)
theorem k0_off15_inb : ∀ (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (k0_hw13 : k0_chk13 arg17 v132 v186 v192 v198 v204 v210 v216 v222 v228 v234), ∀ (k0_h1 : k0_cond1 v132 = 1#1), ∀ (k0_h10 : k0_cond10 v234 = 1#1), ∀ a, (k0_off15 arg17 v186 v192 v198 v204 v210 v216 v222 v228) a + S16.size a ≤ S272.size a := fun arg17 v132 v186 v192 v198 v204 v210 v216 v222 v228 v234 k0_hw13 k0_h1 k0_h10 => k0_hw13 k0_h1 k0_h10

def k0_off16 (arg17 : BitVec 32) (v186 : BitVec 32) (v192 : BitVec 32) (v198 : BitVec 32) (v204 : BitVec 32) (v210 : BitVec 32) (v216 : BitVec 32) (v222 : BitVec 32) (v228 : BitVec 32) (v234 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v281 : Index := Scalar.indexCast v238
  ![v281.toNat]
def k0_cond11 (v240 : BitVec 32) : BitVec 1 :=
  let c0_i32_64 : BitVec 32 := 0#32
  let v241 : BitVec 1 := Scalar.cmpi .sgt v240 c0_i32_64
  let v242 : BitVec 32 := Scalar.extui v241
  let c0_i32_65 : BitVec 32 := 0#32
  let v243 : BitVec 1 := Scalar.cmpi .ne v242 c0_i32_65
  v243

def k0_chk14 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) : Prop :=
  (∀ (k0_h1 : k0_cond1 v132 = 1#1), ∀ (k0_h11 : k0_cond11 v240 = 1#1), ∀ a, (k0_off16 arg17 v186 v192 v198 v204 v210 v216 v222 v228 v234) a + S16.size a ≤ S272.size a)
theorem k0_off16_inb : ∀ (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (k0_hw14 : k0_chk14 arg17 v132 v186 v192 v198 v204 v210 v216 v222 v228 v234 v240), ∀ (k0_h1 : k0_cond1 v132 = 1#1), ∀ (k0_h11 : k0_cond11 v240 = 1#1), ∀ a, (k0_off16 arg17 v186 v192 v198 v204 v210 v216 v222 v228 v234) a + S16.size a ≤ S272.size a := fun arg17 v132 v186 v192 v198 v204 v210 v216 v222 v228 v234 v240 k0_hw14 k0_h1 k0_h11 => k0_hw14 k0_h1 k0_h11

def k0_off17 (arg17 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v281 : Index := Scalar.indexCast v244
  ![v281.toNat]
def k0_cond12 (v246 : BitVec 32) : BitVec 1 :=
  let c0_i32_66 : BitVec 32 := 0#32
  let v247 : BitVec 1 := Scalar.cmpi .sgt v246 c0_i32_66
  let v248 : BitVec 32 := Scalar.extui v247
  let c0_i32_67 : BitVec 32 := 0#32
  let v249 : BitVec 1 := Scalar.cmpi .ne v248 c0_i32_67
  v249

def k0_chk15 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) : Prop :=
  (∀ (k0_h1 : k0_cond1 v132 = 1#1), ∀ (k0_h12 : k0_cond12 v246 = 1#1), ∀ a, (k0_off17 arg17 v186 v192 v198 v204 v210 v216 v222 v228 v234 v240) a + S16.size a ≤ S272.size a)
theorem k0_off17_inb : ∀ (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (k0_hw15 : k0_chk15 arg17 v132 v186 v192 v198 v204 v210 v216 v222 v228 v234 v240 v246), ∀ (k0_h1 : k0_cond1 v132 = 1#1), ∀ (k0_h12 : k0_cond12 v246 = 1#1), ∀ a, (k0_off17 arg17 v186 v192 v198 v204 v210 v216 v222 v228 v234 v240) a + S16.size a ≤ S272.size a := fun arg17 v132 v186 v192 v198 v204 v210 v216 v222 v228 v234 v240 v246 k0_hw15 k0_h1 k0_h12 => k0_hw15 k0_h1 k0_h12

def k0_off18 (arg17 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v250 : BitVec 32 := Scalar.addi v244 v246
  let v281 : Index := Scalar.indexCast v250
  ![v281.toNat]
def k0_cond13 (v252 : BitVec 32) : BitVec 1 :=
  let c0_i32_68 : BitVec 32 := 0#32
  let v253 : BitVec 1 := Scalar.cmpi .sgt v252 c0_i32_68
  let v254 : BitVec 32 := Scalar.extui v253
  let c0_i32_69 : BitVec 32 := 0#32
  let v255 : BitVec 1 := Scalar.cmpi .ne v254 c0_i32_69
  v255

def k0_chk16 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) : Prop :=
  (∀ (k0_h1 : k0_cond1 v132 = 1#1), ∀ (k0_h13 : k0_cond13 v252 = 1#1), ∀ a, (k0_off18 arg17 v186 v192 v198 v204 v210 v216 v222 v228 v234 v240 v246) a + S16.size a ≤ S272.size a)
theorem k0_off18_inb : ∀ (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (k0_hw16 : k0_chk16 arg17 v132 v186 v192 v198 v204 v210 v216 v222 v228 v234 v240 v246 v252), ∀ (k0_h1 : k0_cond1 v132 = 1#1), ∀ (k0_h13 : k0_cond13 v252 = 1#1), ∀ a, (k0_off18 arg17 v186 v192 v198 v204 v210 v216 v222 v228 v234 v240 v246) a + S16.size a ≤ S272.size a := fun arg17 v132 v186 v192 v198 v204 v210 v216 v222 v228 v234 v240 v246 v252 k0_hw16 k0_h1 k0_h13 => k0_hw16 k0_h1 k0_h13

def k0_off19 (arg17 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v250 : BitVec 32 := Scalar.addi v244 v246
  let v256 : BitVec 32 := Scalar.addi v250 v252
  let v281 : Index := Scalar.indexCast v256
  ![v281.toNat]
def k0_cond14 (v258 : BitVec 32) : BitVec 1 :=
  let c0_i32_70 : BitVec 32 := 0#32
  let v259 : BitVec 1 := Scalar.cmpi .sgt v258 c0_i32_70
  let v260 : BitVec 32 := Scalar.extui v259
  let c0_i32_71 : BitVec 32 := 0#32
  let v261 : BitVec 1 := Scalar.cmpi .ne v260 c0_i32_71
  v261

def k0_chk17 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) : Prop :=
  (∀ (k0_h1 : k0_cond1 v132 = 1#1), ∀ (k0_h14 : k0_cond14 v258 = 1#1), ∀ a, (k0_off19 arg17 v186 v192 v198 v204 v210 v216 v222 v228 v234 v240 v246 v252) a + S16.size a ≤ S272.size a)
theorem k0_off19_inb : ∀ (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (k0_hw17 : k0_chk17 arg17 v132 v186 v192 v198 v204 v210 v216 v222 v228 v234 v240 v246 v252 v258), ∀ (k0_h1 : k0_cond1 v132 = 1#1), ∀ (k0_h14 : k0_cond14 v258 = 1#1), ∀ a, (k0_off19 arg17 v186 v192 v198 v204 v210 v216 v222 v228 v234 v240 v246 v252) a + S16.size a ≤ S272.size a := fun arg17 v132 v186 v192 v198 v204 v210 v216 v222 v228 v234 v240 v246 v252 v258 k0_hw17 k0_h1 k0_h14 => k0_hw17 k0_h1 k0_h14

def k0_off20 (arg17 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v250 : BitVec 32 := Scalar.addi v244 v246
  let v256 : BitVec 32 := Scalar.addi v250 v252
  let v262 : BitVec 32 := Scalar.addi v256 v258
  let v281 : Index := Scalar.indexCast v262
  ![v281.toNat]
def k0_cond15 (v264 : BitVec 32) : BitVec 1 :=
  let c0_i32_72 : BitVec 32 := 0#32
  let v265 : BitVec 1 := Scalar.cmpi .sgt v264 c0_i32_72
  let v266 : BitVec 32 := Scalar.extui v265
  let c0_i32_73 : BitVec 32 := 0#32
  let v267 : BitVec 1 := Scalar.cmpi .ne v266 c0_i32_73
  v267

def k0_chk18 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) : Prop :=
  (∀ (k0_h1 : k0_cond1 v132 = 1#1), ∀ (k0_h15 : k0_cond15 v264 = 1#1), ∀ a, (k0_off20 arg17 v186 v192 v198 v204 v210 v216 v222 v228 v234 v240 v246 v252 v258) a + S16.size a ≤ S272.size a)
theorem k0_off20_inb : ∀ (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (k0_hw18 : k0_chk18 arg17 v132 v186 v192 v198 v204 v210 v216 v222 v228 v234 v240 v246 v252 v258 v264), ∀ (k0_h1 : k0_cond1 v132 = 1#1), ∀ (k0_h15 : k0_cond15 v264 = 1#1), ∀ a, (k0_off20 arg17 v186 v192 v198 v204 v210 v216 v222 v228 v234 v240 v246 v252 v258) a + S16.size a ≤ S272.size a := fun arg17 v132 v186 v192 v198 v204 v210 v216 v222 v228 v234 v240 v246 v252 v258 v264 k0_hw18 k0_h1 k0_h15 => k0_hw18 k0_h1 k0_h15

def k0_off21 (arg17 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v250 : BitVec 32 := Scalar.addi v244 v246
  let v256 : BitVec 32 := Scalar.addi v250 v252
  let v262 : BitVec 32 := Scalar.addi v256 v258
  let v268 : BitVec 32 := Scalar.addi v262 v264
  let v281 : Index := Scalar.indexCast v268
  ![v281.toNat]
def k0_cond16 (v270 : BitVec 32) : BitVec 1 :=
  let c0_i32_74 : BitVec 32 := 0#32
  let v271 : BitVec 1 := Scalar.cmpi .sgt v270 c0_i32_74
  let v272 : BitVec 32 := Scalar.extui v271
  let c0_i32_75 : BitVec 32 := 0#32
  let v273 : BitVec 1 := Scalar.cmpi .ne v272 c0_i32_75
  v273

def k0_chk19 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (v270 : BitVec 32) : Prop :=
  (∀ (k0_h1 : k0_cond1 v132 = 1#1), ∀ (k0_h16 : k0_cond16 v270 = 1#1), ∀ a, (k0_off21 arg17 v186 v192 v198 v204 v210 v216 v222 v228 v234 v240 v246 v252 v258 v264) a + S16.size a ≤ S272.size a)
theorem k0_off21_inb : ∀ (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (v270 : BitVec 32) (k0_hw19 : k0_chk19 arg17 v132 v186 v192 v198 v204 v210 v216 v222 v228 v234 v240 v246 v252 v258 v264 v270), ∀ (k0_h1 : k0_cond1 v132 = 1#1), ∀ (k0_h16 : k0_cond16 v270 = 1#1), ∀ a, (k0_off21 arg17 v186 v192 v198 v204 v210 v216 v222 v228 v234 v240 v246 v252 v258 v264) a + S16.size a ≤ S272.size a := fun arg17 v132 v186 v192 v198 v204 v210 v216 v222 v228 v234 v240 v246 v252 v258 v264 v270 k0_hw19 k0_h1 k0_h16 => k0_hw19 k0_h1 k0_h16

def k0_off22 (arg17 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (v270 : BitVec 32) : Fin 1 → Nat :=
  let v190 : BitVec 32 := Scalar.addi arg17 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v250 : BitVec 32 := Scalar.addi v244 v246
  let v256 : BitVec 32 := Scalar.addi v250 v252
  let v262 : BitVec 32 := Scalar.addi v256 v258
  let v268 : BitVec 32 := Scalar.addi v262 v264
  let v274 : BitVec 32 := Scalar.addi v268 v270
  let v281 : Index := Scalar.indexCast v274
  ![v281.toNat]
def k0_cond17 (v276 : BitVec 32) : BitVec 1 :=
  let c0_i32_76 : BitVec 32 := 0#32
  let v277 : BitVec 1 := Scalar.cmpi .sgt v276 c0_i32_76
  let v278 : BitVec 32 := Scalar.extui v277
  let c0_i32_77 : BitVec 32 := 0#32
  let v279 : BitVec 1 := Scalar.cmpi .ne v278 c0_i32_77
  v279

def k0_chk20 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (v270 : BitVec 32) (v276 : BitVec 32) : Prop :=
  (∀ (k0_h1 : k0_cond1 v132 = 1#1), ∀ (k0_h17 : k0_cond17 v276 = 1#1), ∀ a, (k0_off22 arg17 v186 v192 v198 v204 v210 v216 v222 v228 v234 v240 v246 v252 v258 v264 v270) a + S16.size a ≤ S272.size a)
theorem k0_off22_inb : ∀ (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (v270 : BitVec 32) (v276 : BitVec 32) (k0_hw20 : k0_chk20 arg17 v132 v186 v192 v198 v204 v210 v216 v222 v228 v234 v240 v246 v252 v258 v264 v270 v276), ∀ (k0_h1 : k0_cond1 v132 = 1#1), ∀ (k0_h17 : k0_cond17 v276 = 1#1), ∀ a, (k0_off22 arg17 v186 v192 v198 v204 v210 v216 v222 v228 v234 v240 v246 v252 v258 v264 v270) a + S16.size a ≤ S272.size a := fun arg17 v132 v186 v192 v198 v204 v210 v216 v222 v228 v234 v240 v246 v252 v258 v264 v270 v276 k0_hw20 k0_h1 k0_h17 => k0_hw20 k0_h1 k0_h17

def k0_off23 (k0_t1 : Fin k0_t1_loop.trips) : Fin 1 → Nat :=
  let c0_i32_10 : BitVec 32 := 0#32
  let c1_i32 : BitVec 32 := 1#32
  let arg16 : BitVec 32 := Scf.iv c0_i32_10 c1_i32 k0_t1
  let c32_i32 : BitVec 32 := 32#32
  let v78 : BitVec 32 := Scalar.muli arg16 c32_i32
  let c16_i32 : BitVec 32 := 16#32
  let v79 : BitVec 32 := Scalar.addi v78 c16_i32
  let v144 : Index := Scalar.indexCast v79
  ![v144.toNat]

def k0_chk21 (v155 : IVec S16 32) : Prop :=
  (∀ a x, ((![v155] : Fin 1 → IVec S16 32) a x).toNat < S16.size a)
theorem k0_idx5_inb : ∀ (v155 : IVec S16 32) (k0_hw21 : k0_chk21 v155), ∀ a x, ((![v155] : Fin 1 → IVec S16 32) a x).toNat < S16.size a := fun v155 k0_hw21 => k0_hw21

def k0_chk22 (v162 : IVec S16 32) : Prop :=
  (∀ a x, ((![v162] : Fin 1 → IVec S16 32) a x).toNat < S16.size a)
theorem k0_idx6_inb : ∀ (v162 : IVec S16 32) (k0_hw22 : k0_chk22 v162), ∀ a x, ((![v162] : Fin 1 → IVec S16 32) a x).toNat < S16.size a := fun v162 k0_hw22 => k0_hw22

def k0_chk23 (v169 : IVec S16 32) : Prop :=
  (∀ a x, ((![v169] : Fin 1 → IVec S16 32) a x).toNat < S16.size a)
theorem k0_idx7_inb : ∀ (v169 : IVec S16 32) (k0_hw23 : k0_chk23 v169), ∀ a x, ((![v169] : Fin 1 → IVec S16 32) a x).toNat < S16.size a := fun v169 k0_hw23 => k0_hw23

def k0_chk24 (v176 : IVec S16 32) : Prop :=
  (∀ a x, ((![v176] : Fin 1 → IVec S16 32) a x).toNat < S16.size a)
theorem k0_idx8_inb : ∀ (v176 : IVec S16 32) (k0_hw24 : k0_chk24 v176), ∀ a x, ((![v176] : Fin 1 → IVec S16 32) a x).toNat < S16.size a := fun v176 k0_hw24 => k0_hw24
def k0_off24 (arg17 : BitVec 32) (v132 : BitVec 32) : Fin 1 → Nat :=
  let v136 : BitVec 32 := Scalar.addi arg17 v132
  let v281 : Index := Scalar.indexCast v136
  ![v281.toNat]
def k0_cond18 (v180 : BitVec 32) : BitVec 1 :=
  let c0_i32_44 : BitVec 32 := 0#32
  let v181 : BitVec 1 := Scalar.cmpi .sgt v180 c0_i32_44
  let v182 : BitVec 32 := Scalar.extui v181
  let c0_i32_45 : BitVec 32 := 0#32
  let v183 : BitVec 1 := Scalar.cmpi .ne v182 c0_i32_45
  v183

def k0_cond19 (v186 : BitVec 32) : BitVec 1 :=
  let c0_i32_46 : BitVec 32 := 0#32
  let v187 : BitVec 1 := Scalar.cmpi .sgt v186 c0_i32_46
  let v188 : BitVec 32 := Scalar.extui v187
  let c0_i32_47 : BitVec 32 := 0#32
  let v189 : BitVec 1 := Scalar.cmpi .ne v188 c0_i32_47
  v189

def k0_chk25 (arg17 : BitVec 32) (v132 : BitVec 32) (v180 : BitVec 32) (v186 : BitVec 32) : Prop :=
  (∀ (k0_h18 : k0_cond18 v180 = 1#1), ∀ (k0_h19 : k0_cond19 v186 = 1#1), ∀ a, (k0_off24 arg17 v132) a + S16.size a ≤ S272.size a)
theorem k0_off24_inb : ∀ (arg17 : BitVec 32) (v132 : BitVec 32) (v180 : BitVec 32) (v186 : BitVec 32) (k0_hw25 : k0_chk25 arg17 v132 v180 v186), ∀ (k0_h18 : k0_cond18 v180 = 1#1), ∀ (k0_h19 : k0_cond19 v186 = 1#1), ∀ a, (k0_off24 arg17 v132) a + S16.size a ≤ S272.size a := fun arg17 v132 v180 v186 k0_hw25 k0_h18 k0_h19 => k0_hw25 k0_h18 k0_h19

def k0_off25 (arg17 : BitVec 32) (v132 : BitVec 32) (v186 : BitVec 32) : Fin 1 → Nat :=
  let v136 : BitVec 32 := Scalar.addi arg17 v132
  let v190 : BitVec 32 := Scalar.addi v136 v186
  let v281 : Index := Scalar.indexCast v190
  ![v281.toNat]
def k0_cond20 (v192 : BitVec 32) : BitVec 1 :=
  let c0_i32_48 : BitVec 32 := 0#32
  let v193 : BitVec 1 := Scalar.cmpi .sgt v192 c0_i32_48
  let v194 : BitVec 32 := Scalar.extui v193
  let c0_i32_49 : BitVec 32 := 0#32
  let v195 : BitVec 1 := Scalar.cmpi .ne v194 c0_i32_49
  v195

def k0_chk26 (arg17 : BitVec 32) (v132 : BitVec 32) (v180 : BitVec 32) (v186 : BitVec 32) (v192 : BitVec 32) : Prop :=
  (∀ (k0_h18 : k0_cond18 v180 = 1#1), ∀ (k0_h20 : k0_cond20 v192 = 1#1), ∀ a, (k0_off25 arg17 v132 v186) a + S16.size a ≤ S272.size a)
theorem k0_off25_inb : ∀ (arg17 : BitVec 32) (v132 : BitVec 32) (v180 : BitVec 32) (v186 : BitVec 32) (v192 : BitVec 32) (k0_hw26 : k0_chk26 arg17 v132 v180 v186 v192), ∀ (k0_h18 : k0_cond18 v180 = 1#1), ∀ (k0_h20 : k0_cond20 v192 = 1#1), ∀ a, (k0_off25 arg17 v132 v186) a + S16.size a ≤ S272.size a := fun arg17 v132 v180 v186 v192 k0_hw26 k0_h18 k0_h20 => k0_hw26 k0_h18 k0_h20

def k0_off26 (arg17 : BitVec 32) (v132 : BitVec 32) (v186 : BitVec 32) (v192 : BitVec 32) : Fin 1 → Nat :=
  let v136 : BitVec 32 := Scalar.addi arg17 v132
  let v190 : BitVec 32 := Scalar.addi v136 v186
  let v196 : BitVec 32 := Scalar.addi v190 v192
  let v281 : Index := Scalar.indexCast v196
  ![v281.toNat]
def k0_cond21 (v198 : BitVec 32) : BitVec 1 :=
  let c0_i32_50 : BitVec 32 := 0#32
  let v199 : BitVec 1 := Scalar.cmpi .sgt v198 c0_i32_50
  let v200 : BitVec 32 := Scalar.extui v199
  let c0_i32_51 : BitVec 32 := 0#32
  let v201 : BitVec 1 := Scalar.cmpi .ne v200 c0_i32_51
  v201

def k0_chk27 (arg17 : BitVec 32) (v132 : BitVec 32) (v180 : BitVec 32) (v186 : BitVec 32) (v192 : BitVec 32) (v198 : BitVec 32) : Prop :=
  (∀ (k0_h18 : k0_cond18 v180 = 1#1), ∀ (k0_h21 : k0_cond21 v198 = 1#1), ∀ a, (k0_off26 arg17 v132 v186 v192) a + S16.size a ≤ S272.size a)
theorem k0_off26_inb : ∀ (arg17 : BitVec 32) (v132 : BitVec 32) (v180 : BitVec 32) (v186 : BitVec 32) (v192 : BitVec 32) (v198 : BitVec 32) (k0_hw27 : k0_chk27 arg17 v132 v180 v186 v192 v198), ∀ (k0_h18 : k0_cond18 v180 = 1#1), ∀ (k0_h21 : k0_cond21 v198 = 1#1), ∀ a, (k0_off26 arg17 v132 v186 v192) a + S16.size a ≤ S272.size a := fun arg17 v132 v180 v186 v192 v198 k0_hw27 k0_h18 k0_h21 => k0_hw27 k0_h18 k0_h21

def k0_off27 (arg17 : BitVec 32) (v132 : BitVec 32) (v186 : BitVec 32) (v192 : BitVec 32) (v198 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v281 : Index := Scalar.indexCast v202
  ![v281.toNat]
def k0_cond22 (v204 : BitVec 32) : BitVec 1 :=
  let c0_i32_52 : BitVec 32 := 0#32
  let v205 : BitVec 1 := Scalar.cmpi .sgt v204 c0_i32_52
  let v206 : BitVec 32 := Scalar.extui v205
  let c0_i32_53 : BitVec 32 := 0#32
  let v207 : BitVec 1 := Scalar.cmpi .ne v206 c0_i32_53
  v207

def k0_chk28 (arg17 : BitVec 32) (v132 : BitVec 32) (v180 : BitVec 32) (v186 : BitVec 32) (v192 : BitVec 32) (v198 : BitVec 32) (v204 : BitVec 32) : Prop :=
  (∀ (k0_h18 : k0_cond18 v180 = 1#1), ∀ (k0_h22 : k0_cond22 v204 = 1#1), ∀ a, (k0_off27 arg17 v132 v186 v192 v198) a + S16.size a ≤ S272.size a)
theorem k0_off27_inb : ∀ (arg17 : BitVec 32) (v132 : BitVec 32) (v180 : BitVec 32) (v186 : BitVec 32) (v192 : BitVec 32) (v198 : BitVec 32) (v204 : BitVec 32) (k0_hw28 : k0_chk28 arg17 v132 v180 v186 v192 v198 v204), ∀ (k0_h18 : k0_cond18 v180 = 1#1), ∀ (k0_h22 : k0_cond22 v204 = 1#1), ∀ a, (k0_off27 arg17 v132 v186 v192 v198) a + S16.size a ≤ S272.size a := fun arg17 v132 v180 v186 v192 v198 v204 k0_hw28 k0_h18 k0_h22 => k0_hw28 k0_h18 k0_h22

def k0_off28 (arg17 : BitVec 32) (v132 : BitVec 32) (v186 : BitVec 32) (v192 : BitVec 32) (v198 : BitVec 32) (v204 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v281 : Index := Scalar.indexCast v208
  ![v281.toNat]
def k0_cond23 (v210 : BitVec 32) : BitVec 1 :=
  let c0_i32_54 : BitVec 32 := 0#32
  let v211 : BitVec 1 := Scalar.cmpi .sgt v210 c0_i32_54
  let v212 : BitVec 32 := Scalar.extui v211
  let c0_i32_55 : BitVec 32 := 0#32
  let v213 : BitVec 1 := Scalar.cmpi .ne v212 c0_i32_55
  v213

def k0_chk29 (arg17 : BitVec 32) (v132 : BitVec 32) (v180 : BitVec 32) (v186 : BitVec 32) (v192 : BitVec 32) (v198 : BitVec 32) (v204 : BitVec 32) (v210 : BitVec 32) : Prop :=
  (∀ (k0_h18 : k0_cond18 v180 = 1#1), ∀ (k0_h23 : k0_cond23 v210 = 1#1), ∀ a, (k0_off28 arg17 v132 v186 v192 v198 v204) a + S16.size a ≤ S272.size a)
theorem k0_off28_inb : ∀ (arg17 : BitVec 32) (v132 : BitVec 32) (v180 : BitVec 32) (v186 : BitVec 32) (v192 : BitVec 32) (v198 : BitVec 32) (v204 : BitVec 32) (v210 : BitVec 32) (k0_hw29 : k0_chk29 arg17 v132 v180 v186 v192 v198 v204 v210), ∀ (k0_h18 : k0_cond18 v180 = 1#1), ∀ (k0_h23 : k0_cond23 v210 = 1#1), ∀ a, (k0_off28 arg17 v132 v186 v192 v198 v204) a + S16.size a ≤ S272.size a := fun arg17 v132 v180 v186 v192 v198 v204 v210 k0_hw29 k0_h18 k0_h23 => k0_hw29 k0_h18 k0_h23

def k0_off29 (arg17 : BitVec 32) (v132 : BitVec 32) (v186 : BitVec 32) (v192 : BitVec 32) (v198 : BitVec 32) (v204 : BitVec 32) (v210 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v214 : BitVec 32 := Scalar.addi v208 v210
  let v281 : Index := Scalar.indexCast v214
  ![v281.toNat]
def k0_cond24 (v216 : BitVec 32) : BitVec 1 :=
  let c0_i32_56 : BitVec 32 := 0#32
  let v217 : BitVec 1 := Scalar.cmpi .sgt v216 c0_i32_56
  let v218 : BitVec 32 := Scalar.extui v217
  let c0_i32_57 : BitVec 32 := 0#32
  let v219 : BitVec 1 := Scalar.cmpi .ne v218 c0_i32_57
  v219

def k0_chk30 (arg17 : BitVec 32) (v132 : BitVec 32) (v180 : BitVec 32) (v186 : BitVec 32) (v192 : BitVec 32) (v198 : BitVec 32) (v204 : BitVec 32) (v210 : BitVec 32) (v216 : BitVec 32) : Prop :=
  (∀ (k0_h18 : k0_cond18 v180 = 1#1), ∀ (k0_h24 : k0_cond24 v216 = 1#1), ∀ a, (k0_off29 arg17 v132 v186 v192 v198 v204 v210) a + S16.size a ≤ S272.size a)
theorem k0_off29_inb : ∀ (arg17 : BitVec 32) (v132 : BitVec 32) (v180 : BitVec 32) (v186 : BitVec 32) (v192 : BitVec 32) (v198 : BitVec 32) (v204 : BitVec 32) (v210 : BitVec 32) (v216 : BitVec 32) (k0_hw30 : k0_chk30 arg17 v132 v180 v186 v192 v198 v204 v210 v216), ∀ (k0_h18 : k0_cond18 v180 = 1#1), ∀ (k0_h24 : k0_cond24 v216 = 1#1), ∀ a, (k0_off29 arg17 v132 v186 v192 v198 v204 v210) a + S16.size a ≤ S272.size a := fun arg17 v132 v180 v186 v192 v198 v204 v210 v216 k0_hw30 k0_h18 k0_h24 => k0_hw30 k0_h18 k0_h24

def k0_off30 (arg17 : BitVec 32) (v132 : BitVec 32) (v186 : BitVec 32) (v192 : BitVec 32) (v198 : BitVec 32) (v204 : BitVec 32) (v210 : BitVec 32) (v216 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v281 : Index := Scalar.indexCast v220
  ![v281.toNat]
def k0_cond25 (v222 : BitVec 32) : BitVec 1 :=
  let c0_i32_58 : BitVec 32 := 0#32
  let v223 : BitVec 1 := Scalar.cmpi .sgt v222 c0_i32_58
  let v224 : BitVec 32 := Scalar.extui v223
  let c0_i32_59 : BitVec 32 := 0#32
  let v225 : BitVec 1 := Scalar.cmpi .ne v224 c0_i32_59
  v225

def k0_chk31 (arg17 : BitVec 32) (v132 : BitVec 32) (v180 : BitVec 32) (v186 : BitVec 32) (v192 : BitVec 32) (v198 : BitVec 32) (v204 : BitVec 32) (v210 : BitVec 32) (v216 : BitVec 32) (v222 : BitVec 32) : Prop :=
  (∀ (k0_h18 : k0_cond18 v180 = 1#1), ∀ (k0_h25 : k0_cond25 v222 = 1#1), ∀ a, (k0_off30 arg17 v132 v186 v192 v198 v204 v210 v216) a + S16.size a ≤ S272.size a)
theorem k0_off30_inb : ∀ (arg17 : BitVec 32) (v132 : BitVec 32) (v180 : BitVec 32) (v186 : BitVec 32) (v192 : BitVec 32) (v198 : BitVec 32) (v204 : BitVec 32) (v210 : BitVec 32) (v216 : BitVec 32) (v222 : BitVec 32) (k0_hw31 : k0_chk31 arg17 v132 v180 v186 v192 v198 v204 v210 v216 v222), ∀ (k0_h18 : k0_cond18 v180 = 1#1), ∀ (k0_h25 : k0_cond25 v222 = 1#1), ∀ a, (k0_off30 arg17 v132 v186 v192 v198 v204 v210 v216) a + S16.size a ≤ S272.size a := fun arg17 v132 v180 v186 v192 v198 v204 v210 v216 v222 k0_hw31 k0_h18 k0_h25 => k0_hw31 k0_h18 k0_h25

def k0_off31 (arg17 : BitVec 32) (v132 : BitVec 32) (v186 : BitVec 32) (v192 : BitVec 32) (v198 : BitVec 32) (v204 : BitVec 32) (v210 : BitVec 32) (v216 : BitVec 32) (v222 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v281 : Index := Scalar.indexCast v226
  ![v281.toNat]
def k0_cond26 (v228 : BitVec 32) : BitVec 1 :=
  let c0_i32_60 : BitVec 32 := 0#32
  let v229 : BitVec 1 := Scalar.cmpi .sgt v228 c0_i32_60
  let v230 : BitVec 32 := Scalar.extui v229
  let c0_i32_61 : BitVec 32 := 0#32
  let v231 : BitVec 1 := Scalar.cmpi .ne v230 c0_i32_61
  v231

def k0_chk32 (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) : Prop :=
  (∀ (k0_h18 : k0_cond18 v180 = 1#1), ∀ (k0_h26 : k0_cond26 v228 = 1#1), ∀ a, (k0_off31 arg17 v132 v186 v192 v198 v204 v210 v216 v222) a + S16.size a ≤ S272.size a)
theorem k0_off31_inb : ∀ (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (k0_hw32 : k0_chk32 arg17 v132 v180 v186 v192 v198 v204 v210 v216 v222 v228), ∀ (k0_h18 : k0_cond18 v180 = 1#1), ∀ (k0_h26 : k0_cond26 v228 = 1#1), ∀ a, (k0_off31 arg17 v132 v186 v192 v198 v204 v210 v216 v222) a + S16.size a ≤ S272.size a := fun arg17 v132 v180 v186 v192 v198 v204 v210 v216 v222 v228 k0_hw32 k0_h18 k0_h26 => k0_hw32 k0_h18 k0_h26

def k0_off32 (arg17 : BitVec 32) (v132 : BitVec 32) (v186 : BitVec 32) (v192 : BitVec 32) (v198 : BitVec 32) (v204 : BitVec 32) (v210 : BitVec 32) (v216 : BitVec 32) (v222 : BitVec 32) (v228 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v281 : Index := Scalar.indexCast v232
  ![v281.toNat]
def k0_cond27 (v234 : BitVec 32) : BitVec 1 :=
  let c0_i32_62 : BitVec 32 := 0#32
  let v235 : BitVec 1 := Scalar.cmpi .sgt v234 c0_i32_62
  let v236 : BitVec 32 := Scalar.extui v235
  let c0_i32_63 : BitVec 32 := 0#32
  let v237 : BitVec 1 := Scalar.cmpi .ne v236 c0_i32_63
  v237

def k0_chk33 (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) : Prop :=
  (∀ (k0_h18 : k0_cond18 v180 = 1#1), ∀ (k0_h27 : k0_cond27 v234 = 1#1), ∀ a, (k0_off32 arg17 v132 v186 v192 v198 v204 v210 v216 v222 v228) a + S16.size a ≤ S272.size a)
theorem k0_off32_inb : ∀ (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (k0_hw33 : k0_chk33 arg17 v132 v180 v186 v192 v198 v204 v210 v216 v222 v228 v234), ∀ (k0_h18 : k0_cond18 v180 = 1#1), ∀ (k0_h27 : k0_cond27 v234 = 1#1), ∀ a, (k0_off32 arg17 v132 v186 v192 v198 v204 v210 v216 v222 v228) a + S16.size a ≤ S272.size a := fun arg17 v132 v180 v186 v192 v198 v204 v210 v216 v222 v228 v234 k0_hw33 k0_h18 k0_h27 => k0_hw33 k0_h18 k0_h27

def k0_off33 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v281 : Index := Scalar.indexCast v238
  ![v281.toNat]
def k0_cond28 (v240 : BitVec 32) : BitVec 1 :=
  let c0_i32_64 : BitVec 32 := 0#32
  let v241 : BitVec 1 := Scalar.cmpi .sgt v240 c0_i32_64
  let v242 : BitVec 32 := Scalar.extui v241
  let c0_i32_65 : BitVec 32 := 0#32
  let v243 : BitVec 1 := Scalar.cmpi .ne v242 c0_i32_65
  v243

def k0_chk34 (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) : Prop :=
  (∀ (k0_h18 : k0_cond18 v180 = 1#1), ∀ (k0_h28 : k0_cond28 v240 = 1#1), ∀ a, (k0_off33 arg17 v132 v186 v192 v198 v204 v210 v216 v222 v228 v234) a + S16.size a ≤ S272.size a)
theorem k0_off33_inb : ∀ (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (k0_hw34 : k0_chk34 arg17 v132 v180 v186 v192 v198 v204 v210 v216 v222 v228 v234 v240), ∀ (k0_h18 : k0_cond18 v180 = 1#1), ∀ (k0_h28 : k0_cond28 v240 = 1#1), ∀ a, (k0_off33 arg17 v132 v186 v192 v198 v204 v210 v216 v222 v228 v234) a + S16.size a ≤ S272.size a := fun arg17 v132 v180 v186 v192 v198 v204 v210 v216 v222 v228 v234 v240 k0_hw34 k0_h18 k0_h28 => k0_hw34 k0_h18 k0_h28

def k0_off34 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v281 : Index := Scalar.indexCast v244
  ![v281.toNat]
def k0_cond29 (v246 : BitVec 32) : BitVec 1 :=
  let c0_i32_66 : BitVec 32 := 0#32
  let v247 : BitVec 1 := Scalar.cmpi .sgt v246 c0_i32_66
  let v248 : BitVec 32 := Scalar.extui v247
  let c0_i32_67 : BitVec 32 := 0#32
  let v249 : BitVec 1 := Scalar.cmpi .ne v248 c0_i32_67
  v249

def k0_chk35 (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) : Prop :=
  (∀ (k0_h18 : k0_cond18 v180 = 1#1), ∀ (k0_h29 : k0_cond29 v246 = 1#1), ∀ a, (k0_off34 arg17 v132 v186 v192 v198 v204 v210 v216 v222 v228 v234 v240) a + S16.size a ≤ S272.size a)
theorem k0_off34_inb : ∀ (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (k0_hw35 : k0_chk35 arg17 v132 v180 v186 v192 v198 v204 v210 v216 v222 v228 v234 v240 v246), ∀ (k0_h18 : k0_cond18 v180 = 1#1), ∀ (k0_h29 : k0_cond29 v246 = 1#1), ∀ a, (k0_off34 arg17 v132 v186 v192 v198 v204 v210 v216 v222 v228 v234 v240) a + S16.size a ≤ S272.size a := fun arg17 v132 v180 v186 v192 v198 v204 v210 v216 v222 v228 v234 v240 v246 k0_hw35 k0_h18 k0_h29 => k0_hw35 k0_h18 k0_h29

def k0_off35 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v250 : BitVec 32 := Scalar.addi v244 v246
  let v281 : Index := Scalar.indexCast v250
  ![v281.toNat]
def k0_cond30 (v252 : BitVec 32) : BitVec 1 :=
  let c0_i32_68 : BitVec 32 := 0#32
  let v253 : BitVec 1 := Scalar.cmpi .sgt v252 c0_i32_68
  let v254 : BitVec 32 := Scalar.extui v253
  let c0_i32_69 : BitVec 32 := 0#32
  let v255 : BitVec 1 := Scalar.cmpi .ne v254 c0_i32_69
  v255

def k0_chk36 (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) : Prop :=
  (∀ (k0_h18 : k0_cond18 v180 = 1#1), ∀ (k0_h30 : k0_cond30 v252 = 1#1), ∀ a, (k0_off35 arg17 v132 v186 v192 v198 v204 v210 v216 v222 v228 v234 v240 v246) a + S16.size a ≤ S272.size a)
theorem k0_off35_inb : ∀ (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (k0_hw36 : k0_chk36 arg17 v132 v180 v186 v192 v198 v204 v210 v216 v222 v228 v234 v240 v246 v252), ∀ (k0_h18 : k0_cond18 v180 = 1#1), ∀ (k0_h30 : k0_cond30 v252 = 1#1), ∀ a, (k0_off35 arg17 v132 v186 v192 v198 v204 v210 v216 v222 v228 v234 v240 v246) a + S16.size a ≤ S272.size a := fun arg17 v132 v180 v186 v192 v198 v204 v210 v216 v222 v228 v234 v240 v246 v252 k0_hw36 k0_h18 k0_h30 => k0_hw36 k0_h18 k0_h30

def k0_off36 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v250 : BitVec 32 := Scalar.addi v244 v246
  let v256 : BitVec 32 := Scalar.addi v250 v252
  let v281 : Index := Scalar.indexCast v256
  ![v281.toNat]
def k0_cond31 (v258 : BitVec 32) : BitVec 1 :=
  let c0_i32_70 : BitVec 32 := 0#32
  let v259 : BitVec 1 := Scalar.cmpi .sgt v258 c0_i32_70
  let v260 : BitVec 32 := Scalar.extui v259
  let c0_i32_71 : BitVec 32 := 0#32
  let v261 : BitVec 1 := Scalar.cmpi .ne v260 c0_i32_71
  v261

def k0_chk37 (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) : Prop :=
  (∀ (k0_h18 : k0_cond18 v180 = 1#1), ∀ (k0_h31 : k0_cond31 v258 = 1#1), ∀ a, (k0_off36 arg17 v132 v186 v192 v198 v204 v210 v216 v222 v228 v234 v240 v246 v252) a + S16.size a ≤ S272.size a)
theorem k0_off36_inb : ∀ (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (k0_hw37 : k0_chk37 arg17 v132 v180 v186 v192 v198 v204 v210 v216 v222 v228 v234 v240 v246 v252 v258), ∀ (k0_h18 : k0_cond18 v180 = 1#1), ∀ (k0_h31 : k0_cond31 v258 = 1#1), ∀ a, (k0_off36 arg17 v132 v186 v192 v198 v204 v210 v216 v222 v228 v234 v240 v246 v252) a + S16.size a ≤ S272.size a := fun arg17 v132 v180 v186 v192 v198 v204 v210 v216 v222 v228 v234 v240 v246 v252 v258 k0_hw37 k0_h18 k0_h31 => k0_hw37 k0_h18 k0_h31

def k0_off37 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v250 : BitVec 32 := Scalar.addi v244 v246
  let v256 : BitVec 32 := Scalar.addi v250 v252
  let v262 : BitVec 32 := Scalar.addi v256 v258
  let v281 : Index := Scalar.indexCast v262
  ![v281.toNat]
def k0_cond32 (v264 : BitVec 32) : BitVec 1 :=
  let c0_i32_72 : BitVec 32 := 0#32
  let v265 : BitVec 1 := Scalar.cmpi .sgt v264 c0_i32_72
  let v266 : BitVec 32 := Scalar.extui v265
  let c0_i32_73 : BitVec 32 := 0#32
  let v267 : BitVec 1 := Scalar.cmpi .ne v266 c0_i32_73
  v267

def k0_chk38 (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) : Prop :=
  (∀ (k0_h18 : k0_cond18 v180 = 1#1), ∀ (k0_h32 : k0_cond32 v264 = 1#1), ∀ a, (k0_off37 arg17 v132 v186 v192 v198 v204 v210 v216 v222 v228 v234 v240 v246 v252 v258) a + S16.size a ≤ S272.size a)
theorem k0_off37_inb : ∀ (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (k0_hw38 : k0_chk38 arg17 v132 v180 v186 v192 v198 v204 v210 v216 v222 v228 v234 v240 v246 v252 v258 v264), ∀ (k0_h18 : k0_cond18 v180 = 1#1), ∀ (k0_h32 : k0_cond32 v264 = 1#1), ∀ a, (k0_off37 arg17 v132 v186 v192 v198 v204 v210 v216 v222 v228 v234 v240 v246 v252 v258) a + S16.size a ≤ S272.size a := fun arg17 v132 v180 v186 v192 v198 v204 v210 v216 v222 v228 v234 v240 v246 v252 v258 v264 k0_hw38 k0_h18 k0_h32 => k0_hw38 k0_h18 k0_h32

def k0_off38 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v250 : BitVec 32 := Scalar.addi v244 v246
  let v256 : BitVec 32 := Scalar.addi v250 v252
  let v262 : BitVec 32 := Scalar.addi v256 v258
  let v268 : BitVec 32 := Scalar.addi v262 v264
  let v281 : Index := Scalar.indexCast v268
  ![v281.toNat]
def k0_cond33 (v270 : BitVec 32) : BitVec 1 :=
  let c0_i32_74 : BitVec 32 := 0#32
  let v271 : BitVec 1 := Scalar.cmpi .sgt v270 c0_i32_74
  let v272 : BitVec 32 := Scalar.extui v271
  let c0_i32_75 : BitVec 32 := 0#32
  let v273 : BitVec 1 := Scalar.cmpi .ne v272 c0_i32_75
  v273

def k0_chk39 (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (v270 : BitVec 32) : Prop :=
  (∀ (k0_h18 : k0_cond18 v180 = 1#1), ∀ (k0_h33 : k0_cond33 v270 = 1#1), ∀ a, (k0_off38 arg17 v132 v186 v192 v198 v204 v210 v216 v222 v228 v234 v240 v246 v252 v258 v264) a + S16.size a ≤ S272.size a)
theorem k0_off38_inb : ∀ (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (v270 : BitVec 32) (k0_hw39 : k0_chk39 arg17 v132 v180 v186 v192 v198 v204 v210 v216 v222 v228 v234 v240 v246 v252 v258 v264 v270), ∀ (k0_h18 : k0_cond18 v180 = 1#1), ∀ (k0_h33 : k0_cond33 v270 = 1#1), ∀ a, (k0_off38 arg17 v132 v186 v192 v198 v204 v210 v216 v222 v228 v234 v240 v246 v252 v258 v264) a + S16.size a ≤ S272.size a := fun arg17 v132 v180 v186 v192 v198 v204 v210 v216 v222 v228 v234 v240 v246 v252 v258 v264 v270 k0_hw39 k0_h18 k0_h33 => k0_hw39 k0_h18 k0_h33

def k0_off39 (arg17 : BitVec 32) (v132 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (v270 : BitVec 32) : Fin 1 → Nat :=
  let v136 : BitVec 32 := Scalar.addi arg17 v132
  let v190 : BitVec 32 := Scalar.addi v136 v186
  let v196 : BitVec 32 := Scalar.addi v190 v192
  let v202 : BitVec 32 := Scalar.addi v196 v198
  let v208 : BitVec 32 := Scalar.addi v202 v204
  let v214 : BitVec 32 := Scalar.addi v208 v210
  let v220 : BitVec 32 := Scalar.addi v214 v216
  let v226 : BitVec 32 := Scalar.addi v220 v222
  let v232 : BitVec 32 := Scalar.addi v226 v228
  let v238 : BitVec 32 := Scalar.addi v232 v234
  let v244 : BitVec 32 := Scalar.addi v238 v240
  let v250 : BitVec 32 := Scalar.addi v244 v246
  let v256 : BitVec 32 := Scalar.addi v250 v252
  let v262 : BitVec 32 := Scalar.addi v256 v258
  let v268 : BitVec 32 := Scalar.addi v262 v264
  let v274 : BitVec 32 := Scalar.addi v268 v270
  let v281 : Index := Scalar.indexCast v274
  ![v281.toNat]
def k0_cond34 (v276 : BitVec 32) : BitVec 1 :=
  let c0_i32_76 : BitVec 32 := 0#32
  let v277 : BitVec 1 := Scalar.cmpi .sgt v276 c0_i32_76
  let v278 : BitVec 32 := Scalar.extui v277
  let c0_i32_77 : BitVec 32 := 0#32
  let v279 : BitVec 1 := Scalar.cmpi .ne v278 c0_i32_77
  v279

def k0_chk40 (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (v270 : BitVec 32) (v276 : BitVec 32) : Prop :=
  (∀ (k0_h18 : k0_cond18 v180 = 1#1), ∀ (k0_h34 : k0_cond34 v276 = 1#1), ∀ a, (k0_off39 arg17 v132 v186 v192 v198 v204 v210 v216 v222 v228 v234 v240 v246 v252 v258 v264 v270) a + S16.size a ≤ S272.size a)
theorem k0_off39_inb : ∀ (arg17 : BitVec 32) (v132 : BitVec 32) (v180 : BitVec 32) (v186 : BitVec 32) (v192 : BitVec 32) (v198 : BitVec 32) (v204 : BitVec 32) (v210 : BitVec 32) (v216 : BitVec 32) (v222 : BitVec 32) (v228 : BitVec 32) (v234 : BitVec 32) (v240 : BitVec 32) (v246 : BitVec 32) (v252 : BitVec 32) (v258 : BitVec 32) (v264 : BitVec 32) (v270 : BitVec 32) (v276 : BitVec 32) (k0_hw40 : k0_chk40 arg17 v132 v180 v186 v192 v198 v204 v210 v216 v222 v228 v234 v240 v246 v252 v258 v264 v270 v276), ∀ (k0_h18 : k0_cond18 v180 = 1#1), ∀ (k0_h34 : k0_cond34 v276 = 1#1), ∀ a, (k0_off39 arg17 v132 v186 v192 v198 v204 v210 v216 v222 v228 v234 v240 v246 v252 v258 v264 v270) a + S16.size a ≤ S272.size a := fun arg17 v132 v180 v186 v192 v198 v204 v210 v216 v222 v228 v234 v240 v246 v252 v258 v264 v270 v276 k0_hw40 k0_h18 k0_h34 => k0_hw40 k0_h18 k0_h34

@[reducible] def k0_t3_loop (v74 : BitVec 32) : Scf.Loop 32 :=
  let c0_i32_21 : BitVec 32 := 0#32
  let c15_i32 : BitVec 32 := 15#32
  let v78 : BitVec 32 := Scalar.addi v74 c15_i32
  let c0_i32_14 : BitVec 32 := 0#32
  let v80 : BitVec 1 := Scalar.cmpi .sgt v78 c0_i32_14
  let v81 : BitVec 32 := Scalar.extui v80
  let c0_i32_15 : BitVec 32 := 0#32
  let v82 : BitVec 1 := Scalar.cmpi .slt v78 c0_i32_15
  let v83 : BitVec 32 := Scalar.extui v82
  let v84 : BitVec 32 := Scalar.subi v81 v83
  let c16_i32 : BitVec 32 := 16#32
  let c0_i32_16 : BitVec 32 := 0#32
  let v85 : BitVec 1 := Scalar.cmpi .sgt c16_i32 c0_i32_16
  let v86 : BitVec 32 := Scalar.extui v85
  let c0_i32_17 : BitVec 32 := 0#32
  let v87 : BitVec 1 := Scalar.cmpi .slt c16_i32 c0_i32_17
  let v88 : BitVec 32 := Scalar.extui v87
  let v89 : BitVec 32 := Scalar.subi v86 v88
  let v90 : BitVec 1 := Scalar.cmpi .ne v84 v89
  let v91 : BitVec 32 := Scalar.remsi v78 c16_i32
  let c0_i32_18 : BitVec 32 := 0#32
  let v92 : BitVec 1 := Scalar.cmpi .ne v91 c0_i32_18
  let v93 : BitVec 1 := Scalar.andi v90 v92
  let v79 : BitVec 32 := Scalar.divsi v78 c16_i32
  let c1_i32_19 : BitVec 32 := 1#32
  let v94 : BitVec 32 := Scalar.subi v79 c1_i32_19
  let v95 : BitVec 32 := Scalar.select v93 v94 v79
  let v96 : BitVec 32 := Scalar.subi v95 c0_i32_21
  let c1_i32_22 : BitVec 32 := 1#32
  let v98 : BitVec 32 := Scalar.divsi v96 c1_i32_22
  let v99 : BitVec 32 := Scalar.muli v98 c1_i32_22
  let v100 : BitVec 32 := Scalar.addi c0_i32_21 v99
  let c1_i32_23 : BitVec 32 := 1#32
  ⟨c0_i32_21, v100, c1_i32_23⟩
def k0_cond35 (v74 : BitVec 32) : BitVec 1 :=
  let c0_i32_12 : BitVec 32 := 0#32
  let v75 : BitVec 1 := Scalar.cmpi .sgt v74 c0_i32_12
  let v76 : BitVec 32 := Scalar.extui v75
  let c0_i32_13 : BitVec 32 := 0#32
  let v77 : BitVec 1 := Scalar.cmpi .ne v76 c0_i32_13
  v77

@[reducible] def k0_t4_loop : Scf.Loop 32 :=
  let c0_i32_26 : BitVec 32 := 0#32
  let c16_i32_27 : BitVec 32 := 16#32
  let v101 : BitVec 32 := Scalar.addi c0_i32_26 c16_i32_27
  let c1_i32_28 : BitVec 32 := 1#32
  ⟨c0_i32_26, v101, c1_i32_28⟩
def k0_mult1 (k0_t4 : Fin k0_t4_loop.trips) : BitVec 32 :=
  let c0_i32_26 : BitVec 32 := 0#32
  let c1_i32_28 : BitVec 32 := 1#32
  let arg17 : BitVec 32 := Scf.iv c0_i32_26 c1_i32_28 k0_t4
  let c128_i32 : BitVec 32 := 128#32
  let v103 : BitVec 32 := Scalar.muli arg17 c128_i32
  v103
def k0_off40 (k0_t4 : Fin k0_t4_loop.trips) : Fin 2 → Nat :=
  let c0_i32_36 : BitVec 32 := 0#32
  let c0_i32_26 : BitVec 32 := 0#32
  let c1_i32_28 : BitVec 32 := 1#32
  let arg17 : BitVec 32 := Scf.iv c0_i32_26 c1_i32_28 k0_t4
  let c128_i32 : BitVec 32 := 128#32
  let v103 : BitVec 32 := Scalar.muli arg17 c128_i32
  let v104 : BitVec 32 := v103
  ![0, v104.toNat]
def k0_off41 (v74 : BitVec 32) (k0_t3 : Fin (k0_t3_loop v74).trips) : Fin 1 → Nat :=
  let c0_i32_21 : BitVec 32 := 0#32
  let c1_i32_23 : BitVec 32 := 1#32
  let arg16 : BitVec 32 := Scf.iv c0_i32_21 c1_i32_23 k0_t3
  let c16_i32_35 : BitVec 32 := 16#32
  let v105 : BitVec 32 := Scalar.muli arg16 c16_i32_35
  ![v105.toNat]
def k0_off42 (k0_t4 : Fin k0_t4_loop.trips) : Fin 2 → Nat :=
  let c0_i32_37 : BitVec 32 := 0#32
  let c0_i32_26 : BitVec 32 := 0#32
  let c1_i32_28 : BitVec 32 := 1#32
  let arg17 : BitVec 32 := Scf.iv c0_i32_26 c1_i32_28 k0_t4
  let c128_i32 : BitVec 32 := 128#32
  let v103 : BitVec 32 := Scalar.muli arg17 c128_i32
  let v104 : BitVec 32 := v103
  ![0, v104.toNat]
@[reducible] def k0_t5_loop : Scf.Loop 32 :=
  let c0_i32_31 : BitVec 32 := 0#32
  let c16_i32_32 : BitVec 32 := 16#32
  let v102 : BitVec 32 := Scalar.addi c0_i32_31 c16_i32_32
  let c1_i32_33 : BitVec 32 := 1#32
  ⟨c0_i32_31, v102, c1_i32_33⟩
def k0_off43 (v74 : BitVec 32) (k0_t3 : Fin (k0_t3_loop v74).trips) (k0_t5 : Fin k0_t5_loop.trips) : Fin 1 → Nat :=
  let c0_i32_21 : BitVec 32 := 0#32
  let c1_i32_23 : BitVec 32 := 1#32
  let arg16 : BitVec 32 := Scf.iv c0_i32_21 c1_i32_23 k0_t3
  let c16_i32_37 : BitVec 32 := 16#32
  let v108 : BitVec 32 := Scalar.muli arg16 c16_i32_37
  let c0_i32_31 : BitVec 32 := 0#32
  let c1_i32_33 : BitVec 32 := 1#32
  let arg17 : BitVec 32 := Scf.iv c0_i32_31 c1_i32_33 k0_t5
  let v109 : BitVec 32 := Scalar.addi v108 arg17
  let v110 : Index := Scalar.indexCast v109
  ![v110.toNat]
def k0_cond36 (v74 : BitVec 32) (k0_t3 : Fin (k0_t3_loop v74).trips) (k0_t5 : Fin k0_t5_loop.trips) : BitVec 1 :=
  let c0_i32_21 : BitVec 32 := 0#32
  let c1_i32_23 : BitVec 32 := 1#32
  let arg16 : BitVec 32 := Scf.iv c0_i32_21 c1_i32_23 k0_t3
  let c16_i32_35 : BitVec 32 := 16#32
  let v103 : BitVec 32 := Scalar.muli arg16 c16_i32_35
  let c0_i32_31 : BitVec 32 := 0#32
  let c1_i32_33 : BitVec 32 := 1#32
  let arg17 : BitVec 32 := Scf.iv c0_i32_31 c1_i32_33 k0_t5
  let v104 : BitVec 32 := Scalar.addi v103 arg17
  let v105 : BitVec 1 := Scalar.cmpi .slt v104 v74
  let v106 : BitVec 32 := Scalar.extui v105
  let c0_i32_36 : BitVec 32 := 0#32
  let v107 : BitVec 1 := Scalar.cmpi .ne v106 c0_i32_36
  v107

def k0_off44 (i : grid0.Coords) (v114 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v115 : BitVec 32 := Scalar.subi v114 v2
  let c0_i32_39 : BitVec 32 := 0#32
  let v117 : BitVec 1 := Scalar.cmpi .sgt v115 c0_i32_39
  let v118 : BitVec 32 := Scalar.extui v117
  let c0_i32_40 : BitVec 32 := 0#32
  let v119 : BitVec 1 := Scalar.cmpi .slt v115 c0_i32_40
  let v120 : BitVec 32 := Scalar.extui v119
  let v121 : BitVec 32 := Scalar.subi v118 v120
  let c16_i32_38 : BitVec 32 := 16#32
  let c0_i32_41 : BitVec 32 := 0#32
  let v122 : BitVec 1 := Scalar.cmpi .sgt c16_i32_38 c0_i32_41
  let v123 : BitVec 32 := Scalar.extui v122
  let c0_i32_42 : BitVec 32 := 0#32
  let v124 : BitVec 1 := Scalar.cmpi .slt c16_i32_38 c0_i32_42
  let v125 : BitVec 32 := Scalar.extui v124
  let v126 : BitVec 32 := Scalar.subi v123 v125
  let v127 : BitVec 1 := Scalar.cmpi .ne v121 v126
  let v128 : BitVec 32 := Scalar.remsi v115 c16_i32_38
  let c0_i32_43 : BitVec 32 := 0#32
  let v129 : BitVec 1 := Scalar.cmpi .ne v128 c0_i32_43
  let v130 : BitVec 1 := Scalar.andi v127 v129
  let v116 : BitVec 32 := Scalar.divsi v115 c16_i32_38
  let c1_i32_44 : BitVec 32 := 1#32
  let v131 : BitVec 32 := Scalar.subi v116 c1_i32_44
  let v132 : BitVec 32 := Scalar.select v130 v131 v116
  let c16_i32_45 : BitVec 32 := 16#32
  let v133 : BitVec 32 := Scalar.muli v132 c16_i32_45
  let v137 : Index := Scalar.indexCast v133
  ![v137.toNat]

def k0_chk43 (v74 : BitVec 32) (k0_t3 : Fin (k0_t3_loop v74).trips) (k0_t5 : Fin k0_t5_loop.trips) (v145 : IVec S16 32) : Prop :=
  (∀ (k0_h35 : k0_cond35 v74 = 1#1), ∀ (k0_h36 : k0_cond36 v74 k0_t3 k0_t5 = 1#1), ∀ a x, ((![v145] : Fin 1 → IVec S16 32) a x).toNat < S16.size a)
theorem k0_idx9_inb : ∀ (v74 : BitVec 32) (k0_t3 : Fin (k0_t3_loop v74).trips) (k0_t5 : Fin k0_t5_loop.trips) (v145 : IVec S16 32) (k0_hw43 : k0_chk43 v74 k0_t3 k0_t5 v145), ∀ (k0_h35 : k0_cond35 v74 = 1#1), ∀ (k0_h36 : k0_cond36 v74 k0_t3 k0_t5 = 1#1), ∀ a x, ((![v145] : Fin 1 → IVec S16 32) a x).toNat < S16.size a := fun v74 k0_t3 k0_t5 v145 k0_hw43 k0_h35 k0_h36 => k0_hw43 k0_h35 k0_h36

def k0_chk44 (v74 : BitVec 32) (k0_t3 : Fin (k0_t3_loop v74).trips) (k0_t5 : Fin k0_t5_loop.trips) (v152 : IVec S16 32) : Prop :=
  (∀ (k0_h35 : k0_cond35 v74 = 1#1), ∀ (k0_h36 : k0_cond36 v74 k0_t3 k0_t5 = 1#1), ∀ a x, ((![v152] : Fin 1 → IVec S16 32) a x).toNat < S16.size a)
theorem k0_idx10_inb : ∀ (v74 : BitVec 32) (k0_t3 : Fin (k0_t3_loop v74).trips) (k0_t5 : Fin k0_t5_loop.trips) (v152 : IVec S16 32) (k0_hw44 : k0_chk44 v74 k0_t3 k0_t5 v152), ∀ (k0_h35 : k0_cond35 v74 = 1#1), ∀ (k0_h36 : k0_cond36 v74 k0_t3 k0_t5 = 1#1), ∀ a x, ((![v152] : Fin 1 → IVec S16 32) a x).toNat < S16.size a := fun v74 k0_t3 k0_t5 v152 k0_hw44 k0_h35 k0_h36 => k0_hw44 k0_h35 k0_h36

def k0_chk45 (v74 : BitVec 32) (k0_t3 : Fin (k0_t3_loop v74).trips) (k0_t5 : Fin k0_t5_loop.trips) (v159 : IVec S16 32) : Prop :=
  (∀ (k0_h35 : k0_cond35 v74 = 1#1), ∀ (k0_h36 : k0_cond36 v74 k0_t3 k0_t5 = 1#1), ∀ a x, ((![v159] : Fin 1 → IVec S16 32) a x).toNat < S16.size a)
theorem k0_idx11_inb : ∀ (v74 : BitVec 32) (k0_t3 : Fin (k0_t3_loop v74).trips) (k0_t5 : Fin k0_t5_loop.trips) (v159 : IVec S16 32) (k0_hw45 : k0_chk45 v74 k0_t3 k0_t5 v159), ∀ (k0_h35 : k0_cond35 v74 = 1#1), ∀ (k0_h36 : k0_cond36 v74 k0_t3 k0_t5 = 1#1), ∀ a x, ((![v159] : Fin 1 → IVec S16 32) a x).toNat < S16.size a := fun v74 k0_t3 k0_t5 v159 k0_hw45 k0_h35 k0_h36 => k0_hw45 k0_h35 k0_h36

def k0_chk46 (v74 : BitVec 32) (k0_t3 : Fin (k0_t3_loop v74).trips) (k0_t5 : Fin k0_t5_loop.trips) (v166 : IVec S16 32) : Prop :=
  (∀ (k0_h35 : k0_cond35 v74 = 1#1), ∀ (k0_h36 : k0_cond36 v74 k0_t3 k0_t5 = 1#1), ∀ a x, ((![v166] : Fin 1 → IVec S16 32) a x).toNat < S16.size a)
theorem k0_idx12_inb : ∀ (v74 : BitVec 32) (k0_t3 : Fin (k0_t3_loop v74).trips) (k0_t5 : Fin k0_t5_loop.trips) (v166 : IVec S16 32) (k0_hw46 : k0_chk46 v74 k0_t3 k0_t5 v166), ∀ (k0_h35 : k0_cond35 v74 = 1#1), ∀ (k0_h36 : k0_cond36 v74 k0_t3 k0_t5 = 1#1), ∀ a x, ((![v166] : Fin 1 → IVec S16 32) a x).toNat < S16.size a := fun v74 k0_t3 k0_t5 v166 k0_hw46 k0_h35 k0_h36 => k0_hw46 k0_h35 k0_h36
@[reducible] def k0_t6_loop : Scf.Loop 32 :=
  let c0_i32_53 : BitVec 32 := 0#32
  let c16_i32_54 : BitVec 32 := 16#32
  let v169 : BitVec 32 := Scalar.addi c0_i32_53 c16_i32_54
  let c1_i32_55 : BitVec 32 := 1#32
  ⟨c0_i32_53, v169, c1_i32_55⟩
def k0_off45 (k0_t5 : Fin k0_t5_loop.trips) (k0_t6 : Fin k0_t6_loop.trips) (c0_i32_78 : BitVec 32) : Fin 2 → Nat :=
  let c0_i32_31 : BitVec 32 := 0#32
  let c1_i32_33 : BitVec 32 := 1#32
  let arg17 : BitVec 32 := Scf.iv c0_i32_31 c1_i32_33 k0_t5
  let v255 : Index := Scalar.indexCast arg17
  let c0_i32_53 : BitVec 32 := 0#32
  let c1_i32_55 : BitVec 32 := 1#32
  let arg18 : BitVec 32 := Scf.iv c0_i32_53 c1_i32_55 k0_t6
  let c8_i32_77 : BitVec 32 := 8#32
  let v252 : BitVec 32 := Scalar.muli arg18 c8_i32_77
  let v253 : BitVec 32 := Scalar.addi v252 c0_i32_78
  let c16_i32_79 : BitVec 32 := 16#32
  let v254 : BitVec 32 := Scalar.muli v253 c16_i32_79
  let v256 : Index := Scalar.indexCast v254
  ![v255.toNat, v256.toNat]

def k0_chk47 (v74 : BitVec 32) (k0_t3 : Fin (k0_t3_loop v74).trips) (k0_t5 : Fin k0_t5_loop.trips) (v181 : IVec S16 32) : Prop :=
  (∀ (k0_h35 : k0_cond35 v74 = 1#1), ∀ (k0_h36 : k0_cond36 v74 k0_t3 k0_t5 = 1#1), ∀ a x, ((![v181] : Fin 1 → IVec S16 32) a x).toNat < S16.size a)
theorem k0_idx13_inb : ∀ (v74 : BitVec 32) (k0_t3 : Fin (k0_t3_loop v74).trips) (k0_t5 : Fin k0_t5_loop.trips) (v181 : IVec S16 32) (k0_hw47 : k0_chk47 v74 k0_t3 k0_t5 v181), ∀ (k0_h35 : k0_cond35 v74 = 1#1), ∀ (k0_h36 : k0_cond36 v74 k0_t3 k0_t5 = 1#1), ∀ a x, ((![v181] : Fin 1 → IVec S16 32) a x).toNat < S16.size a := fun v74 k0_t3 k0_t5 v181 k0_hw47 k0_h35 k0_h36 => k0_hw47 k0_h35 k0_h36

def k0_chk48 (v74 : BitVec 32) (k0_t3 : Fin (k0_t3_loop v74).trips) (k0_t5 : Fin k0_t5_loop.trips) (v187 : IVec S16 32) : Prop :=
  (∀ (k0_h35 : k0_cond35 v74 = 1#1), ∀ (k0_h36 : k0_cond36 v74 k0_t3 k0_t5 = 1#1), ∀ a x, ((![v187] : Fin 1 → IVec S16 32) a x).toNat < S16.size a)
theorem k0_idx14_inb : ∀ (v74 : BitVec 32) (k0_t3 : Fin (k0_t3_loop v74).trips) (k0_t5 : Fin k0_t5_loop.trips) (v187 : IVec S16 32) (k0_hw48 : k0_chk48 v74 k0_t3 k0_t5 v187), ∀ (k0_h35 : k0_cond35 v74 = 1#1), ∀ (k0_h36 : k0_cond36 v74 k0_t3 k0_t5 = 1#1), ∀ a x, ((![v187] : Fin 1 → IVec S16 32) a x).toNat < S16.size a := fun v74 k0_t3 k0_t5 v187 k0_hw48 k0_h35 k0_h36 => k0_hw48 k0_h35 k0_h36

def k0_chk49 (v74 : BitVec 32) (k0_t3 : Fin (k0_t3_loop v74).trips) (k0_t5 : Fin k0_t5_loop.trips) (v196 : IVec S16 32) : Prop :=
  (∀ (k0_h35 : k0_cond35 v74 = 1#1), ∀ (k0_h36 : k0_cond36 v74 k0_t3 k0_t5 = 1#1), ∀ a x, ((![v196] : Fin 1 → IVec S16 32) a x).toNat < S16.size a)
theorem k0_idx15_inb : ∀ (v74 : BitVec 32) (k0_t3 : Fin (k0_t3_loop v74).trips) (k0_t5 : Fin k0_t5_loop.trips) (v196 : IVec S16 32) (k0_hw49 : k0_chk49 v74 k0_t3 k0_t5 v196), ∀ (k0_h35 : k0_cond35 v74 = 1#1), ∀ (k0_h36 : k0_cond36 v74 k0_t3 k0_t5 = 1#1), ∀ a x, ((![v196] : Fin 1 → IVec S16 32) a x).toNat < S16.size a := fun v74 k0_t3 k0_t5 v196 k0_hw49 k0_h35 k0_h36 => k0_hw49 k0_h35 k0_h36

def k0_chk50 (v74 : BitVec 32) (k0_t3 : Fin (k0_t3_loop v74).trips) (k0_t5 : Fin k0_t5_loop.trips) (v202 : IVec S16 32) : Prop :=
  (∀ (k0_h35 : k0_cond35 v74 = 1#1), ∀ (k0_h36 : k0_cond36 v74 k0_t3 k0_t5 = 1#1), ∀ a x, ((![v202] : Fin 1 → IVec S16 32) a x).toNat < S16.size a)
theorem k0_idx16_inb : ∀ (v74 : BitVec 32) (k0_t3 : Fin (k0_t3_loop v74).trips) (k0_t5 : Fin k0_t5_loop.trips) (v202 : IVec S16 32) (k0_hw50 : k0_chk50 v74 k0_t3 k0_t5 v202), ∀ (k0_h35 : k0_cond35 v74 = 1#1), ∀ (k0_h36 : k0_cond36 v74 k0_t3 k0_t5 = 1#1), ∀ a x, ((![v202] : Fin 1 → IVec S16 32) a x).toNat < S16.size a := fun v74 k0_t3 k0_t5 v202 k0_hw50 k0_h35 k0_h36 => k0_hw50 k0_h35 k0_h36

def k0_chk51 (v74 : BitVec 32) (k0_t3 : Fin (k0_t3_loop v74).trips) (k0_t5 : Fin k0_t5_loop.trips) (v211 : IVec S16 32) : Prop :=
  (∀ (k0_h35 : k0_cond35 v74 = 1#1), ∀ (k0_h36 : k0_cond36 v74 k0_t3 k0_t5 = 1#1), ∀ a x, ((![v211] : Fin 1 → IVec S16 32) a x).toNat < S16.size a)
theorem k0_idx17_inb : ∀ (v74 : BitVec 32) (k0_t3 : Fin (k0_t3_loop v74).trips) (k0_t5 : Fin k0_t5_loop.trips) (v211 : IVec S16 32) (k0_hw51 : k0_chk51 v74 k0_t3 k0_t5 v211), ∀ (k0_h35 : k0_cond35 v74 = 1#1), ∀ (k0_h36 : k0_cond36 v74 k0_t3 k0_t5 = 1#1), ∀ a x, ((![v211] : Fin 1 → IVec S16 32) a x).toNat < S16.size a := fun v74 k0_t3 k0_t5 v211 k0_hw51 k0_h35 k0_h36 => k0_hw51 k0_h35 k0_h36

def k0_chk52 (v74 : BitVec 32) (k0_t3 : Fin (k0_t3_loop v74).trips) (k0_t5 : Fin k0_t5_loop.trips) (v217 : IVec S16 32) : Prop :=
  (∀ (k0_h35 : k0_cond35 v74 = 1#1), ∀ (k0_h36 : k0_cond36 v74 k0_t3 k0_t5 = 1#1), ∀ a x, ((![v217] : Fin 1 → IVec S16 32) a x).toNat < S16.size a)
theorem k0_idx18_inb : ∀ (v74 : BitVec 32) (k0_t3 : Fin (k0_t3_loop v74).trips) (k0_t5 : Fin k0_t5_loop.trips) (v217 : IVec S16 32) (k0_hw52 : k0_chk52 v74 k0_t3 k0_t5 v217), ∀ (k0_h35 : k0_cond35 v74 = 1#1), ∀ (k0_h36 : k0_cond36 v74 k0_t3 k0_t5 = 1#1), ∀ a x, ((![v217] : Fin 1 → IVec S16 32) a x).toNat < S16.size a := fun v74 k0_t3 k0_t5 v217 k0_hw52 k0_h35 k0_h36 => k0_hw52 k0_h35 k0_h36

def k0_chk53 (v74 : BitVec 32) (k0_t3 : Fin (k0_t3_loop v74).trips) (k0_t5 : Fin k0_t5_loop.trips) (v226 : IVec S16 32) : Prop :=
  (∀ (k0_h35 : k0_cond35 v74 = 1#1), ∀ (k0_h36 : k0_cond36 v74 k0_t3 k0_t5 = 1#1), ∀ a x, ((![v226] : Fin 1 → IVec S16 32) a x).toNat < S16.size a)
theorem k0_idx19_inb : ∀ (v74 : BitVec 32) (k0_t3 : Fin (k0_t3_loop v74).trips) (k0_t5 : Fin k0_t5_loop.trips) (v226 : IVec S16 32) (k0_hw53 : k0_chk53 v74 k0_t3 k0_t5 v226), ∀ (k0_h35 : k0_cond35 v74 = 1#1), ∀ (k0_h36 : k0_cond36 v74 k0_t3 k0_t5 = 1#1), ∀ a x, ((![v226] : Fin 1 → IVec S16 32) a x).toNat < S16.size a := fun v74 k0_t3 k0_t5 v226 k0_hw53 k0_h35 k0_h36 => k0_hw53 k0_h35 k0_h36

def k0_chk54 (v74 : BitVec 32) (k0_t3 : Fin (k0_t3_loop v74).trips) (k0_t5 : Fin k0_t5_loop.trips) (v232 : IVec S16 32) : Prop :=
  (∀ (k0_h35 : k0_cond35 v74 = 1#1), ∀ (k0_h36 : k0_cond36 v74 k0_t3 k0_t5 = 1#1), ∀ a x, ((![v232] : Fin 1 → IVec S16 32) a x).toNat < S16.size a)
theorem k0_idx20_inb : ∀ (v74 : BitVec 32) (k0_t3 : Fin (k0_t3_loop v74).trips) (k0_t5 : Fin k0_t5_loop.trips) (v232 : IVec S16 32) (k0_hw54 : k0_chk54 v74 k0_t3 k0_t5 v232), ∀ (k0_h35 : k0_cond35 v74 = 1#1), ∀ (k0_h36 : k0_cond36 v74 k0_t3 k0_t5 = 1#1), ∀ a x, ((![v232] : Fin 1 → IVec S16 32) a x).toNat < S16.size a := fun v74 k0_t3 k0_t5 v232 k0_hw54 k0_h35 k0_h36 => k0_hw54 k0_h35 k0_h36
def k0_off46 (i : grid0.Coords) (v114 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v115 : BitVec 32 := Scalar.subi v114 v2
  let c0_i32_39 : BitVec 32 := 0#32
  let v117 : BitVec 1 := Scalar.cmpi .sgt v115 c0_i32_39
  let v118 : BitVec 32 := Scalar.extui v117
  let c0_i32_40 : BitVec 32 := 0#32
  let v119 : BitVec 1 := Scalar.cmpi .slt v115 c0_i32_40
  let v120 : BitVec 32 := Scalar.extui v119
  let v121 : BitVec 32 := Scalar.subi v118 v120
  let c16_i32_38 : BitVec 32 := 16#32
  let c0_i32_41 : BitVec 32 := 0#32
  let v122 : BitVec 1 := Scalar.cmpi .sgt c16_i32_38 c0_i32_41
  let v123 : BitVec 32 := Scalar.extui v122
  let c0_i32_42 : BitVec 32 := 0#32
  let v124 : BitVec 1 := Scalar.cmpi .slt c16_i32_38 c0_i32_42
  let v125 : BitVec 32 := Scalar.extui v124
  let v126 : BitVec 32 := Scalar.subi v123 v125
  let v127 : BitVec 1 := Scalar.cmpi .ne v121 v126
  let v128 : BitVec 32 := Scalar.remsi v115 c16_i32_38
  let c0_i32_43 : BitVec 32 := 0#32
  let v129 : BitVec 1 := Scalar.cmpi .ne v128 c0_i32_43
  let v130 : BitVec 1 := Scalar.andi v127 v129
  let v116 : BitVec 32 := Scalar.divsi v115 c16_i32_38
  let c1_i32_44 : BitVec 32 := 1#32
  let v131 : BitVec 32 := Scalar.subi v116 c1_i32_44
  let v132 : BitVec 32 := Scalar.select v130 v131 v116
  let c16_i32_45 : BitVec 32 := 16#32
  let v133 : BitVec 32 := Scalar.muli v132 c16_i32_45
  let v244 : Index := Scalar.indexCast v133
  ![v244.toNat]

def k0_chk42 (i : grid0.Coords) (v74 : BitVec 32) (k0_t3 : Fin (k0_t3_loop v74).trips) (k0_t5 : Fin k0_t5_loop.trips) (v114 : BitVec 32) : Prop :=
  (∀ (k0_h35 : k0_cond35 v74 = 1#1), ∀ (k0_h36 : k0_cond36 v74 k0_t3 k0_t5 = 1#1), ∀ a, (k0_off44 i v114) a + S16.size a ≤ S256.size a) ∧
  (∀ (k0_h35 : k0_cond35 v74 = 1#1), ∀ (k0_h36 : k0_cond36 v74 k0_t3 k0_t5 = 1#1), ∀ a, (k0_off46 i v114) a + S16.size a ≤ S256.size a)
theorem k0_off44_inb : ∀ (i : grid0.Coords) (v74 : BitVec 32) (k0_t3 : Fin (k0_t3_loop v74).trips) (k0_t5 : Fin k0_t5_loop.trips) (v114 : BitVec 32) (k0_hw42 : k0_chk42 i v74 k0_t3 k0_t5 v114), ∀ (k0_h35 : k0_cond35 v74 = 1#1), ∀ (k0_h36 : k0_cond36 v74 k0_t3 k0_t5 = 1#1), ∀ a, (k0_off44 i v114) a + S16.size a ≤ S256.size a := fun i v74 k0_t3 k0_t5 v114 k0_hw42 k0_h35 k0_h36 => k0_hw42.1 k0_h35 k0_h36
theorem k0_off46_inb : ∀ (i : grid0.Coords) (v74 : BitVec 32) (k0_t3 : Fin (k0_t3_loop v74).trips) (k0_t5 : Fin k0_t5_loop.trips) (v114 : BitVec 32) (k0_hw42 : k0_chk42 i v74 k0_t3 k0_t5 v114), ∀ (k0_h35 : k0_cond35 v74 = 1#1), ∀ (k0_h36 : k0_cond36 v74 k0_t3 k0_t5 = 1#1), ∀ a, (k0_off46 i v114) a + S16.size a ≤ S256.size a := fun i v74 k0_t3 k0_t5 v114 k0_hw42 k0_h35 k0_h36 => k0_hw42.2 k0_h35 k0_h36

@[reducible] def k0_t7_loop (v74 : BitVec 32) : Scf.Loop 32 :=
  let c0_i32_21 : BitVec 32 := 0#32
  let c15_i32 : BitVec 32 := 15#32
  let v78 : BitVec 32 := Scalar.addi v74 c15_i32
  let c0_i32_14 : BitVec 32 := 0#32
  let v80 : BitVec 1 := Scalar.cmpi .sgt v78 c0_i32_14
  let v81 : BitVec 32 := Scalar.extui v80
  let c0_i32_15 : BitVec 32 := 0#32
  let v82 : BitVec 1 := Scalar.cmpi .slt v78 c0_i32_15
  let v83 : BitVec 32 := Scalar.extui v82
  let v84 : BitVec 32 := Scalar.subi v81 v83
  let c16_i32 : BitVec 32 := 16#32
  let c0_i32_16 : BitVec 32 := 0#32
  let v85 : BitVec 1 := Scalar.cmpi .sgt c16_i32 c0_i32_16
  let v86 : BitVec 32 := Scalar.extui v85
  let c0_i32_17 : BitVec 32 := 0#32
  let v87 : BitVec 1 := Scalar.cmpi .slt c16_i32 c0_i32_17
  let v88 : BitVec 32 := Scalar.extui v87
  let v89 : BitVec 32 := Scalar.subi v86 v88
  let v90 : BitVec 1 := Scalar.cmpi .ne v84 v89
  let v91 : BitVec 32 := Scalar.remsi v78 c16_i32
  let c0_i32_18 : BitVec 32 := 0#32
  let v92 : BitVec 1 := Scalar.cmpi .ne v91 c0_i32_18
  let v93 : BitVec 1 := Scalar.andi v90 v92
  let v79 : BitVec 32 := Scalar.divsi v78 c16_i32
  let c1_i32_19 : BitVec 32 := 1#32
  let v94 : BitVec 32 := Scalar.subi v79 c1_i32_19
  let v95 : BitVec 32 := Scalar.select v93 v94 v79
  let v96 : BitVec 32 := Scalar.subi v95 c0_i32_21
  let c1_i32_22 : BitVec 32 := 1#32
  let v98 : BitVec 32 := Scalar.divsi v96 c1_i32_22
  let v99 : BitVec 32 := Scalar.muli v98 c1_i32_22
  let v100 : BitVec 32 := Scalar.addi c0_i32_21 v99
  let v97 : BitVec 32 := Scalar.addi c0_i32_21 v96
  let c1_i32_24 : BitVec 32 := 1#32
  ⟨v100, v97, c1_i32_24⟩
@[reducible] def k0_t8_loop : Scf.Loop 32 :=
  let c0_i32_26 : BitVec 32 := 0#32
  let c16_i32_27 : BitVec 32 := 16#32
  let v101 : BitVec 32 := Scalar.addi c0_i32_26 c16_i32_27
  let c1_i32_28 : BitVec 32 := 1#32
  ⟨c0_i32_26, v101, c1_i32_28⟩
def k0_mult2 (k0_t8 : Fin k0_t8_loop.trips) : BitVec 32 :=
  let c0_i32_26 : BitVec 32 := 0#32
  let c1_i32_28 : BitVec 32 := 1#32
  let arg17 : BitVec 32 := Scf.iv c0_i32_26 c1_i32_28 k0_t8
  let c128_i32 : BitVec 32 := 128#32
  let v103 : BitVec 32 := Scalar.muli arg17 c128_i32
  v103
def k0_off47 (k0_t8 : Fin k0_t8_loop.trips) : Fin 2 → Nat :=
  let c0_i32_36 : BitVec 32 := 0#32
  let c0_i32_26 : BitVec 32 := 0#32
  let c1_i32_28 : BitVec 32 := 1#32
  let arg17 : BitVec 32 := Scf.iv c0_i32_26 c1_i32_28 k0_t8
  let c128_i32 : BitVec 32 := 128#32
  let v103 : BitVec 32 := Scalar.muli arg17 c128_i32
  let v104 : BitVec 32 := v103
  ![0, v104.toNat]
def k0_off48 (v74 : BitVec 32) (k0_t7 : Fin (k0_t7_loop v74).trips) : Fin 1 → Nat :=
  let c0_i32_21 : BitVec 32 := 0#32
  let c15_i32 : BitVec 32 := 15#32
  let v78 : BitVec 32 := Scalar.addi v74 c15_i32
  let c0_i32_14 : BitVec 32 := 0#32
  let v80 : BitVec 1 := Scalar.cmpi .sgt v78 c0_i32_14
  let v81 : BitVec 32 := Scalar.extui v80
  let c0_i32_15 : BitVec 32 := 0#32
  let v82 : BitVec 1 := Scalar.cmpi .slt v78 c0_i32_15
  let v83 : BitVec 32 := Scalar.extui v82
  let v84 : BitVec 32 := Scalar.subi v81 v83
  let c16_i32 : BitVec 32 := 16#32
  let c0_i32_16 : BitVec 32 := 0#32
  let v85 : BitVec 1 := Scalar.cmpi .sgt c16_i32 c0_i32_16
  let v86 : BitVec 32 := Scalar.extui v85
  let c0_i32_17 : BitVec 32 := 0#32
  let v87 : BitVec 1 := Scalar.cmpi .slt c16_i32 c0_i32_17
  let v88 : BitVec 32 := Scalar.extui v87
  let v89 : BitVec 32 := Scalar.subi v86 v88
  let v90 : BitVec 1 := Scalar.cmpi .ne v84 v89
  let v91 : BitVec 32 := Scalar.remsi v78 c16_i32
  let c0_i32_18 : BitVec 32 := 0#32
  let v92 : BitVec 1 := Scalar.cmpi .ne v91 c0_i32_18
  let v93 : BitVec 1 := Scalar.andi v90 v92
  let v79 : BitVec 32 := Scalar.divsi v78 c16_i32
  let c1_i32_19 : BitVec 32 := 1#32
  let v94 : BitVec 32 := Scalar.subi v79 c1_i32_19
  let v95 : BitVec 32 := Scalar.select v93 v94 v79
  let v96 : BitVec 32 := Scalar.subi v95 c0_i32_21
  let c1_i32_22 : BitVec 32 := 1#32
  let v98 : BitVec 32 := Scalar.divsi v96 c1_i32_22
  let v99 : BitVec 32 := Scalar.muli v98 c1_i32_22
  let v100 : BitVec 32 := Scalar.addi c0_i32_21 v99
  let c1_i32_24 : BitVec 32 := 1#32
  let arg16 : BitVec 32 := Scf.iv v100 c1_i32_24 k0_t7
  let c16_i32_35 : BitVec 32 := 16#32
  let v105 : BitVec 32 := Scalar.muli arg16 c16_i32_35
  ![v105.toNat]
def k0_off49 (k0_t8 : Fin k0_t8_loop.trips) : Fin 2 → Nat :=
  let c0_i32_37 : BitVec 32 := 0#32
  let c0_i32_26 : BitVec 32 := 0#32
  let c1_i32_28 : BitVec 32 := 1#32
  let arg17 : BitVec 32 := Scf.iv c0_i32_26 c1_i32_28 k0_t8
  let c128_i32 : BitVec 32 := 128#32
  let v103 : BitVec 32 := Scalar.muli arg17 c128_i32
  let v104 : BitVec 32 := v103
  ![0, v104.toNat]
@[reducible] def k0_t9_loop : Scf.Loop 32 :=
  let c0_i32_31 : BitVec 32 := 0#32
  let c16_i32_32 : BitVec 32 := 16#32
  let v102 : BitVec 32 := Scalar.addi c0_i32_31 c16_i32_32
  let c1_i32_33 : BitVec 32 := 1#32
  ⟨c0_i32_31, v102, c1_i32_33⟩
def k0_off50 (v74 : BitVec 32) (k0_t7 : Fin (k0_t7_loop v74).trips) (k0_t9 : Fin k0_t9_loop.trips) : Fin 1 → Nat :=
  let c0_i32_21 : BitVec 32 := 0#32
  let c15_i32 : BitVec 32 := 15#32
  let v78 : BitVec 32 := Scalar.addi v74 c15_i32
  let c0_i32_14 : BitVec 32 := 0#32
  let v80 : BitVec 1 := Scalar.cmpi .sgt v78 c0_i32_14
  let v81 : BitVec 32 := Scalar.extui v80
  let c0_i32_15 : BitVec 32 := 0#32
  let v82 : BitVec 1 := Scalar.cmpi .slt v78 c0_i32_15
  let v83 : BitVec 32 := Scalar.extui v82
  let v84 : BitVec 32 := Scalar.subi v81 v83
  let c16_i32 : BitVec 32 := 16#32
  let c0_i32_16 : BitVec 32 := 0#32
  let v85 : BitVec 1 := Scalar.cmpi .sgt c16_i32 c0_i32_16
  let v86 : BitVec 32 := Scalar.extui v85
  let c0_i32_17 : BitVec 32 := 0#32
  let v87 : BitVec 1 := Scalar.cmpi .slt c16_i32 c0_i32_17
  let v88 : BitVec 32 := Scalar.extui v87
  let v89 : BitVec 32 := Scalar.subi v86 v88
  let v90 : BitVec 1 := Scalar.cmpi .ne v84 v89
  let v91 : BitVec 32 := Scalar.remsi v78 c16_i32
  let c0_i32_18 : BitVec 32 := 0#32
  let v92 : BitVec 1 := Scalar.cmpi .ne v91 c0_i32_18
  let v93 : BitVec 1 := Scalar.andi v90 v92
  let v79 : BitVec 32 := Scalar.divsi v78 c16_i32
  let c1_i32_19 : BitVec 32 := 1#32
  let v94 : BitVec 32 := Scalar.subi v79 c1_i32_19
  let v95 : BitVec 32 := Scalar.select v93 v94 v79
  let v96 : BitVec 32 := Scalar.subi v95 c0_i32_21
  let c1_i32_22 : BitVec 32 := 1#32
  let v98 : BitVec 32 := Scalar.divsi v96 c1_i32_22
  let v99 : BitVec 32 := Scalar.muli v98 c1_i32_22
  let v100 : BitVec 32 := Scalar.addi c0_i32_21 v99
  let c1_i32_24 : BitVec 32 := 1#32
  let arg16 : BitVec 32 := Scf.iv v100 c1_i32_24 k0_t7
  let c16_i32_37 : BitVec 32 := 16#32
  let v108 : BitVec 32 := Scalar.muli arg16 c16_i32_37
  let c0_i32_31 : BitVec 32 := 0#32
  let c1_i32_33 : BitVec 32 := 1#32
  let arg17 : BitVec 32 := Scf.iv c0_i32_31 c1_i32_33 k0_t9
  let v109 : BitVec 32 := Scalar.addi v108 arg17
  let v110 : Index := Scalar.indexCast v109
  ![v110.toNat]
def k0_cond37 (v74 : BitVec 32) (k0_t7 : Fin (k0_t7_loop v74).trips) (k0_t9 : Fin k0_t9_loop.trips) : BitVec 1 :=
  let c0_i32_21 : BitVec 32 := 0#32
  let c15_i32 : BitVec 32 := 15#32
  let v78 : BitVec 32 := Scalar.addi v74 c15_i32
  let c0_i32_14 : BitVec 32 := 0#32
  let v80 : BitVec 1 := Scalar.cmpi .sgt v78 c0_i32_14
  let v81 : BitVec 32 := Scalar.extui v80
  let c0_i32_15 : BitVec 32 := 0#32
  let v82 : BitVec 1 := Scalar.cmpi .slt v78 c0_i32_15
  let v83 : BitVec 32 := Scalar.extui v82
  let v84 : BitVec 32 := Scalar.subi v81 v83
  let c16_i32 : BitVec 32 := 16#32
  let c0_i32_16 : BitVec 32 := 0#32
  let v85 : BitVec 1 := Scalar.cmpi .sgt c16_i32 c0_i32_16
  let v86 : BitVec 32 := Scalar.extui v85
  let c0_i32_17 : BitVec 32 := 0#32
  let v87 : BitVec 1 := Scalar.cmpi .slt c16_i32 c0_i32_17
  let v88 : BitVec 32 := Scalar.extui v87
  let v89 : BitVec 32 := Scalar.subi v86 v88
  let v90 : BitVec 1 := Scalar.cmpi .ne v84 v89
  let v91 : BitVec 32 := Scalar.remsi v78 c16_i32
  let c0_i32_18 : BitVec 32 := 0#32
  let v92 : BitVec 1 := Scalar.cmpi .ne v91 c0_i32_18
  let v93 : BitVec 1 := Scalar.andi v90 v92
  let v79 : BitVec 32 := Scalar.divsi v78 c16_i32
  let c1_i32_19 : BitVec 32 := 1#32
  let v94 : BitVec 32 := Scalar.subi v79 c1_i32_19
  let v95 : BitVec 32 := Scalar.select v93 v94 v79
  let v96 : BitVec 32 := Scalar.subi v95 c0_i32_21
  let c1_i32_22 : BitVec 32 := 1#32
  let v98 : BitVec 32 := Scalar.divsi v96 c1_i32_22
  let v99 : BitVec 32 := Scalar.muli v98 c1_i32_22
  let v100 : BitVec 32 := Scalar.addi c0_i32_21 v99
  let c1_i32_24 : BitVec 32 := 1#32
  let arg16 : BitVec 32 := Scf.iv v100 c1_i32_24 k0_t7
  let c16_i32_35 : BitVec 32 := 16#32
  let v103 : BitVec 32 := Scalar.muli arg16 c16_i32_35
  let c0_i32_31 : BitVec 32 := 0#32
  let c1_i32_33 : BitVec 32 := 1#32
  let arg17 : BitVec 32 := Scf.iv c0_i32_31 c1_i32_33 k0_t9
  let v104 : BitVec 32 := Scalar.addi v103 arg17
  let v105 : BitVec 1 := Scalar.cmpi .slt v104 v74
  let v106 : BitVec 32 := Scalar.extui v105
  let c0_i32_36 : BitVec 32 := 0#32
  let v107 : BitVec 1 := Scalar.cmpi .ne v106 c0_i32_36
  v107

def k0_chk41 (v74 : BitVec 32) : Prop :=
  (∀ (k0_h35 : k0_cond35 v74 = 1#1), (k0_t3_loop v74).OK) ∧
  (∀ k0_t3 : Fin (k0_t3_loop v74).trips, ∀ (k0_h35 : k0_cond35 v74 = 1#1), ∀ a, (k0_off41 v74 k0_t3) a + S16.size a ≤ S272.size a) ∧
  (∀ (k0_t3 : Fin (k0_t3_loop v74).trips) (k0_t5 : Fin k0_t5_loop.trips), ∀ (k0_h35 : k0_cond35 v74 = 1#1), ∀ (k0_h36 : k0_cond36 v74 k0_t3 k0_t5 = 1#1), ∀ a, (k0_off43 v74 k0_t3 k0_t5) a + S16.size a ≤ S272.size a) ∧
  (∀ (k0_h35 : k0_cond35 v74 = 1#1), (k0_t7_loop v74).OK) ∧
  (∀ k0_t7 : Fin (k0_t7_loop v74).trips, ∀ (k0_h35 : k0_cond35 v74 = 1#1), ∀ a, (k0_off48 v74 k0_t7) a + S16.size a ≤ S272.size a) ∧
  (∀ (k0_t7 : Fin (k0_t7_loop v74).trips) (k0_t9 : Fin k0_t9_loop.trips), ∀ (k0_h35 : k0_cond35 v74 = 1#1), ∀ (k0_h37 : k0_cond37 v74 k0_t7 k0_t9 = 1#1), ∀ a, (k0_off50 v74 k0_t7 k0_t9) a + S16.size a ≤ S272.size a)
theorem k0_t3_ok : ∀ (v74 : BitVec 32) (k0_hw41 : k0_chk41 v74), ∀ (k0_h35 : k0_cond35 v74 = 1#1), (k0_t3_loop v74).OK := fun v74 k0_hw41 k0_h35 => k0_hw41.1 k0_h35
theorem k0_off41_inb : ∀ (v74 : BitVec 32) (k0_hw41 : k0_chk41 v74) (k0_t3 : Fin (k0_t3_loop v74).trips), ∀ (k0_h35 : k0_cond35 v74 = 1#1), ∀ a, (k0_off41 v74 k0_t3) a + S16.size a ≤ S272.size a := fun v74 k0_hw41 k0_t3 k0_h35 => k0_hw41.2.1 k0_t3 k0_h35
theorem k0_off43_inb : ∀ (v74 : BitVec 32) (k0_hw41 : k0_chk41 v74) (k0_t3 : Fin (k0_t3_loop v74).trips) (k0_t5 : Fin k0_t5_loop.trips), ∀ (k0_h35 : k0_cond35 v74 = 1#1), ∀ (k0_h36 : k0_cond36 v74 k0_t3 k0_t5 = 1#1), ∀ a, (k0_off43 v74 k0_t3 k0_t5) a + S16.size a ≤ S272.size a := fun v74 k0_hw41 k0_t3 k0_t5 k0_h35 k0_h36 => k0_hw41.2.2.1 k0_t3 k0_t5 k0_h35 k0_h36
theorem k0_t7_ok : ∀ (v74 : BitVec 32) (k0_hw41 : k0_chk41 v74), ∀ (k0_h35 : k0_cond35 v74 = 1#1), (k0_t7_loop v74).OK := fun v74 k0_hw41 k0_h35 => k0_hw41.2.2.2.1 k0_h35
theorem k0_off48_inb : ∀ (v74 : BitVec 32) (k0_hw41 : k0_chk41 v74) (k0_t7 : Fin (k0_t7_loop v74).trips), ∀ (k0_h35 : k0_cond35 v74 = 1#1), ∀ a, (k0_off48 v74 k0_t7) a + S16.size a ≤ S272.size a := fun v74 k0_hw41 k0_t7 k0_h35 => k0_hw41.2.2.2.2.1 k0_t7 k0_h35
theorem k0_off50_inb : ∀ (v74 : BitVec 32) (k0_hw41 : k0_chk41 v74) (k0_t7 : Fin (k0_t7_loop v74).trips) (k0_t9 : Fin k0_t9_loop.trips), ∀ (k0_h35 : k0_cond35 v74 = 1#1), ∀ (k0_h37 : k0_cond37 v74 k0_t7 k0_t9 = 1#1), ∀ a, (k0_off50 v74 k0_t7 k0_t9) a + S16.size a ≤ S272.size a := fun v74 k0_hw41 k0_t7 k0_t9 k0_h35 k0_h37 => k0_hw41.2.2.2.2.2 k0_t7 k0_t9 k0_h35 k0_h37

def k0_off51 (i : grid0.Coords) (v114 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v115 : BitVec 32 := Scalar.subi v114 v2
  let c0_i32_39 : BitVec 32 := 0#32
  let v117 : BitVec 1 := Scalar.cmpi .sgt v115 c0_i32_39
  let v118 : BitVec 32 := Scalar.extui v117
  let c0_i32_40 : BitVec 32 := 0#32
  let v119 : BitVec 1 := Scalar.cmpi .slt v115 c0_i32_40
  let v120 : BitVec 32 := Scalar.extui v119
  let v121 : BitVec 32 := Scalar.subi v118 v120
  let c16_i32_38 : BitVec 32 := 16#32
  let c0_i32_41 : BitVec 32 := 0#32
  let v122 : BitVec 1 := Scalar.cmpi .sgt c16_i32_38 c0_i32_41
  let v123 : BitVec 32 := Scalar.extui v122
  let c0_i32_42 : BitVec 32 := 0#32
  let v124 : BitVec 1 := Scalar.cmpi .slt c16_i32_38 c0_i32_42
  let v125 : BitVec 32 := Scalar.extui v124
  let v126 : BitVec 32 := Scalar.subi v123 v125
  let v127 : BitVec 1 := Scalar.cmpi .ne v121 v126
  let v128 : BitVec 32 := Scalar.remsi v115 c16_i32_38
  let c0_i32_43 : BitVec 32 := 0#32
  let v129 : BitVec 1 := Scalar.cmpi .ne v128 c0_i32_43
  let v130 : BitVec 1 := Scalar.andi v127 v129
  let v116 : BitVec 32 := Scalar.divsi v115 c16_i32_38
  let c1_i32_44 : BitVec 32 := 1#32
  let v131 : BitVec 32 := Scalar.subi v116 c1_i32_44
  let v132 : BitVec 32 := Scalar.select v130 v131 v116
  let c16_i32_45 : BitVec 32 := 16#32
  let v133 : BitVec 32 := Scalar.muli v132 c16_i32_45
  let v137 : Index := Scalar.indexCast v133
  ![v137.toNat]

def k0_chk56 (v74 : BitVec 32) (k0_t7 : Fin (k0_t7_loop v74).trips) (k0_t9 : Fin k0_t9_loop.trips) (v145 : IVec S16 32) : Prop :=
  (∀ (k0_h35 : k0_cond35 v74 = 1#1), ∀ (k0_h37 : k0_cond37 v74 k0_t7 k0_t9 = 1#1), ∀ a x, ((![v145] : Fin 1 → IVec S16 32) a x).toNat < S16.size a)
theorem k0_idx21_inb : ∀ (v74 : BitVec 32) (k0_t7 : Fin (k0_t7_loop v74).trips) (k0_t9 : Fin k0_t9_loop.trips) (v145 : IVec S16 32) (k0_hw56 : k0_chk56 v74 k0_t7 k0_t9 v145), ∀ (k0_h35 : k0_cond35 v74 = 1#1), ∀ (k0_h37 : k0_cond37 v74 k0_t7 k0_t9 = 1#1), ∀ a x, ((![v145] : Fin 1 → IVec S16 32) a x).toNat < S16.size a := fun v74 k0_t7 k0_t9 v145 k0_hw56 k0_h35 k0_h37 => k0_hw56 k0_h35 k0_h37

def k0_chk57 (v74 : BitVec 32) (k0_t7 : Fin (k0_t7_loop v74).trips) (k0_t9 : Fin k0_t9_loop.trips) (v152 : IVec S16 32) : Prop :=
  (∀ (k0_h35 : k0_cond35 v74 = 1#1), ∀ (k0_h37 : k0_cond37 v74 k0_t7 k0_t9 = 1#1), ∀ a x, ((![v152] : Fin 1 → IVec S16 32) a x).toNat < S16.size a)
theorem k0_idx22_inb : ∀ (v74 : BitVec 32) (k0_t7 : Fin (k0_t7_loop v74).trips) (k0_t9 : Fin k0_t9_loop.trips) (v152 : IVec S16 32) (k0_hw57 : k0_chk57 v74 k0_t7 k0_t9 v152), ∀ (k0_h35 : k0_cond35 v74 = 1#1), ∀ (k0_h37 : k0_cond37 v74 k0_t7 k0_t9 = 1#1), ∀ a x, ((![v152] : Fin 1 → IVec S16 32) a x).toNat < S16.size a := fun v74 k0_t7 k0_t9 v152 k0_hw57 k0_h35 k0_h37 => k0_hw57 k0_h35 k0_h37

def k0_chk58 (v74 : BitVec 32) (k0_t7 : Fin (k0_t7_loop v74).trips) (k0_t9 : Fin k0_t9_loop.trips) (v159 : IVec S16 32) : Prop :=
  (∀ (k0_h35 : k0_cond35 v74 = 1#1), ∀ (k0_h37 : k0_cond37 v74 k0_t7 k0_t9 = 1#1), ∀ a x, ((![v159] : Fin 1 → IVec S16 32) a x).toNat < S16.size a)
theorem k0_idx23_inb : ∀ (v74 : BitVec 32) (k0_t7 : Fin (k0_t7_loop v74).trips) (k0_t9 : Fin k0_t9_loop.trips) (v159 : IVec S16 32) (k0_hw58 : k0_chk58 v74 k0_t7 k0_t9 v159), ∀ (k0_h35 : k0_cond35 v74 = 1#1), ∀ (k0_h37 : k0_cond37 v74 k0_t7 k0_t9 = 1#1), ∀ a x, ((![v159] : Fin 1 → IVec S16 32) a x).toNat < S16.size a := fun v74 k0_t7 k0_t9 v159 k0_hw58 k0_h35 k0_h37 => k0_hw58 k0_h35 k0_h37

def k0_chk59 (v74 : BitVec 32) (k0_t7 : Fin (k0_t7_loop v74).trips) (k0_t9 : Fin k0_t9_loop.trips) (v166 : IVec S16 32) : Prop :=
  (∀ (k0_h35 : k0_cond35 v74 = 1#1), ∀ (k0_h37 : k0_cond37 v74 k0_t7 k0_t9 = 1#1), ∀ a x, ((![v166] : Fin 1 → IVec S16 32) a x).toNat < S16.size a)
theorem k0_idx24_inb : ∀ (v74 : BitVec 32) (k0_t7 : Fin (k0_t7_loop v74).trips) (k0_t9 : Fin k0_t9_loop.trips) (v166 : IVec S16 32) (k0_hw59 : k0_chk59 v74 k0_t7 k0_t9 v166), ∀ (k0_h35 : k0_cond35 v74 = 1#1), ∀ (k0_h37 : k0_cond37 v74 k0_t7 k0_t9 = 1#1), ∀ a x, ((![v166] : Fin 1 → IVec S16 32) a x).toNat < S16.size a := fun v74 k0_t7 k0_t9 v166 k0_hw59 k0_h35 k0_h37 => k0_hw59 k0_h35 k0_h37
@[reducible] def k0_t10_loop : Scf.Loop 32 :=
  let c0_i32_53 : BitVec 32 := 0#32
  let c16_i32_54 : BitVec 32 := 16#32
  let v169 : BitVec 32 := Scalar.addi c0_i32_53 c16_i32_54
  let c1_i32_55 : BitVec 32 := 1#32
  ⟨c0_i32_53, v169, c1_i32_55⟩
def k0_off52 (k0_t9 : Fin k0_t9_loop.trips) (k0_t10 : Fin k0_t10_loop.trips) (c0_i32_78 : BitVec 32) : Fin 2 → Nat :=
  let c0_i32_31 : BitVec 32 := 0#32
  let c1_i32_33 : BitVec 32 := 1#32
  let arg17 : BitVec 32 := Scf.iv c0_i32_31 c1_i32_33 k0_t9
  let v255 : Index := Scalar.indexCast arg17
  let c0_i32_53 : BitVec 32 := 0#32
  let c1_i32_55 : BitVec 32 := 1#32
  let arg18 : BitVec 32 := Scf.iv c0_i32_53 c1_i32_55 k0_t10
  let c8_i32_77 : BitVec 32 := 8#32
  let v252 : BitVec 32 := Scalar.muli arg18 c8_i32_77
  let v253 : BitVec 32 := Scalar.addi v252 c0_i32_78
  let c16_i32_79 : BitVec 32 := 16#32
  let v254 : BitVec 32 := Scalar.muli v253 c16_i32_79
  let v256 : Index := Scalar.indexCast v254
  ![v255.toNat, v256.toNat]

def k0_chk60 (v74 : BitVec 32) (k0_t7 : Fin (k0_t7_loop v74).trips) (k0_t9 : Fin k0_t9_loop.trips) (v181 : IVec S16 32) : Prop :=
  (∀ (k0_h35 : k0_cond35 v74 = 1#1), ∀ (k0_h37 : k0_cond37 v74 k0_t7 k0_t9 = 1#1), ∀ a x, ((![v181] : Fin 1 → IVec S16 32) a x).toNat < S16.size a)
theorem k0_idx25_inb : ∀ (v74 : BitVec 32) (k0_t7 : Fin (k0_t7_loop v74).trips) (k0_t9 : Fin k0_t9_loop.trips) (v181 : IVec S16 32) (k0_hw60 : k0_chk60 v74 k0_t7 k0_t9 v181), ∀ (k0_h35 : k0_cond35 v74 = 1#1), ∀ (k0_h37 : k0_cond37 v74 k0_t7 k0_t9 = 1#1), ∀ a x, ((![v181] : Fin 1 → IVec S16 32) a x).toNat < S16.size a := fun v74 k0_t7 k0_t9 v181 k0_hw60 k0_h35 k0_h37 => k0_hw60 k0_h35 k0_h37

def k0_chk61 (v74 : BitVec 32) (k0_t7 : Fin (k0_t7_loop v74).trips) (k0_t9 : Fin k0_t9_loop.trips) (v187 : IVec S16 32) : Prop :=
  (∀ (k0_h35 : k0_cond35 v74 = 1#1), ∀ (k0_h37 : k0_cond37 v74 k0_t7 k0_t9 = 1#1), ∀ a x, ((![v187] : Fin 1 → IVec S16 32) a x).toNat < S16.size a)
theorem k0_idx26_inb : ∀ (v74 : BitVec 32) (k0_t7 : Fin (k0_t7_loop v74).trips) (k0_t9 : Fin k0_t9_loop.trips) (v187 : IVec S16 32) (k0_hw61 : k0_chk61 v74 k0_t7 k0_t9 v187), ∀ (k0_h35 : k0_cond35 v74 = 1#1), ∀ (k0_h37 : k0_cond37 v74 k0_t7 k0_t9 = 1#1), ∀ a x, ((![v187] : Fin 1 → IVec S16 32) a x).toNat < S16.size a := fun v74 k0_t7 k0_t9 v187 k0_hw61 k0_h35 k0_h37 => k0_hw61 k0_h35 k0_h37

def k0_chk62 (v74 : BitVec 32) (k0_t7 : Fin (k0_t7_loop v74).trips) (k0_t9 : Fin k0_t9_loop.trips) (v196 : IVec S16 32) : Prop :=
  (∀ (k0_h35 : k0_cond35 v74 = 1#1), ∀ (k0_h37 : k0_cond37 v74 k0_t7 k0_t9 = 1#1), ∀ a x, ((![v196] : Fin 1 → IVec S16 32) a x).toNat < S16.size a)
theorem k0_idx27_inb : ∀ (v74 : BitVec 32) (k0_t7 : Fin (k0_t7_loop v74).trips) (k0_t9 : Fin k0_t9_loop.trips) (v196 : IVec S16 32) (k0_hw62 : k0_chk62 v74 k0_t7 k0_t9 v196), ∀ (k0_h35 : k0_cond35 v74 = 1#1), ∀ (k0_h37 : k0_cond37 v74 k0_t7 k0_t9 = 1#1), ∀ a x, ((![v196] : Fin 1 → IVec S16 32) a x).toNat < S16.size a := fun v74 k0_t7 k0_t9 v196 k0_hw62 k0_h35 k0_h37 => k0_hw62 k0_h35 k0_h37

def k0_chk63 (v74 : BitVec 32) (k0_t7 : Fin (k0_t7_loop v74).trips) (k0_t9 : Fin k0_t9_loop.trips) (v202 : IVec S16 32) : Prop :=
  (∀ (k0_h35 : k0_cond35 v74 = 1#1), ∀ (k0_h37 : k0_cond37 v74 k0_t7 k0_t9 = 1#1), ∀ a x, ((![v202] : Fin 1 → IVec S16 32) a x).toNat < S16.size a)
theorem k0_idx28_inb : ∀ (v74 : BitVec 32) (k0_t7 : Fin (k0_t7_loop v74).trips) (k0_t9 : Fin k0_t9_loop.trips) (v202 : IVec S16 32) (k0_hw63 : k0_chk63 v74 k0_t7 k0_t9 v202), ∀ (k0_h35 : k0_cond35 v74 = 1#1), ∀ (k0_h37 : k0_cond37 v74 k0_t7 k0_t9 = 1#1), ∀ a x, ((![v202] : Fin 1 → IVec S16 32) a x).toNat < S16.size a := fun v74 k0_t7 k0_t9 v202 k0_hw63 k0_h35 k0_h37 => k0_hw63 k0_h35 k0_h37

def k0_chk64 (v74 : BitVec 32) (k0_t7 : Fin (k0_t7_loop v74).trips) (k0_t9 : Fin k0_t9_loop.trips) (v211 : IVec S16 32) : Prop :=
  (∀ (k0_h35 : k0_cond35 v74 = 1#1), ∀ (k0_h37 : k0_cond37 v74 k0_t7 k0_t9 = 1#1), ∀ a x, ((![v211] : Fin 1 → IVec S16 32) a x).toNat < S16.size a)
theorem k0_idx29_inb : ∀ (v74 : BitVec 32) (k0_t7 : Fin (k0_t7_loop v74).trips) (k0_t9 : Fin k0_t9_loop.trips) (v211 : IVec S16 32) (k0_hw64 : k0_chk64 v74 k0_t7 k0_t9 v211), ∀ (k0_h35 : k0_cond35 v74 = 1#1), ∀ (k0_h37 : k0_cond37 v74 k0_t7 k0_t9 = 1#1), ∀ a x, ((![v211] : Fin 1 → IVec S16 32) a x).toNat < S16.size a := fun v74 k0_t7 k0_t9 v211 k0_hw64 k0_h35 k0_h37 => k0_hw64 k0_h35 k0_h37

def k0_chk65 (v74 : BitVec 32) (k0_t7 : Fin (k0_t7_loop v74).trips) (k0_t9 : Fin k0_t9_loop.trips) (v217 : IVec S16 32) : Prop :=
  (∀ (k0_h35 : k0_cond35 v74 = 1#1), ∀ (k0_h37 : k0_cond37 v74 k0_t7 k0_t9 = 1#1), ∀ a x, ((![v217] : Fin 1 → IVec S16 32) a x).toNat < S16.size a)
theorem k0_idx30_inb : ∀ (v74 : BitVec 32) (k0_t7 : Fin (k0_t7_loop v74).trips) (k0_t9 : Fin k0_t9_loop.trips) (v217 : IVec S16 32) (k0_hw65 : k0_chk65 v74 k0_t7 k0_t9 v217), ∀ (k0_h35 : k0_cond35 v74 = 1#1), ∀ (k0_h37 : k0_cond37 v74 k0_t7 k0_t9 = 1#1), ∀ a x, ((![v217] : Fin 1 → IVec S16 32) a x).toNat < S16.size a := fun v74 k0_t7 k0_t9 v217 k0_hw65 k0_h35 k0_h37 => k0_hw65 k0_h35 k0_h37

def k0_chk66 (v74 : BitVec 32) (k0_t7 : Fin (k0_t7_loop v74).trips) (k0_t9 : Fin k0_t9_loop.trips) (v226 : IVec S16 32) : Prop :=
  (∀ (k0_h35 : k0_cond35 v74 = 1#1), ∀ (k0_h37 : k0_cond37 v74 k0_t7 k0_t9 = 1#1), ∀ a x, ((![v226] : Fin 1 → IVec S16 32) a x).toNat < S16.size a)
theorem k0_idx31_inb : ∀ (v74 : BitVec 32) (k0_t7 : Fin (k0_t7_loop v74).trips) (k0_t9 : Fin k0_t9_loop.trips) (v226 : IVec S16 32) (k0_hw66 : k0_chk66 v74 k0_t7 k0_t9 v226), ∀ (k0_h35 : k0_cond35 v74 = 1#1), ∀ (k0_h37 : k0_cond37 v74 k0_t7 k0_t9 = 1#1), ∀ a x, ((![v226] : Fin 1 → IVec S16 32) a x).toNat < S16.size a := fun v74 k0_t7 k0_t9 v226 k0_hw66 k0_h35 k0_h37 => k0_hw66 k0_h35 k0_h37

def k0_chk67 (v74 : BitVec 32) (k0_t7 : Fin (k0_t7_loop v74).trips) (k0_t9 : Fin k0_t9_loop.trips) (v232 : IVec S16 32) : Prop :=
  (∀ (k0_h35 : k0_cond35 v74 = 1#1), ∀ (k0_h37 : k0_cond37 v74 k0_t7 k0_t9 = 1#1), ∀ a x, ((![v232] : Fin 1 → IVec S16 32) a x).toNat < S16.size a)
theorem k0_idx32_inb : ∀ (v74 : BitVec 32) (k0_t7 : Fin (k0_t7_loop v74).trips) (k0_t9 : Fin k0_t9_loop.trips) (v232 : IVec S16 32) (k0_hw67 : k0_chk67 v74 k0_t7 k0_t9 v232), ∀ (k0_h35 : k0_cond35 v74 = 1#1), ∀ (k0_h37 : k0_cond37 v74 k0_t7 k0_t9 = 1#1), ∀ a x, ((![v232] : Fin 1 → IVec S16 32) a x).toNat < S16.size a := fun v74 k0_t7 k0_t9 v232 k0_hw67 k0_h35 k0_h37 => k0_hw67 k0_h35 k0_h37
def k0_off53 (i : grid0.Coords) (v114 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v115 : BitVec 32 := Scalar.subi v114 v2
  let c0_i32_39 : BitVec 32 := 0#32
  let v117 : BitVec 1 := Scalar.cmpi .sgt v115 c0_i32_39
  let v118 : BitVec 32 := Scalar.extui v117
  let c0_i32_40 : BitVec 32 := 0#32
  let v119 : BitVec 1 := Scalar.cmpi .slt v115 c0_i32_40
  let v120 : BitVec 32 := Scalar.extui v119
  let v121 : BitVec 32 := Scalar.subi v118 v120
  let c16_i32_38 : BitVec 32 := 16#32
  let c0_i32_41 : BitVec 32 := 0#32
  let v122 : BitVec 1 := Scalar.cmpi .sgt c16_i32_38 c0_i32_41
  let v123 : BitVec 32 := Scalar.extui v122
  let c0_i32_42 : BitVec 32 := 0#32
  let v124 : BitVec 1 := Scalar.cmpi .slt c16_i32_38 c0_i32_42
  let v125 : BitVec 32 := Scalar.extui v124
  let v126 : BitVec 32 := Scalar.subi v123 v125
  let v127 : BitVec 1 := Scalar.cmpi .ne v121 v126
  let v128 : BitVec 32 := Scalar.remsi v115 c16_i32_38
  let c0_i32_43 : BitVec 32 := 0#32
  let v129 : BitVec 1 := Scalar.cmpi .ne v128 c0_i32_43
  let v130 : BitVec 1 := Scalar.andi v127 v129
  let v116 : BitVec 32 := Scalar.divsi v115 c16_i32_38
  let c1_i32_44 : BitVec 32 := 1#32
  let v131 : BitVec 32 := Scalar.subi v116 c1_i32_44
  let v132 : BitVec 32 := Scalar.select v130 v131 v116
  let c16_i32_45 : BitVec 32 := 16#32
  let v133 : BitVec 32 := Scalar.muli v132 c16_i32_45
  let v244 : Index := Scalar.indexCast v133
  ![v244.toNat]

def k0_chk55 (i : grid0.Coords) (v74 : BitVec 32) (k0_t7 : Fin (k0_t7_loop v74).trips) (k0_t9 : Fin k0_t9_loop.trips) (v114 : BitVec 32) : Prop :=
  (∀ (k0_h35 : k0_cond35 v74 = 1#1), ∀ (k0_h37 : k0_cond37 v74 k0_t7 k0_t9 = 1#1), ∀ a, (k0_off51 i v114) a + S16.size a ≤ S256.size a) ∧
  (∀ (k0_h35 : k0_cond35 v74 = 1#1), ∀ (k0_h37 : k0_cond37 v74 k0_t7 k0_t9 = 1#1), ∀ a, (k0_off53 i v114) a + S16.size a ≤ S256.size a)
theorem k0_off51_inb : ∀ (i : grid0.Coords) (v74 : BitVec 32) (k0_t7 : Fin (k0_t7_loop v74).trips) (k0_t9 : Fin k0_t9_loop.trips) (v114 : BitVec 32) (k0_hw55 : k0_chk55 i v74 k0_t7 k0_t9 v114), ∀ (k0_h35 : k0_cond35 v74 = 1#1), ∀ (k0_h37 : k0_cond37 v74 k0_t7 k0_t9 = 1#1), ∀ a, (k0_off51 i v114) a + S16.size a ≤ S256.size a := fun i v74 k0_t7 k0_t9 v114 k0_hw55 k0_h35 k0_h37 => k0_hw55.1 k0_h35 k0_h37
theorem k0_off53_inb : ∀ (i : grid0.Coords) (v74 : BitVec 32) (k0_t7 : Fin (k0_t7_loop v74).trips) (k0_t9 : Fin k0_t9_loop.trips) (v114 : BitVec 32) (k0_hw55 : k0_chk55 i v74 k0_t7 k0_t9 v114), ∀ (k0_h35 : k0_cond35 v74 = 1#1), ∀ (k0_h37 : k0_cond37 v74 k0_t7 k0_t9 = 1#1), ∀ a, (k0_off53 i v114) a + S16.size a ≤ S256.size a := fun i v74 k0_t7 k0_t9 v114 k0_hw55 k0_h35 k0_h37 => k0_hw55.2 k0_h35 k0_h37

def k0_off54 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "floor" => some ⊥
  | _ => none
-- ==== ReferenceIdeal.lean ====
abbrev S8192 : Shape := ⟨1, ![8192]⟩
abbrev S8192x2048 : Shape := ⟨2, ![8192, 2048]⟩
abbrev S100000x2 : Shape := ⟨2, ![100000, 2]⟩
abbrev S_ : Shape := ⟨0, ![]⟩
abbrev S8192x1 : Shape := ⟨2, ![8192, 1]⟩
abbrev S8192x2 : Shape := ⟨2, ![8192, 2]⟩

abbrev nBuf : Space → Nat
  | .hbm => 77
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192, .f32⟩
  | .hbm, ⟨3, _⟩ => ⟨S8192x2048, .f32⟩
  | .hbm, ⟨4, _⟩ => ⟨S8192x2048, .f32⟩
  | .hbm, ⟨5, _⟩ => ⟨S100000x2, .f32⟩
  | .hbm, ⟨6, _⟩ => ⟨S100000x2, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x2, .f32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192x2, .f32⟩
  | .hbm, ⟨25, _⟩ => ⟨S8192x2, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192, .i1⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192x1, .f32⟩
  | .hbm, ⟨43, _⟩ => ⟨S8192x2048, .f32⟩
  | .hbm, ⟨44, _⟩ => ⟨S8192x2048, .i1⟩
  | .hbm, ⟨45, _⟩ => ⟨S8192x2048, .i32⟩
  | .hbm, ⟨46, _⟩ => ⟨S_, .i32⟩
  | .hbm, ⟨47, _⟩ => ⟨S_, .i32⟩
  | .hbm, ⟨48, _⟩ => ⟨S8192x2048, .i32⟩
  | .hbm, ⟨49, _⟩ => ⟨S_, .i32⟩
  | .hbm, ⟨50, _⟩ => ⟨S8192, .i32⟩
  | .hbm, ⟨51, _⟩ => ⟨S8192x1, .i32⟩
  | .hbm, ⟨52, _⟩ => ⟨S8192x2048, .i32⟩
  | .hbm, ⟨53, _⟩ => ⟨S8192x2048, .i32⟩
  | .hbm, ⟨54, _⟩ => ⟨S_, .i32⟩
  | .hbm, ⟨55, _⟩ => ⟨S8192x2048, .i32⟩
  | .hbm, ⟨56, _⟩ => ⟨S8192x2048, .i1⟩
  | .hbm, ⟨57, _⟩ => ⟨S8192x2048, .i1⟩
  | .hbm, ⟨58, _⟩ => ⟨S_, .i1⟩
  | .hbm, ⟨59, _⟩ => ⟨S8192, .i1⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_call1_call0_c : Ref sig .tc := ⟨.hbm, 46, rfl⟩
abbrev main_call1_call0_v0 : Ref sig .tc := ⟨.hbm, 47, rfl⟩
abbrev main_v21 : Ref sig .tc := ⟨.hbm, 48, rfl⟩
abbrev main_c_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_cst_6 : Ref sig .tc := ⟨.hbm, 60, rfl⟩
abbrev main_call2_v0 : Ref sig .tc := ⟨.hbm, 61, rfl⟩
abbrev main_v30 : Ref sig .tc := ⟨.hbm, 62, rfl⟩
abbrev main_cst_7 : Ref sig .tc := ⟨.hbm, 63, rfl⟩
abbrev main_v31 : Ref sig .tc := ⟨.hbm, 64, rfl⟩
abbrev main_v32 : Ref sig .tc := ⟨.hbm, 65, rfl⟩
abbrev main_cst_8 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_9 : Ref sig .tc := ⟨.hbm, 71, rfl⟩
abbrev main_v37 : Ref sig .tc := ⟨.hbm, 72, rfl⟩
abbrev main_v38 : Ref sig .tc := ⟨.hbm, 73, rfl⟩
abbrev main_cst_10 : Ref sig .tc := ⟨.hbm, 74, rfl⟩
abbrev main_v39 : Ref sig .tc := ⟨.hbm, 75, rfl⟩
abbrev main_v40 : Ref sig .tc := ⟨.hbm, 76, rfl⟩

abbrev nD : Nat := 1
abbrev τ : Topo := Topo.v7x

variable {F : FTy → Type} [FloatOps F]
-- ==== Proof.Setup.lean ====
/- The program as the SparseCore launch theorem sees it: its labels, the resource algebra, the buffers a task holds
   and the pieces of the operands each of the thirty-two tasks is handed. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.Tpp

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The model's resources, over this program's names. -/
abbrev MM (F : FTy → Type) := MT nD τ sig (HIx 1) (Elt F) ℕ UU ℕ

abbrev EH : Emb UH (MM F) := embL

/-! ## The buffers -/

abbrev tLoc (d : Dev nD) : Loc nD τ sig := (SparseCore.T d).loc main_arg2
abbrev pLoc (d : Dev nD) : Loc nD τ sig := (SparseCore.T d).loc main_arg4
abbrev aLoc (d : Dev nD) : Loc nD τ sig := (SparseCore.T d).loc main_v2
abbrev oLoc (d : Dev nD) : Loc nD τ sig := (SparseCore.T d).loc main_v3

abbrev tV : Memref sig .scVector .hbm S8192 .f32 := Memref.whole main_arg2_scv
abbrev pV : Memref sig .scVector .hbm S8192x2048 .f32 := Memref.whole main_arg4_scv
abbrev aV : Memref sig .scVector .hbm S32x64x256 .f32 := Memref.whole main_v2_scv
abbrev oV : Memref sig .scVector .hbm S8192 .f32 := Memref.whole main_v3_scv
abbrev s0V : Memref sig .scVector .vmem S64x256 .f32 := Memref.whole cc0_scratch0
abbrev s1V : Memref sig .scVector .vmem S256 .f32 := Memref.whole cc0_scratch1
abbrev s2V : Memref sig .scVector .vmem S256 .f32 := Memref.whole cc0_scratch2
abbrev s3V : Memref sig .scVector .vmem S272 .i32 := Memref.whole cc0_scratch3
abbrev s4V : Memref sig .scVector .vmem S16x2048 .f32 := Memref.whole cc0_scratch4
abbrev s5V : Memref sig .scVector .vmem S16 .i32 := Memref.whole cc0_scratch5
abbrev s6V : Memref sig .scVector .vmem S16 .f32 := Memref.whole cc0_scratch6

/-- The SparseCore and the subcore a task runs on, from its grid coordinates. -/
abbrev cV (L : grid0.Coords) : Fin τ.nSC := (L 0).castLE hcore0
abbrev jV (L : grid0.Coords) : Fin τ.nSub := (L 1).castLE hsub0
/-- The task's thread on device `d`. -/
abbrev thr (d : Dev nD) (L : grid0.Coords) : Thread nD τ := V d (cV L) (jV L)

/-- A scratch buffer held whole, at the contents `f`. -/
abbrev hold {sp : Space} {s : Shape} {e : EltTy} (d : Dev nD) (L : grid0.Coords) (M : Memref sig .scVector sp s e)
    (f : Buf (Elt F) (M.view.loc (thr d L))) : sProp (MM F) := M.view.loc (thr d L) ↦{fullShare} f

/-! ## A program run on a task's thread -/

section Run
variable [FloatOps F] [Named F] (d : Dev nD) (L : grid0.Coords)

/-- The weakest precondition of a program on the task's thread. -/
abbrev wpT {α : Type} (p : Prog (TpuEff nD τ sig (Elt F) Λ₀ (thr d L).2) α) (Q : α → sProp (MM F)) : sProp (MM F) :=
  wp frame (wpE (defs₀ (F := F)) 𝒱₀ (thr d L) none) Set.univ p Q

/-- A run proved on its own, used at the head of a longer program. -/
theorem wp_use {α β : Type} {p : Prog (TpuEff nD τ sig (Elt F) Λ₀ (thr d L).2) α}
    {k : α → Prog (TpuEff nD τ sig (Elt F) Λ₀ (thr d L).2) β} {P : sProp (MM F)} {R : α → sProp (MM F)} {Q : β → sProp (MM F)}
    (h : P ⊢ wpT d L p R) : P ⊢ iprop((∀ a, R a -∗ wpT d L (k a) Q) -∗ wpT d L (p >>= k) Q) := by
  refine BI.Entails.trans h ?_
  unfold wpT; rw [wp_bind]
  exact wp_wand frame _ _

/-- The same run with its postcondition weakened by what the continuation asks. -/
theorem wp_done {α : Type} {p : Prog (TpuEff nD τ sig (Elt F) Λ₀ (thr d L).2) α}
    {P : sProp (MM F)} {R Q : α → sProp (MM F)}
    (h : P ⊢ wpT d L p R) : P ⊢ iprop((∀ a, R a -∗ Q a) -∗ wpT d L p Q) :=
  BI.Entails.trans h (wp_wand frame _ _)

/-- A program that only returns runs to what holds of its value. -/
theorem wp_value {α : Type} (a : α) {P : sProp (MM F)} {Q : α → sProp (MM F)} (h : P ⊢ Q a) :
    P ⊢ wpT (F := F) d L (.ret a) Q := by
  unfold wpT; rw [wp_ret]
  iintro H
  ihave H2 := h $$ H
  imodintro
  iexact H2

/-- A counted loop run by an invariant. -/
theorem wp_loop {σ : Type} (l : Scf.Loop 32) (hok : l.OK) (init : σ) (body : Fin l.trips → σ → Prog (TpuEff nD τ sig (Elt F) Λ₀ (thr d L).2) σ)
    (I : ℕ → σ → sProp (MM F)) {P : sProp (MM F)} (h0 : P ⊢ I 0 init)
    (hbody : ∀ (k : Fin l.trips) acc, I k.val acc ⊢ wpT d L (body k acc) (I (k.val + 1))) :
    P ⊢ wpT (F := F) d L (Scf.Loop.for l hok init body) (I l.trips) := by
  iintro H
  iapply (Scf.wp_for frame (wpE (defs₀ (F := F)) 𝒱₀ (thr d L) none) Set.univ l.lb l.ub l.st hok init body I hbody)
  isplitl
  · iapply h0; iexact H
  · iintro %acc H; iexact H

end Run

end Cert.Proof.Tpp

end
-- ==== Proof.Spec.lean ====
/- What a task computes, as plain functions over any float instance: which of its 256 rows the last 64 columns
   already settle, the list of the rows they do not, and the value each row ends at. -/
module

public import proofs.«01_k».proof.Proof.Setup
public import Idealize.ShloMosaic.Lib.VecWindow

@[expose] public section

noncomputable section

namespace Cert.Proof.Tpp

open Cert.KernelIdeal Cert.KernelIdeal.Gen
open Idealize.ShloMosaic

/-! ## Indices -/

def i16 (n : ℕ) : S16.Idx := fun | 0 => ⟨n % 16, Nat.mod_lt _ (by decide)⟩
def i256 (n : ℕ) : S256.Idx := fun | 0 => ⟨n % 256, Nat.mod_lt _ (by decide)⟩
def i272 (n : ℕ) : S272.Idx := fun | 0 => ⟨n % 272, Nat.mod_lt _ (by decide)⟩
def i8192 (n : ℕ) : S8192.Idx := fun | 0 => ⟨n % 8192, Nat.mod_lt _ (by decide)⟩
def i64x256 (c r : ℕ) : S64x256.Idx := fun | 0 => ⟨c % 64, Nat.mod_lt _ (by decide)⟩ | 1 => ⟨r % 256, Nat.mod_lt _ (by decide)⟩
def i16x2048 (j c : ℕ) : S16x2048.Idx := fun | 0 => ⟨j % 16, Nat.mod_lt _ (by decide)⟩ | 1 => ⟨c % 2048, Nat.mod_lt _ (by decide)⟩
def i8192x2048 (r c : ℕ) : S8192x2048.Idx := fun | 0 => ⟨r % 8192, Nat.mod_lt _ (by decide)⟩ | 1 => ⟨c % 2048, Nat.mod_lt _ (by decide)⟩

/-- Two indices of a one-axis shape agree when their one coordinate does. -/
theorem ext1 {n : ℕ} {i j : (⟨1, ![n]⟩ : Shape).Idx} (h : (i 0).val = (j 0).val) : i = j :=
  funext fun | 0 => Fin.ext h
/-- Two indices of a two-axis shape agree when their coordinates do. -/
theorem ext2 {n k : ℕ} {i j : (⟨2, ![n, k]⟩ : Shape).Idx} (h : (i 0).val = (j 0).val) (h' : (i 1).val = (j 1).val) : i = j :=
  funext fun | 0 => Fin.ext h | 1 => Fin.ext h'

theorem lane_lt (x : S16.Idx) : (x 0).val < 16 := (x 0).isLt
theorem i16_val {n : ℕ} (h : n < 16) : ((i16 n) 0).val = n := Nat.mod_eq_of_lt h
theorem i256_val {n : ℕ} (h : n < 256) : ((i256 n) 0).val = n := Nat.mod_eq_of_lt h
theorem i272_val {n : ℕ} (h : n < 272) : ((i272 n) 0).val = n := Nat.mod_eq_of_lt h
theorem i16_self (x : S16.Idx) : i16 (x 0).val = x := ext1 (i16_val (lane_lt x))
theorem i272_self (x : S272.Idx) : i272 (x 0).val = x := ext1 (i272_val (x 0).isLt)
theorem i256_self (x : S256.Idx) : i256 (x 0).val = x := ext1 (i256_val (x 0).isLt)

/-- Putting sixteen words at offset `off` of a one-axis array, entry by entry. -/
theorem put16_apply {n : ℕ} {α : Type} (x : (⟨1, ![n]⟩ : Shape).Idx → α) (off : Fin 1 → ℕ) (w : S16.Idx → α) (i : (⟨1, ![n]⟩ : Shape).Idx) :
    VecWindow.put x off S16.size w i = if off 0 ≤ (i 0).val ∧ (i 0).val < off 0 + 16 then w (i16 ((i 0).val - off 0)) else x i := by
  unfold VecWindow.put
  by_cases h : off 0 ≤ (i 0).val ∧ (i 0).val < off 0 + 16
  · have h' : ∀ a : Fin 1, off a ≤ (i a).val ∧ (i a).val < off a + S16.size a := fun | 0 => h
    rw [dif_pos h', if_pos h]
    have e : ((i16 ((i 0).val - off 0)) 0).val = (i 0).val - off 0 := i16_val (by omega)
    exact congrArg w (funext fun | 0 => Fin.ext e.symm)
  · have h' : ¬ ∀ a : Fin 1, off a ≤ (i a).val ∧ (i a).val < off a + S16.size a := fun h' => h (h' 0)
    rw [dif_neg h', if_neg h]

section Values
variable {F : FTy → Type} [FloatOps F] [Named F]

/-! ## The last 64 columns -/

/-- One column's step: the value seen, when it is at most the row's `t`; else what was kept. -/
def pick (t x acc : F .f32) : F .f32 := Scalar.select (FloatOps.cmpf .ole x t) x acc
/-- The start of the running value: a word above every value looked for. -/
def sent : F .f32 := Scalar.ofBits .f32 0x7F7FC99E#32
/-- The running value of row `r` after the first `n` of the last 64 columns. -/
def colFold (A : ℕ → ℕ → F .f32) (T : ℕ → F .f32) (r : ℕ) : ℕ → F .f32
  | 0 => sent
  | n + 1 => pick (T r) (A n r) (colFold A T r n)
/-- Whether the running value says the row is settled: it fell below the threshold. -/
def hit (v : F .f32) : BitVec 1 := FloatOps.cmpf .olt v (Scalar.ofBits .f32 0x7E967699#32)
/-- A row's decay `exp (0 − (t − v))` from its time and the last time at or before it. -/
def decay (t v : F .f32) : F .f32 := FloatOps.exp (FloatOps.subf (Scalar.ofBits .f32 0x00000000#32) (FloatOps.subf t v))
/-- The zero word. -/
def zro : F .f32 := Scalar.ofBits .f32 0x00000000#32
/-- The first pass's word for a row. -/
def first (A : ℕ → ℕ → F .f32) (T : ℕ → F .f32) (r : ℕ) : F .f32 :=
  Scalar.select (hit (colFold A T r 64)) (decay (T r) (colFold A T r 64)) zro
/-- 0 for a settled row, 1 for one left to the second pass. -/
def missW (A : ℕ → ℕ → F .f32) (T : ℕ → F .f32) (r : ℕ) : BitVec 32 :=
  Scalar.select (hit (colFold A T r 64)) 0#32 1#32

theorem missW_cases (A : ℕ → ℕ → F .f32) (T : ℕ → F .f32) (r : ℕ) : missW A T r = 0#32 ∨ missW A T r = 1#32 := by
  unfold missW Scalar.select; split <;> simp

end Values

/-! ## The list of rows left -/

/-- The list after rows `0 … b-1`, `c` rows of it left over: every word names one of the task's rows, the first `c`
    words name rows below `b` the first pass left, and every such row is among them. -/
structure Listed (base : ℕ) (W : ℕ → BitVec 32) (c b : ℕ) (g : S272.Idx → BitVec 32) : Prop where
  le : c ≤ b
  word : ∀ i, ∃ e < 256, g i = BitVec.ofNat 32 (base + e)
  sound : ∀ i < c, ∃ e < b, W e = 1#32 ∧ g (i272 i) = BitVec.ofNat 32 (base + e)
  compl : ∀ e < b, W e = 1#32 → ∃ i < c, g (i272 i) = BitVec.ofNat 32 (base + e)

theorem Listed.skip {base : ℕ} {W : ℕ → BitVec 32} {c b : ℕ} {g : S272.Idx → BitVec 32} (h : Listed base W c b g) (hW : W b = 0#32) :
    Listed base W c (b + 1) g where
  le := Nat.le_succ_of_le h.le
  word := h.word
  sound i hi := let ⟨e, he, h'⟩ := h.sound i hi; ⟨e, Nat.lt_succ_of_lt he, h'⟩
  compl e he hw := by
    rcases Nat.lt_succ_iff_lt_or_eq.mp he with h' | rfl
    · exact h.compl e h' hw
    · rw [hW] at hw; exact absurd hw (by decide)

theorem Listed.skips {base : ℕ} {W : ℕ → BitVec 32} {c b : ℕ} {g : S272.Idx → BitVec 32} (h : Listed base W c b g) (n : ℕ)
    (hW : ∀ k < n, W (b + k) = 0#32) : Listed base W c (b + n) g := by
  induction n with
  | zero => exact h
  | succ n ih => exact (ih fun k hk => hW k (Nat.lt_succ_of_lt hk)).skip (hW n (Nat.lt_succ_self n))

theorem Listed.add {base : ℕ} {W : ℕ → BitVec 32} {c b : ℕ} {g : S272.Idx → BitVec 32} (h : Listed base W c b g) (hW : W b = 1#32)
    (hb : b < 256) (w : S16.Idx → BitVec 32) (off : Fin 1 → ℕ) (hoff : off 0 = c)
    (hw : ∀ x, w x = if (x 0).val = 0 then BitVec.ofNat 32 (base + b) else g (i272 (c + (x 0).val))) :
    Listed base W (c + 1) (b + 1) (VecWindow.put (s := S272) g off S16.size w) := by
  have hc := h.le
  have key : ∀ i : S272.Idx, VecWindow.put (s := S272) g off S16.size w i
      = if (i 0).val = c then BitVec.ofNat 32 (base + b) else g i := by
    intro i
    rw [put16_apply, hoff]
    by_cases hi : c ≤ (i 0).val ∧ (i 0).val < c + 16
    · rw [if_pos hi, hw, i16_val (by omega)]
      by_cases h0 : (i 0).val = c
      · rw [if_pos (by omega), if_pos h0]
      · rw [if_neg (by omega), if_neg h0, show c + ((i 0).val - c) = (i 0).val by omega, i272_self]
    · rw [if_neg hi, if_neg (by omega)]
  refine ⟨Nat.succ_le_succ hc, fun i => ?_, fun i hi => ?_, fun e he hw' => ?_⟩
  · rw [key]; split
    · exact ⟨b, hb, rfl⟩
    · exact h.word i
  · rw [key, i272_val (by omega)]
    by_cases h0 : i = c
    · rw [if_pos h0]; exact ⟨b, Nat.lt_succ_self b, hW, rfl⟩
    · rw [if_neg h0]
      obtain ⟨e, he, h'⟩ := h.sound i (by omega)
      exact ⟨e, Nat.lt_succ_of_lt he, h'⟩
  · rcases Nat.lt_succ_iff_lt_or_eq.mp he with he' | rfl
    · obtain ⟨i, hi, h'⟩ := h.compl e he' hw'
      exact ⟨i, Nat.lt_succ_of_lt hi, by rw [key, i272_val (by omega), if_neg (by omega), h']⟩
    · exact ⟨c, Nat.lt_succ_self c, by rw [key, i272_val (by omega), if_pos rfl]⟩

end Cert.Proof.Tpp

end
-- ==== Proof.Slots.lean ====
/- One row's slot of the list of rows left over: when the first pass left the row, its number is stored at the list's
   next place and the count goes up by one; else nothing. -/
module

public import proofs.«01_k».proof.Proof.Spec

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F] (d : Dev nD) (L : grid0.Coords)

/-- What the kernel tests of a word: whether it is positive. -/
def posC (w : BitVec 32) : BitVec 1 := Scalar.cmpi .ne (Scalar.extui (Scalar.cmpi .sgt w 0#32) : BitVec 32) 0#32

theorem posC_zero : ¬ posC 0#32 = 1#1 := by decide
theorem posC_one : posC 1#32 = 1#1 := by decide

/-- The words a slot stores: the row's number in lane 0, elsewhere what the list held. -/
def slotW (v9 : IVec S16 32) (n : BitVec 32) (v : IVec S16 32) : IVec S16 32 :=
  shapeCast S16 (select (cmpi .eq v9 (broadcast S16 0#32)) (broadcast S16 n) (shapeCast S16 v shapeCasts_S16_S16)) shapeCasts_S16_S16

theorem shapeCast_self16 {α : Type} (x : S16.Idx → α) (i : S16.Idx) : shapeCast S16 x shapeCasts_S16_S16 i = x i := by
  unfold shapeCast
  exact congrArg x (by rw [Shape.reshapeEquiv_self])

/-- A lane's own number, as the kernel's lane counter holds it. -/
def IsLanes (v9 : IVec S16 32) : Prop := ∀ x, v9 x = BitVec.ofNat 32 (x 0).val

theorem slotW_apply {v9 : IVec S16 32} (h9 : IsLanes v9) (n : BitVec 32) (v : IVec S16 32) (x : S16.Idx) :
    slotW v9 n v x = if (x 0).val = 0 then n else v x := by
  unfold slotW
  rw [shapeCast_self16]
  show Scalar.select (IntOp.cmpi .eq (v9 x) 0#32) n (shapeCast S16 v shapeCasts_S16_S16 x) = _
  rw [h9, shapeCast_self16]
  have hx := lane_lt x
  have hc : ∀ k < 16, IntOp.cmpi .eq (BitVec.ofNat 32 k) 0#32 = if k = 0 then 1#1 else 0#1 := by decide
  rw [hc _ hx]
  unfold Scalar.select
  by_cases h : (x 0).val = 0 <;> simp [h]

/-- Sixteen words of the list loaded at `off`. -/
theorem list_read (off : Fin 1 → ℕ) (inb : ∀ a, off a + S16.size a ≤ S272.size a) (g : S272.Idx → BitVec 32) (x : S16.Idx) :
    (s3V.view.readAt (Elt F) (Rect.unit (s := S272) off S16.size inb).toLoadRect g : S16.Idx → BitVec 32) x = g (i272 (off 0 + (x 0).val)) := by
  have h := inb 0
  have h' : off 0 + 16 ≤ 272 := h
  have hx := lane_lt x
  show g _ = g _
  exact congrArg g (ext1 (by
    rw [i272_val (by omega)]
    show off 0 + 1 * (x 0).val = _
    omega))

/-- Sixteen words of the list stored at `off`. -/
theorem list_write (off : Fin 1 → ℕ) (inb : ∀ a, off a + S16.size a ≤ S272.size a) (g : S272.Idx → BitVec 32) (w : S16.Idx → BitVec 32) :
    (View.write (Elt F) (s3V.access (Rect.unit (s := S272) off S16.size inb)) g w Finset.univ : S272.Idx → BitVec 32)
      = VecWindow.put (s := S272) g off S16.size w :=
  View.read_writes_cons_put (Val := Elt F) s3V.view g inb w [] (off' := off) rfl

theorem wp_slot {chk : Prop} {dec : Decidable chk} {w run n : BitVec 32} {off : Fin 1 → ℕ}
    {inb : chk → posC w = 1#1 → ∀ a, off a + S16.size a ≤ S272.size a}
    {v9 : IVec S16 32} {pay : Vec F S16 .i32 → IVec S16 32}
    {hl₁ : ∀ (h : chk) (h' : posC w = 1#1), s3V.view.LoadsAt (Rect.unit (s := S272) off S16.size (inb h h')).toLoadRect}
    {hl₂ : ∀ (h : chk) (h' : posC w = 1#1), s3V.view.LoadsAt (Rect.unit (s := S272) off S16.size (inb h h')).toLoadRect}
    {hx : ∀ (h : chk) (h' : posC w = 1#1), (s3V.access (Rect.unit (s := S272) off S16.size (inb h h'))).Stores Finset.univ}
    {hm : ∀ (h : chk) (h' : posC w = 1#1), (Finset.univ : Finset (Rect.unit (s := S272) off S16.size (inb h h')).shape.Idx) = Finset.univ
      ∨ ∀ a, (Rect.unit (s := S272) off S16.size (inb h h')).stride a = 1}
    {α : Type} {kk : Prog (TpuEff nD τ sig (Elt F) Λ₀ (thr d L).2) α} {Q : α → sProp (MM F)}
    {base b : ℕ} {W : ℕ → BitVec 32} {g : S272.Idx → BitVec 32}
    (h9 : IsLanes v9) (hL : Listed base W run.toNat b g) (hb : b < 256) (hw : w = W b) (hW : W b = 0#32 ∨ W b = 1#32)
    (hoff : off 0 = run.toNat) (hn : n = BitVec.ofNat 32 (base + b)) (hpay : ∀ v, pay v = slotW v9 n v)
    (hchk : (posC w = 1#1 → ∀ a, off a + S16.size a ≤ S272.size a) → chk) :
    hold (F := F) d L s3V g ⊢ iprop((∀ g' : S272.Idx → BitVec 32, ⌜Listed base W (Scalar.addi run w).toNat (b + 1) g'⌝ -∗ hold d L s3V g' -∗ wpT d L kk Q)
      -∗ wpT d L (Prog.lift (TpuEff.assume chk dec) >>= fun x => dite (posC w = 1#1)
        (fun hc => Prog.lift (.load s3V (Rect.unit (s := S272) off S16.size (inb x.down hc)).toLoadRect (hl₁ x.down hc)) >>= fun v =>
          Prog.lift (.load s3V (Rect.unit (s := S272) off S16.size (inb x.down hc)).toLoadRect (hl₂ x.down hc)) >>= fun _ =>
          Prog.lift (.store s3V (Rect.unit (s := S272) off S16.size (inb x.down hc)) (pay v) Finset.univ (hx x.down hc) (hm x.down hc)) >>= fun _ => kk)
        (fun _ => kk)) Q) := by
  have hc0 := hL.le
  have hin0 : off 0 + 16 ≤ 272 := by rw [hoff]; omega
  have hin : ∀ a, off a + S16.size a ≤ S272.size a := fun | 0 => hin0
  have hk : chk := hchk fun _ => hin
  show _ ⊢ iprop(_ -∗ wpT d L (.op (.assume chk dec) _) Q)
  unfold wpT
  rw [wp_assume_of 𝒱₀ (thr d L) none Set.univ hk]
  by_cases hc : posC w = 1#1
  · have hw1 : W b = 1#32 := by
      rcases hW with h | h
      · rw [hw, h] at hc; exact absurd hc posC_zero
      · exact h
    have hw' : w = 1#32 := hw.trans hw1
    show _ ⊢ iprop(_ -∗ wp _ _ _ (dite (posC w = 1#1) _ _) Q)
    rw [dif_pos hc]
    iintro H Hk
    iapply (wp_load 𝒱₀ (thr d L) none Set.univ (m := s3V) (S := Finset.univ) (Finset.subset_univ _)) $$ H; iintro H
    iapply (wp_load 𝒱₀ (thr d L) none Set.univ (m := s3V) (S := Finset.univ) (Finset.subset_univ _)) $$ H; iintro H
    ihave H2 := (Entails.of_eq rfl : (s3V.view.loc (thr d L) ↦{fullShare} g : sProp (MM F))
      ⊢ ((s3V.access (Rect.unit (s := S272) off S16.size hin)).loc (thr d L) ↦{fullShare} g)) $$ H
    iapply (wp_store 𝒱₀ (thr d L) none Set.univ (m := s3V) (r := Rect.unit (s := S272) off S16.size hin) (Mk := Finset.univ) (S := Finset.univ) (Finset.subset_univ _)) $$ H2; iintro H
    iapply Hk $$ [] H
    ipureintro
    have hr : (Scalar.addi run w).toNat = run.toNat + 1 := by
      rw [hw']
      show (run + 1#32).toNat = _
      rw [BitVec.toNat_add]
      simp only [BitVec.toNat_ofNat]
      omega
    rw [hr]
    have key := hL.add hw1 hb (slotW v9 n (s3V.view.readAt (Elt F) (Rect.unit (s := S272) off S16.size hin).toLoadRect g)) off hoff
      (fun x => by rw [slotW_apply h9, list_read, hoff, hn])
    rw [hpay]
    exact (list_write (F := F) off hin g _).symm ▸ key
  · have hw0 : W b = 0#32 := by
      rcases hW with h | h
      · exact h
      · rw [hw, h] at hc; exact absurd posC_one hc
    show _ ⊢ iprop(_ -∗ wp _ _ _ (dite (posC w = 1#1) _ _) Q)
    rw [dif_neg hc]
    iintro H Hk
    iapply Hk $$ [] H
    ipureintro
    have hr : Scalar.addi run w = run := by
      rw [hw, hw0]; exact BitVec.add_zero run
    rw [hr]
    exact hL.skip hw0

/-- What the slots of one group of sixteen rows read: the lanes, the group's words, and the number a row is stored as. -/
structure Group (v9 : IVec S16 32) (v2 v78 : BitVec 32) (words : IVec S16 32) (base b0 : ℕ) (W : ℕ → BitVec 32) : Prop where
  h9 : IsLanes v9
  hv : ∀ x, words x = W (b0 + (x 0).val)
  hW : ∀ e, W e = 0#32 ∨ W e = 1#32
  num : ∀ k < 16, Scalar.addi (Scalar.addi v2 v78) (BitVec.ofNat 32 k) = BitVec.ofNat 32 (base + (b0 + k))
  hb : b0 + 16 ≤ 256

/-- Slot `k` of a group, the rest of what is held carried along. -/
theorem wp_slotG {v9 : IVec S16 32} {v2 v78 : BitVec 32} {words : IVec S16 32} {base b0 : ℕ} {W : ℕ → BitVec 32}
    (G : Group v9 v2 v78 words base b0 W) (k : ℕ) (hk : k < 16)
    {chk : Prop} {dec : Decidable chk} {w run : BitVec 32} {off : Fin 1 → ℕ}
    {inb : chk → posC w = 1#1 → ∀ a, off a + S16.size a ≤ S272.size a} {pay : Vec F S16 .i32 → IVec S16 32}
    {hl₁ : ∀ (h : chk) (h' : posC w = 1#1), s3V.view.LoadsAt (Rect.unit (s := S272) off S16.size (inb h h')).toLoadRect}
    {hl₂ : ∀ (h : chk) (h' : posC w = 1#1), s3V.view.LoadsAt (Rect.unit (s := S272) off S16.size (inb h h')).toLoadRect}
    {hx : ∀ (h : chk) (h' : posC w = 1#1), (s3V.access (Rect.unit (s := S272) off S16.size (inb h h'))).Stores Finset.univ}
    {hm : ∀ (h : chk) (h' : posC w = 1#1), (Finset.univ : Finset (Rect.unit (s := S272) off S16.size (inb h h')).shape.Idx) = Finset.univ
      ∨ ∀ a, (Rect.unit (s := S272) off S16.size (inb h h')).stride a = 1}
    {α : Type} {kk : Prog (TpuEff nD τ sig (Elt F) Λ₀ (thr d L).2) α} {Q : α → sProp (MM F)} {R : sProp (MM F)}
    {g : S272.Idx → BitVec 32} (hL : Listed base W run.toNat (b0 + k) g)
    {i : S16.Idx} (hw : w = words i) (hi : (i 0).val = k) (hoff : off 0 = run.toNat)
    (hpay : ∀ v, pay v = slotW v9 (Scalar.addi (Scalar.addi v2 v78) (BitVec.ofNat 32 k)) v)
    (hchk : (posC w = 1#1 → ∀ a, off a + S16.size a ≤ S272.size a) → chk)
    (hkk : ∀ g' : S272.Idx → BitVec 32, Listed base W (Scalar.addi run w).toNat (b0 + (k + 1)) g' → iprop(hold (F := F) d L s3V g' ∗ R) ⊢ wpT d L kk Q) :
    iprop(hold (F := F) d L s3V g ∗ R) ⊢ wpT d L (Prog.lift (TpuEff.assume chk dec) >>= fun x => dite (posC w = 1#1)
        (fun hc => Prog.lift (.load s3V (Rect.unit (s := S272) off S16.size (inb x.down hc)).toLoadRect (hl₁ x.down hc)) >>= fun v =>
          Prog.lift (.load s3V (Rect.unit (s := S272) off S16.size (inb x.down hc)).toLoadRect (hl₂ x.down hc)) >>= fun _ =>
          Prog.lift (.store s3V (Rect.unit (s := S272) off S16.size (inb x.down hc)) (pay v) Finset.univ (hx x.down hc) (hm x.down hc)) >>= fun _ => kk)
        (fun _ => kk)) Q := by
  have hb := G.hb
  have hw' : w = W (b0 + k) := by rw [hw, G.hv, hi]
  iintro ⟨H, HR⟩
  iapply (wp_slot d L (g := g) G.h9 hL (by omega) hw' (G.hW _) hoff (G.num k hk) hpay hchk) $$ H
  iintro %g' %h H
  iapply (hkk g' h)
  isplitl [H]
  · iexact H
  · iexact HR

end Cert.Proof.Tpp

end
-- ==== Proof.Groups.lean ====
/- The slots of a group of sixteen rows, six at a time: the list of rows left over grows by the rows of the group. -/
module

public import proofs.«01_k».proof.Proof.Slots

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F] (d : Dev nD) (L : grid0.Coords)

/-- Six slots' results: their words and the count after them. -/
abbrev Six : Type := Σ' (_ : BitVec 32) (_ : BitVec 32) (_ : BitVec 32) (_ : BitVec 32) (_ : BitVec 32) (_ : BitVec 32), BitVec 32

/-- The six words are lanes `k, …, k + 5` of the group's. -/
def SixWords (words : IVec S16 32) (k : ℕ) (r : Six) : Prop :=
  r.1 = words (i16 (k + 0)) ∧ r.2.1 = words (i16 (k + 1)) ∧ r.2.2.1 = words (i16 (k + 2)) ∧ r.2.2.2.1 = words (i16 (k + 3))
    ∧ r.2.2.2.2.1 = words (i16 (k + 4)) ∧ r.2.2.2.2.2.1 = words (i16 (k + 5))

/-- The first six rows of a pair's first group. -/
theorem wp_part6 {v2 v78 : BitVec 32} {v9 words : IVec S16 32} {base b0 : ℕ} {W : ℕ → BitVec 32} (G : Group v9 v2 v78 words base b0 W)
    (a17 : BitVec 32) (v132 : BitVec 32) (h1 : k0_cond1 v132 = 1#1)
    {g : S272.Idx → BitVec 32} (hL : Listed base W a17.toNat (b0 + 0) g) :
    hold (F := F) d L s3V g ⊢ wpT (F := F) d L (k0_part6 L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 a17 v78 words v132 h1)
      fun r : Six => iprop(∃ g' : S272.Idx → BitVec 32, ⌜r.2.2.2.2.2.2 = (Scalar.addi (Scalar.addi (Scalar.addi (Scalar.addi (Scalar.addi (Scalar.addi a17 r.1) r.2.1) r.2.2.1) r.2.2.2.1) r.2.2.2.2.1) r.2.2.2.2.2.1)
        ∧ Listed base W r.2.2.2.2.2.2.toNat (b0 + 6) g' ∧ SixWords words 0 r⌝ ∗ hold d L s3V g') := by
  simp only [k0_part6_eq_skeleton]
  unfold k0_part6_skel
  refine BIBase.Entails.trans (Q := iprop(hold d L s3V g ∗ emp)) Laws.sep_emp.2 ?_
  iterate 5 refine wp_slotG d L G _ (by decide) hL rfl rfl rfl (fun _ => rfl) (fun h _ hc => h hc) fun g hL => ?_
  refine wp_slotG d L G _ (by decide) hL rfl rfl rfl (fun _ => rfl) (fun h _ hc => h hc) fun g hL => ?_
  refine wp_value (F := F) d L _ ?_
  iintro ⟨H, -⟩
  iexists g
  isplitr [H]
  · ipureintro; exact ⟨rfl, hL, congrArg words (ext1 rfl), congrArg words (ext1 rfl), congrArg words (ext1 rfl), congrArg words (ext1 rfl), congrArg words (ext1 rfl), congrArg words (ext1 rfl)⟩
  · iexact H

/-- The next six rows of a pair's first group. -/
theorem wp_part7 {v2 v78 : BitVec 32} {v9 words : IVec S16 32} {base b0 : ℕ} {W : ℕ → BitVec 32} (G : Group v9 v2 v78 words base b0 W)
    (a17 v132 : BitVec 32) (h1 : k0_cond1 v132 = 1#1) (v186 v192 v198 v204 v210 v216 : BitVec 32)
    {g : S272.Idx → BitVec 32} (hL : Listed base W (Scalar.addi (Scalar.addi (Scalar.addi (Scalar.addi (Scalar.addi (Scalar.addi a17 v186) v192) v198) v204) v210) v216).toNat (b0 + 6) g) :
    hold (F := F) d L s3V g ⊢ wpT (F := F) d L (k0_part7 L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 a17 v78 words v132 h1 v186 v192 v198 v204 v210 v216 (Scalar.addi (Scalar.addi (Scalar.addi (Scalar.addi (Scalar.addi (Scalar.addi a17 v186) v192) v198) v204) v210) v216))
      fun r : Six => iprop(∃ g' : S272.Idx → BitVec 32, ⌜r.2.2.2.2.2.2 = (Scalar.addi (Scalar.addi (Scalar.addi (Scalar.addi (Scalar.addi (Scalar.addi (Scalar.addi (Scalar.addi (Scalar.addi (Scalar.addi (Scalar.addi (Scalar.addi a17 v186) v192) v198) v204) v210) v216) r.1) r.2.1) r.2.2.1) r.2.2.2.1) r.2.2.2.2.1) r.2.2.2.2.2.1)
        ∧ Listed base W r.2.2.2.2.2.2.toNat (b0 + 12) g' ∧ SixWords words 6 r⌝ ∗ hold d L s3V g') := by
  simp only [k0_part7_eq_skeleton]
  unfold k0_part7_skel
  refine BIBase.Entails.trans (Q := iprop(hold d L s3V g ∗ emp)) Laws.sep_emp.2 ?_
  iterate 5 refine wp_slotG d L G _ (by decide) hL rfl rfl rfl (fun _ => rfl) (fun h _ hc => h hc) fun g hL => ?_
  refine wp_slotG d L G _ (by decide) hL rfl rfl rfl (fun _ => rfl) (fun h _ hc => h hc) fun g hL => ?_
  refine wp_value (F := F) d L _ ?_
  iintro ⟨H, -⟩
  iexists g
  isplitr [H]
  · ipureintro; exact ⟨rfl, hL, congrArg words (ext1 rfl), congrArg words (ext1 rfl), congrArg words (ext1 rfl), congrArg words (ext1 rfl), congrArg words (ext1 rfl), congrArg words (ext1 rfl)⟩
  · iexact H

/-- The first six rows of a pair's second group. -/
theorem wp_part8 {v2 v78 : BitVec 32} {v9 words : IVec S16 32} {base b0 : ℕ} {W : ℕ → BitVec 32} (G : Group v9 v2 v78 words base b0 W)
    (a17 v132 v180 : BitVec 32) (h18 : k0_cond18 v180 = 1#1)
    {g : S272.Idx → BitVec 32} (hL : Listed base W (Scalar.addi a17 v132).toNat (b0 + 0) g) :
    hold (F := F) d L s3V g ⊢ wpT (F := F) d L (k0_part8 L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 a17 v78 v132 (Scalar.addi a17 v132) words v180 h18)
      fun r : Six => iprop(∃ g' : S272.Idx → BitVec 32, ⌜r.2.2.2.2.2.2 = (Scalar.addi (Scalar.addi (Scalar.addi (Scalar.addi (Scalar.addi (Scalar.addi (Scalar.addi a17 v132) r.1) r.2.1) r.2.2.1) r.2.2.2.1) r.2.2.2.2.1) r.2.2.2.2.2.1)
        ∧ Listed base W r.2.2.2.2.2.2.toNat (b0 + 6) g' ∧ SixWords words 0 r⌝ ∗ hold d L s3V g') := by
  simp only [k0_part8_eq_skeleton]
  unfold k0_part8_skel
  refine BIBase.Entails.trans (Q := iprop(hold d L s3V g ∗ emp)) Laws.sep_emp.2 ?_
  iterate 5 refine wp_slotG d L G _ (by decide) hL rfl rfl rfl (fun _ => rfl) (fun h _ hc => h hc) fun g hL => ?_
  refine wp_slotG d L G _ (by decide) hL rfl rfl rfl (fun _ => rfl) (fun h _ hc => h hc) fun g hL => ?_
  refine wp_value (F := F) d L _ ?_
  iintro ⟨H, -⟩
  iexists g
  isplitr [H]
  · ipureintro; exact ⟨rfl, hL, congrArg words (ext1 rfl), congrArg words (ext1 rfl), congrArg words (ext1 rfl), congrArg words (ext1 rfl), congrArg words (ext1 rfl), congrArg words (ext1 rfl)⟩
  · iexact H

/-- The next six rows of a pair's second group. -/
theorem wp_part9 {v2 v78 : BitVec 32} {v9 words : IVec S16 32} {base b0 : ℕ} {W : ℕ → BitVec 32} (G : Group v9 v2 v78 words base b0 W)
    (a17 v132 v180 : BitVec 32) (h18 : k0_cond18 v180 = 1#1) (v186 v192 v198 v204 v210 v216 : BitVec 32)
    {g : S272.Idx → BitVec 32} (hL : Listed base W (Scalar.addi (Scalar.addi (Scalar.addi (Scalar.addi (Scalar.addi (Scalar.addi (Scalar.addi a17 v132) v186) v192) v198) v204) v210) v216).toNat (b0 + 6) g) :
    hold (F := F) d L s3V g ⊢ wpT (F := F) d L (k0_part9 L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 a17 v78 v132 words v180 h18 v186 v192 v198 v204 v210 v216 (Scalar.addi (Scalar.addi (Scalar.addi (Scalar.addi (Scalar.addi (Scalar.addi (Scalar.addi a17 v132) v186) v192) v198) v204) v210) v216))
      fun r : Six => iprop(∃ g' : S272.Idx → BitVec 32, ⌜r.2.2.2.2.2.2 = (Scalar.addi (Scalar.addi (Scalar.addi (Scalar.addi (Scalar.addi (Scalar.addi (Scalar.addi (Scalar.addi (Scalar.addi (Scalar.addi (Scalar.addi (Scalar.addi (Scalar.addi a17 v132) v186) v192) v198) v204) v210) v216) r.1) r.2.1) r.2.2.1) r.2.2.2.1) r.2.2.2.2.1) r.2.2.2.2.2.1)
        ∧ Listed base W r.2.2.2.2.2.2.toNat (b0 + 12) g' ∧ SixWords words 6 r⌝ ∗ hold d L s3V g') := by
  simp only [k0_part9_eq_skeleton]
  unfold k0_part9_skel
  refine BIBase.Entails.trans (Q := iprop(hold d L s3V g ∗ emp)) Laws.sep_emp.2 ?_
  iterate 5 refine wp_slotG d L G _ (by decide) hL rfl rfl rfl (fun _ => rfl) (fun h _ hc => h hc) fun g hL => ?_
  refine wp_slotG d L G _ (by decide) hL rfl rfl rfl (fun _ => rfl) (fun h _ hc => h hc) fun g hL => ?_
  refine wp_value (F := F) d L _ ?_
  iintro ⟨H, -⟩
  iexists g
  isplitr [H]
  · ipureintro; exact ⟨rfl, hL, congrArg words (ext1 rfl), congrArg words (ext1 rfl), congrArg words (ext1 rfl), congrArg words (ext1 rfl), congrArg words (ext1 rfl), congrArg words (ext1 rfl)⟩
  · iexact H

end Cert.Proof.Tpp

end
-- ==== Proof.Cols.lean ====
/- The last 64 columns: the running value of each row of a pair of groups, sixteen columns a trip. -/
module

public import proofs.«01_k».proof.Proof.Groups
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

/-- The fold's step on sixteen lanes at once. -/
def pickV (t x acc : FVec F S16 .f32) : FVec F S16 .f32 := select (cmpf .ole x t) x acc

/-- Row `m` of a trip's sixteen columns, as the kernel loads it. -/
def rowOf (off : Fin 16 → Fin 2 → ℕ) (inb : ∀ m a, off m a + S1x16.size a ≤ S64x256.size a) (A : S64x256.Idx → F .f32) (m : Fin 16) : FVec F S16 .f32 :=
  shapeCast S16 (s0V.view.readAt (Elt F) (Rect.unit (s := S64x256) (off m) S1x16.size (inb m)).toLoadRect A) shapeCasts_S1x16_S16

/-- The fold over the first `n` of them. -/
def foldV (t : FVec F S16 .f32) (row : Fin 16 → FVec F S16 .f32) (acc : FVec F S16 .f32) : ℕ → FVec F S16 .f32
  | 0 => acc
  | n + 1 => pickV t (row (Fin.ofNat 16 n)) (foldV t row acc n)

theorem foldV_lane {t acc : FVec F S16 .f32} {row : Fin 16 → FVec F S16 .f32} {A : ℕ → ℕ → F .f32} {T : ℕ → F .f32} {r₀ k₀ : ℕ}
    (ht : ∀ x, t x = T (r₀ + (x 0).val)) (hrow : ∀ (m : Fin 16) x, row m x = A (k₀ + m.val) (r₀ + (x 0).val))
    (hacc : ∀ x, acc x = colFold A T (r₀ + (x 0).val) k₀) (n : ℕ) (hn : n ≤ 16) (x : S16.Idx) :
    foldV t row acc n x = colFold A T (r₀ + (x 0).val) (k₀ + n) := by
  induction n with
  | zero => exact hacc x
  | succ n ih =>
    show pick (t x) (row (Fin.ofNat 16 n) x) (foldV t row acc n x) = pick _ _ _
    have hn' : (Fin.ofNat 16 n).val = n := Nat.mod_eq_of_lt (by omega)
    rw [ih (by omega), ht, hrow, hn']
    rfl

theorem rowOf_apply (off : Fin 16 → Fin 2 → ℕ) (inb : ∀ m a, off m a + S1x16.size a ≤ S64x256.size a) (A : S64x256.Idx → F .f32) (m : Fin 16)
    (x : S16.Idx) {c r : ℕ} (h0 : off m 0 = c) (h1 : off m 1 + (x 0).val = r) : rowOf off inb A m x = A (i64x256 c r) := by
  have hc := inb m 0
  have hr := inb m 1
  have hc' : off m 0 + 1 ≤ 64 := hc
  have hr' : off m 1 + 16 ≤ 256 := hr
  have hx := lane_lt x
  unfold rowOf
  have e := shapeCast_1a_a_apply (a := 16) (s0V.view.readAt (Elt F) (Rect.unit (s := S64x256) (off m) S1x16.size (inb m)).toLoadRect A)
    shapeCasts_S1x16_S16 (x 0)
  have hix : (ix1 (x 0 : Fin 16) : S16.Idx) = x := funext fun | 0 => rfl
  rw [hix] at e
  refine e.trans ?_
  show A _ = A _
  refine congrArg A (ext2 ?_ ?_)
  · show off m 0 + 1 * 0 = c % 64
    rw [← h0, Nat.mod_eq_of_lt (show off m 0 < 64 by omega)]; rfl
  · show off m 1 + 1 * (x 0).val = r % 256
    rw [← h1, Nat.mod_eq_of_lt (by omega), Nat.one_mul]

theorem wp_t2 (v9 : IVec S16 32) (v10 : FVec F S16 .f32) (c0 c1 : BitVec 32) (t1 : Fin k0_t1_loop.trips) (v78 v79 : BitVec 32) (v81 v84 : Vec F S16 .f32)
    (t2 : Fin k0_t2_loop.trips) (acc : FVec F S16 .f32 × FVec F S16 .f32) (A : S64x256.Idx → F .f32) :
    hold (F := F) d L s0V A ⊢ wpT (F := F) d L (k0_t2_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v9 v10 c0 c1 t1 v78 v79 v81 v84 t2 acc)
      fun r => iprop(⌜r.1 = foldV (k0_pay93 v81) (rowOf (fun m => k0_off5 t1 t2 (BitVec.ofNat 32 m.val)) (k0_off5_inb t1 t2) A) acc.1 16
          ∧ r.2 = foldV (k0_pay94 v84) (rowOf (fun m => k0_off6 t1 t2 (BitVec.ofNat 32 m.val)) (k0_off6_inb t1 t2) A) acc.2 16⌝ ∗ hold d L s0V A) := by
  obtain ⟨a, b⟩ := acc
  unfold k0_t2_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold wpT
  iintro H
  sl_exec
  rw [wp_ret]
  imodintro
  isplitr [H]
  · ipureintro; exact ⟨rfl, rfl⟩
  · iexact H

theorem t2_trips : k0_t2_loop.trips = 4 := by decide

/-- The staged columns as a function of the column and the row. -/
def colsOf (A : S64x256.Idx → F .f32) (c r : ℕ) : F .f32 := A (i64x256 c r)
/-- The staged times as a function of the row. -/
def timesOf (T : S256.Idx → F .f32) (r : ℕ) : F .f32 := T (i256 r)

/-- The whole loop: both halves of the pair end at their rows' running values over the 64 columns. -/
theorem wp_cols (v9 : IVec S16 32) (v10 : FVec F S16 .f32) (c0 c1 : BitVec 32) (t1 : Fin k0_t1_loop.trips) (v78 v79 : BitVec 32) (v81 v84 : Vec F S16 .f32)
    (A : S64x256.Idx → F .f32) (T : S256.Idx → F .f32)
    (h81 : ∀ x : S16.Idx, v81 x = timesOf T (32 * t1.val + (x 0).val)) (h84 : ∀ x : S16.Idx, v84 x = timesOf T (32 * t1.val + 16 + (x 0).val)) :
    hold (F := F) d L s0V A ⊢ wpT (F := F) d L (Scf.Loop.for k0_t2_loop k0_t2_ok (k0_pay95 (F := F), k0_pay95 (F := F))
        (k0_t2_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v9 v10 c0 c1 t1 v78 v79 v81 v84))
      fun r => iprop(⌜(∀ x, r.1 x = colFold (colsOf A) (timesOf T) (32 * t1.val + (x 0).val) 64)
          ∧ ∀ x, r.2 x = colFold (colsOf A) (timesOf T) (32 * t1.val + 16 + (x 0).val) 64⌝ ∗ hold d L s0V A) := by
  have key := wp_loop (F := F) d L k0_t2_loop k0_t2_ok (k0_pay95 (F := F), k0_pay95 (F := F)) (k0_t2_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v9 v10 c0 c1 t1 v78 v79 v81 v84)
    (fun k r => iprop(⌜(∀ x, r.1 x = colFold (colsOf A) (timesOf T) (32 * t1.val + (x 0).val) (16 * k))
          ∧ ∀ x, r.2 x = colFold (colsOf A) (timesOf T) (32 * t1.val + 16 + (x 0).val) (16 * k)⌝ ∗ hold d L s0V A))
    (P := hold (F := F) d L s0V A) (by
      iintro H
      isplitr [H]
      · ipureintro; exact ⟨fun _ => rfl, fun _ => rfl⟩
      · iexact H) (fun t2 acc => by
      iintro ⟨%hacc, H⟩
      iapply (wp_done d L (wp_t2 d L v9 v10 c0 c1 t1 v78 v79 v81 v84 t2 acc A)) $$ H
      iintro %r ⟨%hr, H⟩
      isplitr [H]
      · ipureintro
        have e5 := fun m : Fin 16 => k0_off5_eq t1 t2 m
        have e6 := fun m : Fin 16 => k0_off6_eq t1 t2 m
        have h81' : ∀ x, k0_pay93 v81 x = timesOf T (32 * t1.val + (x 0).val) := fun x => (shapeCast_self16 v81 x).trans (h81 x)
        have h84' : ∀ x, k0_pay94 v84 x = timesOf T (32 * t1.val + 16 + (x 0).val) := fun x => (shapeCast_self16 v84 x).trans (h84 x)
        refine ⟨fun x => ?_, fun x => ?_⟩
        · rw [hr.1, show 16 * (t2.val + 1) = 16 * t2.val + 16 by omega]
          exact foldV_lane h81' (fun m x => rowOf_apply _ _ A m x (by rw [e5]; rfl) (by rw [e5]; rfl)) hacc.1 16 le_rfl x
        · rw [hr.2, show 16 * (t2.val + 1) = 16 * t2.val + 16 by omega]
          exact foldV_lane h84' (fun m x => rowOf_apply _ _ A m x (by rw [e6]; rfl) (by rw [e6]; rfl)) hacc.2 16 le_rfl x
      · iexact H)
  rw [t2_trips] at key
  exact key

end Cert.Proof.Tpp

end
-- ==== Proof.Steps.lean ====
/- One operation at the head of a program, as a rule about an entailment: what it needs is held next to the rest `R`. -/
module

public import proofs.«01_k».proof.Proof.Setup

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F] (d : Dev nD) (L : grid0.Coords)

variable {sp : Space} {s : Shape} {e : EltTy} {M : Memref sig .scVector .vmem s e} {f : Buf (Elt F) (M.view.loc (thr d L))}
  {α : Type} {Q : α → sProp (MM F)} {R P : sProp (MM F)}

theorem st_assume {chk : Prop} {dec : Decidable chk} (hc : chk) {k : PLift chk → Prog (TpuEff nD τ sig (Elt F) Λ₀ (thr d L).2) α}
    (hk : P ⊢ wpT (F := F) d L (k ⟨hc⟩) Q) : P ⊢ wpT (F := F) d L (Prog.lift (TpuEff.assume chk dec) >>= k) Q := by
  have e : wpT (F := F) d L (Prog.lift (TpuEff.assume chk dec) >>= k) Q = wpT d L (k ⟨hc⟩) Q := wp_assume_of 𝒱₀ (thr d L) none Set.univ hc
  rw [e]; exact hk

theorem st_load {r : LoadRect s} {hl : M.view.LoadsAt r} {k : (r.shape.Idx → Elt F e) → Prog (TpuEff nD τ sig (Elt F) Λ₀ (thr d L).2) α}
    (hk : iprop(hold (F := F) d L M f ∗ R) ⊢ wpT (F := F) d L (k (M.view.readAt (Elt F) r f)) Q) :
    iprop(hold (F := F) d L M f ∗ R) ⊢ wpT (F := F) d L (Prog.lift (.load M r hl) >>= k) Q := by
  unfold wpT at hk ⊢
  iintro ⟨H, HR⟩
  iapply (wp_load 𝒱₀ (thr d L) none Set.univ (m := M) (S := Finset.univ) (Finset.subset_univ _)) $$ H; iintro H
  iapply hk
  isplitl [H]
  · iexact H
  · iexact HR

theorem st_store {r : Rect s} {v : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ (thr d L).2) α}
    (hk : iprop(hold (F := F) d L M (View.write (Elt F) (M.access r) f v Finset.univ) ∗ R) ⊢ wpT (F := F) d L (k ⟨⟩) Q) :
    iprop(hold (F := F) d L M f ∗ R) ⊢ wpT (F := F) d L (Prog.lift (.store M r v Finset.univ hx hm) >>= k) Q := by
  unfold wpT at hk ⊢
  have h2 : (hold (F := F) d L M f) ⊢ ((M.access r).loc (thr d L) ↦{fullShare} f : sProp (MM F)) := Entails.of_eq rfl
  have h3 : ((M.access r).loc (thr d L) ↦{fullShare} (View.write (Elt F) (M.access r) f v Finset.univ) : sProp (MM F))
    ⊢ hold (F := F) d L M (View.write (Elt F) (M.access r) f v Finset.univ) := Entails.of_eq rfl
  iintro ⟨H, HR⟩
  ihave H2 := h2 $$ H
  iapply (wp_store 𝒱₀ (thr d L) none Set.univ (m := M) (r := r) (Mk := Finset.univ) (S := Finset.univ) (Finset.subset_univ _)) $$ H2; iintro H
  iapply hk
  isplitl [H]
  · iapply h3; iexact H
  · iexact HR

theorem st_gather {t : Shape} {idxs : Fin s.rank → IVec t 32} {h : ∀ a x, (idxs a x).toNat < s.size a} {hl : M.view.Loads}
    {k : Vec F t e → Prog (TpuEff nD τ sig (Elt F) Λ₀ (thr d L).2) α}
    (hk : iprop(hold (F := F) d L M f ∗ R) ⊢ wpT (F := F) d L (k (loadIdx ((M.access (.whole s)).read (Elt F) f) idxs h)) Q) :
    iprop(hold (F := F) d L M f ∗ R) ⊢ wpT (F := F) d L (SparseCore.vectorLoadIdx M idxs h hl >>= k) Q := by
  unfold wpT at hk ⊢
  have h2 : (hold (F := F) d L M f) ⊢ ((M.access (.whole s)).loc (thr d L) ↦{fullShare} f : sProp (MM F)) := Entails.of_eq rfl
  have h3 : ((M.access (.whole s)).loc (thr d L) ↦{fullShare} f : sProp (MM F)) ⊢ hold (F := F) d L M f := Entails.of_eq rfl
  iintro ⟨H, HR⟩
  ihave H2 := h2 $$ H
  iapply (SparseCore.wp_vectorLoadIdx 𝒱₀ (thr d L) none Set.univ (base := M) (S := Finset.univ) (q := fullShare) (Finset.subset_univ _)) $$ H2; iintro H
  iapply hk
  isplitl [H]
  · iapply h3; iexact H
  · iexact HR

/-- A load, as a rule about what follows it. -/
theorem wp_ld {r : LoadRect s} {hl : M.view.LoadsAt r} {k : (r.shape.Idx → Elt F e) → Prog (TpuEff nD τ sig (Elt F) Λ₀ (thr d L).2) α} :
    hold (F := F) d L M f ⊢ iprop((hold (F := F) d L M f -∗ wpT (F := F) d L (k (M.view.readAt (Elt F) r f)) Q)
      -∗ wpT (F := F) d L (Prog.lift (.load M r hl) >>= k) Q) := by
  refine BIClass.wand_intro (st_load d L ?_)
  iintro ⟨H, HK⟩
  iapply HK $$ H

/-- A check that holds, as a rule about what follows it. -/
theorem wp_as {chk : Prop} {dec : Decidable chk} (hc : chk) {k : PLift chk → Prog (TpuEff nD τ sig (Elt F) Λ₀ (thr d L).2) α} :
    wpT (F := F) d L (k ⟨hc⟩) Q ⊢ wpT (F := F) d L (Prog.lift (TpuEff.assume chk dec) >>= k) Q := st_assume d L hc (Entails.refl _)

end Cert.Proof.Tpp

end
-- ==== Proof.Exchange.lean ====
/- A lane exchange: sixteen words stored to a scratch and read back with every lane's number changed in one bit. -/
module

public import proofs.«01_k».proof.Proof.Cols
public import proofs.«01_k».proof.Proof.Steps

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F] (d : Dev nD) (L : grid0.Coords)

/-- The words of `w` with lane `l` reading lane `l ^ k`. -/
def perm {α : Type} (k : ℕ) (w : S16.Idx → α) : S16.Idx → α := fun x => w (i16 ((x 0).val ^^^ k))

/-- The sixteen words of a scratch, as every load and store of it names them. -/
abbrev rW : Rect S16 := Rect.unit (s := S16) ![0] S16.size inb_S16_S16_0

theorem lanes_xor {v9 : IVec S16 32} (h9 : IsLanes v9) {k : ℕ} (hk : k < 16) (x : S16.Idx) :
    (xori v9 (broadcast S16 (BitVec.ofNat 32 k)) x).toNat = (x 0).val ^^^ k ∧ (x 0).val ^^^ k < 16 := by
  have hx := lane_lt x
  have hlt : (x 0).val ^^^ k < 16 := Nat.xor_lt_two_pow (n := 4) hx hk
  refine ⟨?_, hlt⟩
  show (v9 x ^^^ BitVec.ofNat 32 k).toNat = _
  rw [h9, BitVec.toNat_xor, BitVec.toNat_ofNat, BitVec.toNat_ofNat, Nat.mod_eq_of_lt (by omega), Nat.mod_eq_of_lt (by omega)]

/-- Sixteen words stored, and read back with every lane's number changed by `k`. -/
theorem wp_exch {e : EltTy} (M : Memref sig .scVector .vmem S16 e)
    (hset : ∀ (f : Buf (Elt F) (M.view.loc (thr d L))) (w : Vec F S16 e),
      (M.access (.whole S16)).read (Elt F) (View.write (Elt F) (M.access rW) f w Finset.univ) = w)
    {v9 : IVec S16 32} (h9 : IsLanes v9) (k : ℕ) (hk : k < 16) {v w : Vec F S16 e} {idx : IVec S16 32} {chk : Prop} {dec : Decidable chk}
    {hl₁ : M.view.LoadsAt rW.toLoadRect} {hx : (M.access rW).Stores Finset.univ}
    {hm : (Finset.univ : Finset rW.shape.Idx) = Finset.univ ∨ ∀ a, rW.stride a = 1}
    {inb : chk → ∀ a x, ((![idx] : Fin 1 → IVec S16 32) a x).toNat < S16.size a} {hl₂ : M.view.Loads}
    {α : Type} {kk : Vec F S16 e → Prog (TpuEff nD τ sig (Elt F) Λ₀ (thr d L).2) α} {Q : α → sProp (MM F)}
    {f : Buf (Elt F) (M.view.loc (thr d L))}
    (hv : v = shapeCast S16 w shapeCasts_S16_S16) (hidx : idx = xori v9 (broadcast S16 (BitVec.ofNat 32 k)))
    (hchk : (∀ a x, ((![idx] : Fin 1 → IVec S16 32) a x).toNat < S16.size a) → chk) :
    hold (F := F) d L M f ⊢ iprop((∀ f', hold (F := F) d L M f' -∗ wpT d L (kk (perm k w)) Q) -∗ wpT d L (Prog.lift (.load M rW.toLoadRect hl₁) >>= fun _ =>
      Prog.lift (.store M rW v Finset.univ hx hm) >>= fun _ =>
      Prog.lift (TpuEff.assume chk dec) >>= fun a => SparseCore.vectorLoadIdx M ![idx] (inb a.down) hl₂ >>= kk) Q) := by
  have hin : ∀ a x, ((![idx] : Fin 1 → IVec S16 32) a x).toNat < S16.size a := fun
    | 0, x => by
      have h := lanes_xor h9 hk x
      show (idx x).toNat < 16
      rw [hidx, h.1]; exact h.2
  have hc : chk := hchk hin
  have hval : ∀ f : Buf (Elt F) (M.view.loc (thr d L)),
      loadIdx ((M.access (.whole S16)).read (Elt F) (View.write (Elt F) (M.access rW) f v Finset.univ)) ![idx] hin = perm k w := by
    intro f
    rw [hset]
    funext x
    have h := lanes_xor h9 hk x
    show v _ = w _
    rw [hv]
    unfold shapeCast
    rw [Shape.reshapeEquiv_self]
    refine congrArg w (ext1 ?_)
    show (idx x).toNat = _
    rw [hidx, h.1, i16_val h.2]
  refine BIClass.wand_intro (st_load d L (st_store d L (st_assume d L hc (st_gather d L ?_))))
  rw [hval]
  iintro ⟨H, HK⟩
  iapply HK $$ H

theorem hset5 (f : Buf (Elt F) (s5V.view.loc (thr d L))) (w : Vec F S16 .i32) :
    (s5V.access (.whole S16)).read (Elt F) (View.write (Elt F) (s5V.access rW) f w Finset.univ) = w := by
  have h := Memref.write_access_unit_zero_univ (Elt F) cc0_scratch5 (off := ![0]) (funext fun | 0 => rfl) inb_S16_S16_0 f w
  exact (congrArg _ h).trans (Memref.read_access_whole (Elt F) cc0_scratch5 w)

theorem hset6 (f : Buf (Elt F) (s6V.view.loc (thr d L))) (w : Vec F S16 .f32) :
    (s6V.access (.whole S16)).read (Elt F) (View.write (Elt F) (s6V.access rW) f w Finset.univ) = w := by
  have h := Memref.write_access_unit_zero_univ (Elt F) cc0_scratch6 (off := ![0]) (funext fun | 0 => rfl) inb_S16_S16_0 f w
  exact (congrArg _ h).trans (Memref.read_access_whole (Elt F) cc0_scratch6 w)

/-- Sixteen of the staged times loaded at `off`. -/
theorem times_read (off : Fin 1 → ℕ) (inb : ∀ a, off a + S16.size a ≤ S256.size a) (o : S256.Idx → F .f32) (x : S16.Idx) {n : ℕ} (hn : off 0 + (x 0).val = n) :
    (s1V.view.readAt (Elt F) (Rect.unit (s := S256) off S16.size inb).toLoadRect o : S16.Idx → F .f32) x = timesOf o n := by
  have h := inb 0
  have h' : off 0 + 16 ≤ 256 := h
  have hx := lane_lt x
  show o _ = o _
  exact congrArg o (ext1 (by
    rw [i256_val (by omega)]
    show off 0 + 1 * (x 0).val = _
    omega))

/-- Sixteen words of the result row loaded (for nothing) and stored. -/
theorem wp_row16 (off : Fin 1 → ℕ) {inb : ∀ a, off a + S16.size a ≤ S256.size a} {v : Vec F S16 .f32}
    {hl : s2V.view.LoadsAt (Rect.unit (s := S256) off S16.size inb).toLoadRect} {hx : (s2V.access (Rect.unit (s := S256) off S16.size inb)).Stores Finset.univ}
    {hm : (Finset.univ : Finset (Rect.unit (s := S256) off S16.size inb).shape.Idx) = Finset.univ ∨ ∀ a, (Rect.unit (s := S256) off S16.size inb).stride a = 1}
    {α : Type} {kk : PUnit → Prog (TpuEff nD τ sig (Elt F) Λ₀ (thr d L).2) α} {Q : α → sProp (MM F)} {o : S256.Idx → F .f32} :
    hold (F := F) d L s2V o ⊢ iprop((hold (F := F) d L s2V (VecWindow.put (s := S256) o off S16.size v) -∗ wpT d L (kk ⟨⟩) Q)
      -∗ wpT d L (Prog.lift (.load s2V (Rect.unit (s := S256) off S16.size inb).toLoadRect hl) >>= fun _ =>
        Prog.lift (.store s2V (Rect.unit (s := S256) off S16.size inb) v Finset.univ hx hm) >>= kk) Q) := by
  have hw : (View.write (Elt F) (s2V.access (Rect.unit (s := S256) off S16.size inb)) o v Finset.univ : S256.Idx → F .f32)
      = VecWindow.put (s := S256) o off S16.size v :=
    View.read_writes_cons_put (Val := Elt F) s2V.view o inb v [] (off' := off) rfl
  refine BIClass.wand_intro (st_load d L (st_store d L ?_))
  rw [hw]
  iintro ⟨H, HK⟩
  iapply HK $$ H

end Cert.Proof.Tpp

end
-- ==== Proof.Pair.lean ====
/- A pair of groups of sixteen rows: their running values, their first-pass words, and the rows they leave over. -/
module

public import proofs.«01_k».proof.Proof.Exchange
public import proofs.«01_k».proof.Proof.Groups

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F] (d : Dev nD) (L : grid0.Coords)

/-- One step of the sum over the lanes. -/
def addx (k : ℕ) (w : IVec S16 32) : IVec S16 32 := addi w (perm k w)

/-- After the four steps lane 0 holds the sum of all sixteen lanes. -/
theorem addx_lane0 (w : IVec S16 32) (i : S16.Idx) (hi : (i 0).val = 0) :
    addx 8 (addx 4 (addx 2 (addx 1 w))) i
      = (((w (i16 0) + w (i16 1)) + (w (i16 2) + w (i16 3))) + ((w (i16 4) + w (i16 5)) + (w (i16 6) + w (i16 7))))
        + (((w (i16 8) + w (i16 9)) + (w (i16 10) + w (i16 11))) + ((w (i16 12) + w (i16 13)) + (w (i16 14) + w (i16 15)))) := by
  have e : i = i16 0 := ext1 hi
  rw [e]
  rfl

/-- The sum of a group's words says whether the group has a row left over. -/
theorem none_left {W : ℕ → BitVec 32} (hW : ∀ e, W e = 0#32 ∨ W e = 1#32) {words : IVec S16 32} {b0 : ℕ} (hv : ∀ x : S16.Idx, words x = W (b0 + (x 0).val))
    (i : S16.Idx) (hi : (i 0).val = 0) (h : ¬ posC (addx 8 (addx 4 (addx 2 (addx 1 words))) i) = 1#1) :
    (∀ k < 16, W (b0 + k) = 0#32) ∧ addx 8 (addx 4 (addx 2 (addx 1 words))) i = 0#32 := by
  rw [addx_lane0 _ _ hi] at h ⊢
  obtain ⟨m, hm⟩ : ∃ m : ℕ → ℕ, ∀ e, m e ≤ 1 ∧ W e = BitVec.ofNat 32 (m e) :=
    ⟨fun e => (W e).toNat, fun e => by rcases hW e with h | h <;> simp [h]⟩
  have hw : ∀ k < 16, words (i16 k) = BitVec.ofNat 32 (m (b0 + k)) := fun k hk => by rw [hv, (hm _).2, i16_val hk]
  rw [hw 0 (by decide), hw 1 (by decide), hw 2 (by decide), hw 3 (by decide), hw 4 (by decide), hw 5 (by decide), hw 6 (by decide), hw 7 (by decide),
    hw 8 (by decide), hw 9 (by decide), hw 10 (by decide), hw 11 (by decide), hw 12 (by decide), hw 13 (by decide), hw 14 (by decide), hw 15 (by decide)] at h ⊢
  simp only [← BitVec.ofNat_add] at h ⊢
  have hpos : ∀ n < 17, ¬ posC (BitVec.ofNat 32 n) = 1#1 → n = 0 := by decide
  have hb := fun k => (hm (b0 + k)).1
  have h0 := hb 0; have h1 := hb 1; have h2 := hb 2; have h3 := hb 3; have h4 := hb 4; have h5 := hb 5; have h6 := hb 6; have h7 := hb 7
  have h8 := hb 8; have h9 := hb 9; have h10 := hb 10; have h11 := hb 11; have h12 := hb 12; have h13 := hb 13; have h14 := hb 14; have h15 := hb 15
  have hz := hpos _ (by omega) h
  refine ⟨fun k hk => ?_, by rw [hz]⟩
  have hk' : m (b0 + k) = 0 := by interval_cases k <;> omega
  rw [(hm _).2, hk']

/-- The first-pass words of sixteen rows, from their running values. -/
theorem first_words {v10 t bv : FVec F S16 .f32} (h10 : ∀ x, v10 x = zro) {A : ℕ → ℕ → F .f32} {T : ℕ → F .f32} {r : ℕ}
    (ht : ∀ x : S16.Idx, t x = T (r + (x 0).val)) (hbv : ∀ x : S16.Idx, bv x = colFold A T (r + (x 0).val) 64) (x : S16.Idx) :
    k0_pay122 v10 t bv x = first A T (r + (x 0).val) := by
  unfold k0_pay122
  rw [shapeCast_self16]
  show Scalar.select (hit (bv x)) (decay (t x) (bv x)) (v10 x) = _
  rw [h10, ht, hbv]; rfl

/-- Rows `r ≤ … < r + 16` of the result, once their words are stored. -/
theorem rows_put {A : ℕ → ℕ → F .f32} {T : ℕ → F .f32} {r : ℕ} {o : S256.Idx → F .f32} {v : FVec F S16 .f32} {off : Fin 1 → ℕ}
    (ho : ∀ e < r, o (i256 e) = first A T e) (hr : r + 16 ≤ 256) (hoff : off 0 = r) (hv : ∀ x : S16.Idx, v x = first A T (r + (x 0).val)) :
    ∀ e < r + 16, VecWindow.put (s := S256) o off S16.size v (i256 e) = first A T e := by
  intro e he
  rw [put16_apply, hoff, i256_val (by omega)]
  by_cases h : r ≤ e ∧ e < r + 16
  · rw [if_pos h, hv, i16_val (by omega), show r + (e - r) = e by omega]
  · rw [if_neg h, ho e (by omega)]

/-- The first half of a pair: the loads, the loop over the columns, the first group's words stored and half of their sum. -/
theorem wp_part10 {v9 : IVec S16 32} (h9 : IsLanes v9) {v10 : FVec F S16 .f32} (h10 : ∀ x, v10 x = zro) (t1 : Fin k0_t1_loop.trips)
    {A : S64x256.Idx → F .f32} {T o : S256.Idx → F .f32} {f5 : Buf (Elt F) (s5V.view.loc (thr d L))}
    (ho : ∀ e < 32 * t1.val, o (i256 e) = first (colsOf A) (timesOf T) e) :
    iprop(hold (F := F) d L s0V A ∗ hold (F := F) d L s1V T ∗ hold (F := F) d L s2V o ∗ hold (F := F) d L s5V f5) ⊢ wpT (F := F) d L (k0_part10 L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v9 v10 0#32 1#32 t1)
      fun r => iprop(∃ (o' : S256.Idx → F .f32) (f5' : Buf (Elt F) (s5V.view.loc (thr d L))),
        ⌜(r.1 = Scalar.muli (Scf.iv 0#32 1#32 t1) 32#32 ∧ r.2.1 = Scalar.addi r.1 16#32)
          ∧ (∀ x, r.2.2.1 x = timesOf T (32 * t1.val + 16 + (x 0).val)) ∧ (∀ x, r.2.2.2.1 x = colFold (colsOf A) (timesOf T) (32 * t1.val + 16 + (x 0).val) 64)
          ∧ (∀ x, r.2.2.2.2.1 x = missW (colsOf A) (timesOf T) (32 * t1.val + (x 0).val)) ∧ r.2.2.2.2.2 = addx 2 (addx 1 r.2.2.2.2.1)
          ∧ ∀ e < 32 * t1.val + 16, o' (i256 e) = first (colsOf A) (timesOf T) e⌝
        ∗ hold d L s0V A ∗ hold d L s1V T ∗ hold d L s2V o' ∗ hold d L s5V f5') := by
  have ht1 : t1.val < 8 := t1.isLt
  simp only [k0_part10_eq_skeleton]
  unfold k0_part10_skel
  iintro ⟨HA, HT, Ho, H5⟩
  iapply (wp_ld d L) $$ HT; iintro HT
  iapply (wp_ld d L) $$ HT; iintro HT
  iapply (wp_use d L (wp_cols d L v9 v10 0#32 1#32 t1 (Scalar.muli (Scf.iv 0#32 1#32 t1) 32#32) (Scalar.addi (Scalar.muli (Scf.iv 0#32 1#32 t1) 32#32) 16#32) _ _ A T ?h81 ?h84)) $$ HA
  case h81 => exact fun x => times_read _ _ T x (by rw [k0_off3_eq]; rfl)
  case h84 => exact fun x => times_read _ _ T x (by rw [k0_off4_eq]; rfl)
  iintro %r ⟨%hr, HA⟩
  iapply (wp_row16 d L (k0_off3 t1)) $$ Ho; iintro Ho
  iapply (wp_exch d L s5V (hset5 d L) h9 1 (by decide) ?hv ?hidx ?hchk) $$ H5
  case hv => rfl
  case hidx => rfl
  case hchk => exact fun h => h
  iintro %f5 H5
  iapply (wp_exch d L s5V (hset5 d L) h9 2 (by decide) ?hv ?hidx ?hchk) $$ H5
  case hv => rfl
  case hidx => rfl
  case hchk => exact fun h => h
  iintro %f5 H5
  iapply (wp_value (F := F) d L _ (Entails.refl _))
  iexists _, f5
  isplitr [HA HT Ho H5]
  rotate_left
  · isplitl [HA]
    · iexact HA
    isplitl [HT]
    · iexact HT
    isplitl [Ho]
    · iexact Ho
    · iexact H5
  · ipureintro
    have h1 := hr.1
    refine ⟨⟨rfl, rfl⟩, fun x => ?_, hr.2, fun x => ?_, rfl, ?_⟩
    · exact (shapeCast_self16 _ x).trans (times_read (k0_off4 t1) _ T x (by rw [k0_off4_eq]; rfl))
    · show Scalar.select (hit (r.1 x)) 0#32 1#32 = _
      rw [h1]; rfl
    · refine rows_put (off := k0_off3 t1) ho (by omega) (by rw [k0_off3_eq]; rfl) fun x => ?_
      exact first_words h10 (t := k0_pay93 _) (fun x => (shapeCast_self16 _ x).trans (times_read (k0_off3 t1) _ T x (by rw [k0_off3_eq]; rfl))) h1 x

/-- A branch whose arms meet again: what holds where they meet is shown once. -/
theorem wp_meet {α : Type} {c : Prop} [hd : Decidable c] {X : c → Prog (TpuEff nD τ sig (Elt F) Λ₀ (thr d L).2) α} {kk : Prog (TpuEff nD τ sig (Elt F) Λ₀ (thr d L).2) α}
    {Q : α → sProp (MM F)} {P : sProp (MM F)} (mid : sProp (MM F)) (hX : ∀ h, (mid ⊢ wpT (F := F) d L kk Q) → P ⊢ wpT (F := F) d L (X h) Q) (hn : ¬ c → P ⊢ mid)
    (hkk : mid ⊢ wpT (F := F) d L kk Q) : P ⊢ wpT (F := F) d L (dite c X fun _ => kk) Q := by
  by_cases h : c
  · rw [dif_pos h]; exact hX h hkk
  · rw [dif_neg h]; exact (hn h).trans hkk

/-- A piece of program that ends with the list: what follows it starts from the list it leaves. -/
theorem wp_useG {α β : Type} {p : Prog (TpuEff nD τ sig (Elt F) Λ₀ (thr d L).2) α} {k : α → Prog (TpuEff nD τ sig (Elt F) Λ₀ (thr d L).2) β}
    {Q : β → sProp (MM F)} {P R : sProp (MM F)} {φ : α → (S272.Idx → BitVec 32) → Prop} (hP : P ⊢ wpT (F := F) d L p fun a => iprop(∃ g', ⌜φ a g'⌝ ∗ hold (F := F) d L s3V g'))
    (hk : ∀ a g', φ a g' → iprop(hold (F := F) d L s3V g' ∗ R) ⊢ wpT (F := F) d L (k a) Q) : iprop(P ∗ R) ⊢ wpT (F := F) d L (p >>= k) Q := by
  iintro ⟨HP, HR⟩
  iapply (wp_use d L hP) $$ HP
  iintro %a ⟨%g', %h, H⟩
  iapply (hk a g' h)
  isplitl [H]
  · iexact H
  · iexact HR

/-- Sixteen words counted one after another are counted together. -/
theorem run_sum (a : BitVec 32) (w : IVec S16 32) (i : S16.Idx) (hi : (i 0).val = 0) :
    Scalar.addi (Scalar.addi (Scalar.addi (Scalar.addi (Scalar.addi (Scalar.addi (Scalar.addi (Scalar.addi (Scalar.addi (Scalar.addi (Scalar.addi (Scalar.addi
      (Scalar.addi (Scalar.addi (Scalar.addi (Scalar.addi a (w (i16 0))) (w (i16 1))) (w (i16 2))) (w (i16 3))) (w (i16 4))) (w (i16 5))) (w (i16 6))) (w (i16 7)))
      (w (i16 8))) (w (i16 9))) (w (i16 10))) (w (i16 11))) (w (i16 12))) (w (i16 13))) (w (i16 14))) (w (i16 15))
      = Scalar.addi a (addx 8 (addx 4 (addx 2 (addx 1 w))) i) := by
  rw [addx_lane0 _ _ hi]
  show _ + _ = _ + _
  simp only [Scalar.addi, IntOp.addi]
  ac_rfl

/-- The second half's first part: the rest of the first group's sum, its rows left over, the second group's words and the start of its sum. -/
theorem wp_part11 {v2 v78 v79 a17 : BitVec 32} {v9 v102 : IVec S16 32} {v10 v85 v88 : FVec F S16 .f32} (h10 : ∀ x, v10 x = zro) (t1 : Fin k0_t1_loop.trips)
    {A : S64x256.Idx → F .f32} {T o : S256.Idx → F .f32} {f5 : Buf (Elt F) (s5V.view.loc (thr d L))} {base : ℕ} {g : S272.Idx → BitVec 32}
    (G : Group v9 v2 v78 v102 base (32 * t1.val) (missW (colsOf A) (timesOf T)))
    (hL : Listed base (missW (colsOf A) (timesOf T)) a17.toNat (32 * t1.val) g)
    (h85 : ∀ x, v85 x = timesOf T (32 * t1.val + 16 + (x 0).val)) (h88 : ∀ x, v88 x = colFold (colsOf A) (timesOf T) (32 * t1.val + 16 + (x 0).val) 64)
    (ho : ∀ e < 32 * t1.val + 16, o (i256 e) = first (colsOf A) (timesOf T) e) :
    iprop(hold (F := F) d L s5V f5 ∗ hold (F := F) d L s3V g ∗ hold (F := F) d L s2V o) ⊢ wpT (F := F) d L (k0_part11 L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 v10 t1 a17 v78 v79 v85 v88 v102 (addx 2 (addx 1 v102)))
      fun r => iprop(∃ (o' : S256.Idx → F .f32) (f5' : Buf (Elt F) (s5V.view.loc (thr d L))) (g' : S272.Idx → BitVec 32),
        ⌜r.2.1 = Scalar.addi a17 r.1 ∧ (∀ x, r.2.2.1 x = missW (colsOf A) (timesOf T) (32 * t1.val + 16 + (x 0).val)) ∧ r.2.2.2 = perm 1 r.2.2.1
          ∧ Listed base (missW (colsOf A) (timesOf T)) (Scalar.addi a17 r.1).toNat (32 * t1.val + 16) g'
          ∧ ∀ e < 32 * t1.val + 32, o' (i256 e) = first (colsOf A) (timesOf T) e⌝
        ∗ hold d L s5V f5' ∗ hold d L s3V g' ∗ hold d L s2V o') := by
  have ht1 : t1.val < 8 := t1.isLt
  have h9 := G.h9
  have hv : ∀ x : S16.Idx, v102 x = missW (colsOf A) (timesOf T) (32 * t1.val + (x 0).val) := G.hv
  simp only [k0_part11_eq_skeleton]
  unfold k0_part11_skel
  iintro ⟨H5, Hg, Ho⟩
  iapply (wp_exch d L s5V (hset5 d L) h9 4 (by decide) ?hv ?hidx ?hchk) $$ H5
  case hv => rfl
  case hidx => rfl
  case hchk => exact fun h => h
  iintro %f5 H5
  iapply (wp_exch d L s5V (hset5 d L) h9 8 (by decide) ?hv ?hidx ?hchk) $$ H5
  case hv => rfl
  case hidx => rfl
  case hchk => exact fun h => h
  iintro %f5 H5
  ihave H : iprop(hold d L s3V g ∗ (hold d L s5V f5 ∗ hold d L s2V o)) $$ [H5 Hg Ho]
  · isplitl [Hg]
    · iexact Hg
    isplitl [H5]
    · iexact H5
    · iexact Ho
  iapply (wp_meet (F := F) d L iprop(∃ g' : S272.Idx → BitVec 32, ⌜Listed base (missW (colsOf A) (timesOf T)) (Scalar.addi a17 (extractAt ![0] (k0_pay112 (F := F) (addx 2 (addx 1 v102)) (perm 4 (addx 2 (addx 1 v102))) (perm 8 (addx 4 (addx 2 (addx 1 v102))))) inpos_S1_p0)).toNat (32 * t1.val + 16) g'⌝
      ∗ hold d L s3V g' ∗ (hold d L s5V f5 ∗ hold d L s2V o)) ?hX ?hn ?hkk) $$ H
  case hX =>
    intro h hm
    refine wp_useG d L (wp_part6 d L G a17 _ h hL) ?_
    rintro ⟨v186, v192, v198, v204, v210, v216, v220⟩ g ⟨hv220, hL, hw0, hw1, hw2, hw3, hw4, hw5⟩
    dsimp only at hv220 hL hw0 hw1 hw2 hw3 hw4 hw5
    subst hv220
    refine wp_useG d L (wp_part7 d L G a17 _ h v186 v192 v198 v204 v210 v216 hL) ?_
    rintro ⟨v222, v228, v234, v240, v246, v252, v256⟩ g ⟨hv256, hL, hw6, hw7, hw8, hw9, hw10, hw11⟩
    dsimp only at hv256 hL hw6 hw7 hw8 hw9 hw10 hw11
    subst hv256
    iterate 3 refine wp_slotG d L G _ (by decide) hL rfl rfl rfl (fun _ => rfl) (fun h _ hc => h hc) fun g hL => ?_
    refine wp_slotG d L G _ (by decide) hL rfl rfl rfl (fun _ => rfl) (fun h _ hc => h hc) fun g hL => ?_
    refine BIBase.Entails.trans ?_ hm
    iintro ⟨Hg, HR⟩
    iexists g
    isplitr [Hg HR]
    · ipureintro
      refine (congrArg (fun n : BitVec 32 => Listed base (missW (colsOf A) (timesOf T)) n.toNat (32 * t1.val + 16) g) ?_).mp hL
      subst hw0 hw1 hw2 hw3 hw4 hw5 hw6 hw7 hw8 hw9 hw10 hw11
      refine Eq.trans ?_ (run_sum a17 v102 _ ?_)
      · exact congrArg₂ Scalar.addi (congrArg₂ Scalar.addi (congrArg₂ Scalar.addi (congrArg₂ Scalar.addi rfl (congrArg v102 (ext1 rfl))) (congrArg v102 (ext1 rfl)))
          (congrArg v102 (ext1 rfl))) (congrArg v102 (ext1 rfl))
      all_goals rfl
    · isplitl [Hg]
      · iexact Hg
      · iexact HR
  case hn =>
    intro h
    obtain ⟨hz, hs⟩ := none_left (missW_cases (colsOf A) (timesOf T)) hv _ rfl h
    iintro ⟨Hg, HR⟩
    iexists g
    isplitr [Hg HR]
    · ipureintro
      refine (congrArg (fun n : BitVec 32 => Listed base (missW (colsOf A) (timesOf T)) n.toNat (32 * t1.val + 16) g) ?_).mp (hL.skips 16 hz)
      refine ((congrArg (Scalar.addi a17) hs).trans (BitVec.add_zero _)).symm
    · isplitl [Hg]
      · iexact Hg
      · iexact HR
  case hkk =>
    iintro ⟨%g', %hL', Hg, H5, Ho⟩
    iapply (wp_row16 d L (k0_off23 t1)) $$ Ho; iintro Ho
    iapply (wp_exch d L s5V (hset5 d L) h9 1 (by decide) ?hv ?hidx ?hchk) $$ H5
    case hv => rfl
    case hidx => rfl
    case hchk => exact fun h => h
    iintro %f5 H5
    iapply (wp_value (F := F) d L _ (Entails.refl _))
    iexists _, f5, g'
    isplitr [Hg Ho H5]
    · ipureintro
      refine ⟨rfl, fun x => ?_, rfl, hL', ?_⟩
      · show Scalar.select (hit (v88 x)) 0#32 1#32 = _
        rw [h88]; rfl
      · exact rows_put (off := k0_off23 t1) ho (by omega) (by rw [k0_off23_eq]; rfl) fun x => first_words h10 h85 h88 x
    · isplitl [H5]
      · iexact H5
      isplitl [Hg]
      · iexact Hg
      · iexact Ho

end Cert.Proof.Tpp

end
-- ==== Proof.Scan.lean ====
/- The scan of one gathered row: the last word at or before a time, lane by lane over the row's 128 runs of sixteen words. -/
module

public import proofs.«01_k».proof.Proof.Pair
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

/-- The number of the last of the first `n` runs whose word is at or before `t`; −1 if none is. -/
def scanI (t : F .f32) (x : ℕ → F .f32) : ℕ → BitVec 32
  | 0 => 4294967295#32
  | n + 1 => Scalar.select (FloatOps.cmpf .ole (x n) t) (BitVec.ofNat 32 n) (scanI t x n)
/-- Its word; the zero word if none is. -/
def scanV (t : F .f32) (x : ℕ → F .f32) : ℕ → F .f32
  | 0 => zro
  | n + 1 => Scalar.select (FloatOps.cmpf .ole (x n) t) (x n) (scanV t x n)

/-- Row `j` of the gathered rows. -/
def rowW (R : S16x2048.Idx → F .f32) (j q : ℕ) : F .f32 := R (i16x2048 j q)

/-- Run `m` of a trip's eight, as the kernel loads it. -/
def runOf (off : Fin 8 → Fin 2 → ℕ) (inb : ∀ m a, off m a + S1x16.size a ≤ S16x2048.size a) (R : S16x2048.Idx → F .f32) (m : Fin 8) : FVec F S16 .f32 :=
  shapeCast S16 (s4V.view.readAt (Elt F) (Rect.unit (s := S16x2048) (off m) S1x16.size (inb m)).toLoadRect R) shapeCasts_S1x16_S16

theorem runOf_apply (off : Fin 8 → Fin 2 → ℕ) (inb : ∀ m a, off m a + S1x16.size a ≤ S16x2048.size a) (R : S16x2048.Idx → F .f32) (m : Fin 8)
    (x : S16.Idx) {c r : ℕ} (h0 : off m 0 = c) (h1 : off m 1 + (x 0).val = r) : runOf off inb R m x = R (i16x2048 c r) := by
  have hc := inb m 0
  have hr := inb m 1
  have hc' : off m 0 + 1 ≤ 16 := hc
  have hr' : off m 1 + 16 ≤ 2048 := hr
  have hx := lane_lt x
  unfold runOf
  have e := shapeCast_1a_a_apply (a := 16) (s4V.view.readAt (Elt F) (Rect.unit (s := S16x2048) (off m) S1x16.size (inb m)).toLoadRect R)
    shapeCasts_S1x16_S16 (x 0)
  have hix : (ix1 (x 0 : Fin 16) : S16.Idx) = x := funext fun | 0 => rfl
  rw [hix] at e
  refine e.trans ?_
  show R _ = R _
  refine congrArg R (ext2 ?_ ?_)
  · show off m 0 + 1 * 0 = c % 16
    rw [← h0, Nat.mod_eq_of_lt (show off m 0 < 16 by omega)]; rfl
  · show off m 1 + 1 * (x 0).val = r % 2048
    rw [← h1, Nat.mod_eq_of_lt (by omega), Nat.one_mul]

/-- The first `n` of a trip's runs on sixteen lanes at once: the run's number … -/
def runI (t : FVec F S16 .f32) (run : Fin 8 → FVec F S16 .f32) (num : Fin 8 → BitVec 32) (acc : IVec S16 32) : ℕ → IVec S16 32
  | 0 => acc
  | n + 1 => select (cmpf .ole (run (Fin.ofNat 8 n)) t) (broadcast S16 (num (Fin.ofNat 8 n))) (runI t run num acc n)
/-- … and its word. -/
def runV (t : FVec F S16 .f32) (run : Fin 8 → FVec F S16 .f32) (acc : FVec F S16 .f32) : ℕ → FVec F S16 .f32
  | 0 => acc
  | n + 1 => select (cmpf .ole (run (Fin.ofNat 8 n)) t) (run (Fin.ofNat 8 n)) (runV t run acc n)

theorem runI_lane {t : FVec F S16 .f32} {run : Fin 8 → FVec F S16 .f32} {num : Fin 8 → BitVec 32} {acc : IVec S16 32} {X : ℕ → ℕ → F .f32} {k₀ : ℕ}
    (hrun : ∀ (m : Fin 8) x, run m x = X (x 0).val (k₀ + m.val)) (hnum : ∀ m : Fin 8, num m = BitVec.ofNat 32 (k₀ + m.val))
    (hacc : ∀ x, acc x = scanI (t x) (X (x 0).val) k₀) (n : ℕ) (hn : n ≤ 8) (x : S16.Idx) :
    runI t run num acc n x = scanI (t x) (X (x 0).val) (k₀ + n) := by
  induction n with
  | zero => exact hacc x
  | succ n ih =>
    show Scalar.select (FloatOps.cmpf .ole (run (Fin.ofNat 8 n) x) (t x)) (num (Fin.ofNat 8 n)) (runI t run num acc n x) = Scalar.select _ _ _
    have hn' : (Fin.ofNat 8 n).val = n := Nat.mod_eq_of_lt (by omega)
    rw [ih (by omega), hrun, hnum, hn']
    rfl

theorem runV_lane {t : FVec F S16 .f32} {run : Fin 8 → FVec F S16 .f32} {acc : FVec F S16 .f32} {X : ℕ → ℕ → F .f32} {k₀ : ℕ}
    (hrun : ∀ (m : Fin 8) x, run m x = X (x 0).val (k₀ + m.val))
    (hacc : ∀ x, acc x = scanV (t x) (X (x 0).val) k₀) (n : ℕ) (hn : n ≤ 8) (x : S16.Idx) :
    runV t run acc n x = scanV (t x) (X (x 0).val) (k₀ + n) := by
  induction n with
  | zero => exact hacc x
  | succ n ih =>
    show Scalar.select (FloatOps.cmpf .ole (run (Fin.ofNat 8 n) x) (t x)) (run (Fin.ofNat 8 n) x) (runV t run acc n x) = Scalar.select _ _ _
    have hn' : (Fin.ofNat 8 n).val = n := Nat.mod_eq_of_lt (by omega)
    rw [ih (by omega), hrun, hn']
    rfl

theorem run_num (t6 : Fin k0_t6_loop.trips) (m : Fin 8) :
    Scalar.addi (Scalar.muli (Scf.iv 0#32 1#32 t6) 8#32) (BitVec.ofNat 32 m.val) = BitVec.ofNat 32 (8 * t6.val + m.val) := by
  revert t6 m; decide

/-- One trip: eight runs. -/
theorem wp_t6 (v9 : IVec S16 32) (v10 : FVec F S16 .f32) (v12 : IVec S16 32) (v74 : BitVec 32) (h35 : k0_cond35 v74 = 1#1) (t3 : Fin (k0_t3_loop v74).trips)
    (t5 : Fin k0_t5_loop.trips) (a17 : BitVec 32) (h36 : k0_cond36 v74 t3 t5 = 1#1) (v147 : FVec F S16 .f32) (c2 : BitVec 32) (v153 v160 v167 : Vec F S16 .f32)
    (t6 : Fin k0_t6_loop.trips) (acc : IVec S16 32 × FVec F S16 .f32) (R : S16x2048.Idx → F .f32) :
    hold (F := F) d L s4V R ⊢ wpT (F := F) d L (k0_t6_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v9 v10 v12 v74 h35 t3 t5 a17 h36 v147 c2 v153 v160 v167 t6 acc)
      fun r => iprop(⌜r.1 = runI (k0_pay150 v147 v153 v160 v167) (runOf (fun m => k0_off45 t5 t6 (BitVec.ofNat 32 m.val)) (k0_off45_inb t5 t6) R)
            (fun m => Scalar.addi (Scalar.muli (Scf.iv 0#32 1#32 t6) 8#32) (BitVec.ofNat 32 m.val)) acc.1 8
          ∧ r.2 = runV (k0_pay150 v147 v153 v160 v167) (runOf (fun m => k0_off45 t5 t6 (BitVec.ofNat 32 m.val)) (k0_off45_inb t5 t6) R) acc.2 8⌝ ∗ hold d L s4V R) := by
  obtain ⟨a, b⟩ := acc
  unfold k0_t6_body
  simp only [k0_part12_eq_skeleton]
  unfold k0_part12_skel
  unfold wpT
  iintro H
  sl_exec
  rw [wp_ret]
  imodintro
  isplitr [H]
  · ipureintro; exact ⟨rfl, rfl⟩
  · iexact H

/-- The whole loop: lane `l` of the results is the scan of the row's words `l, 16 + l, 32 + l, …`. -/
theorem wp_scan (v9 : IVec S16 32) {v10 : FVec F S16 .f32} (h10 : ∀ x, v10 x = zro) {v12 : IVec S16 32} (h12 : ∀ x, v12 x = 4294967295#32) (v74 : BitVec 32) (h35 : k0_cond35 v74 = 1#1) (t3 : Fin (k0_t3_loop v74).trips)
    (t5 : Fin k0_t5_loop.trips) (a17 : BitVec 32) (h36 : k0_cond36 v74 t3 t5 = 1#1) (v147 : FVec F S16 .f32) (c2 : BitVec 32) (v153 v160 v167 : Vec F S16 .f32)
    (R : S16x2048.Idx → F .f32) :
    hold (F := F) d L s4V R ⊢ wpT (F := F) d L (Scf.Loop.for k0_t6_loop k0_t6_ok (v12, v10) (k0_t6_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v9 v10 v12 v74 h35 t3 t5 a17 h36 v147 c2 v153 v160 v167))
      fun r => iprop(⌜(∀ x, r.1 x = scanI (k0_pay150 v147 v153 v160 v167 x) (fun n => rowW R t5.val (16 * n + (x 0).val)) 128)
          ∧ ∀ x, r.2 x = scanV (k0_pay150 v147 v153 v160 v167 x) (fun n => rowW R t5.val (16 * n + (x 0).val)) 128⌝ ∗ hold d L s4V R) := by
  have key := wp_loop (F := F) d L k0_t6_loop k0_t6_ok (v12, v10) (k0_t6_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v9 v10 v12 v74 h35 t3 t5 a17 h36 v147 c2 v153 v160 v167)
    (fun k r => iprop(⌜(∀ x, r.1 x = scanI (k0_pay150 v147 v153 v160 v167 x) (fun n => rowW R t5.val (16 * n + (x 0).val)) (8 * k))
          ∧ ∀ x, r.2 x = scanV (k0_pay150 v147 v153 v160 v167 x) (fun n => rowW R t5.val (16 * n + (x 0).val)) (8 * k)⌝ ∗ hold d L s4V R))
    (P := hold (F := F) d L s4V R) (by
      iintro H
      isplitr [H]
      · ipureintro; exact ⟨fun x => h12 x, fun x => h10 x⟩
      · iexact H) (fun t6 acc => by
      iintro ⟨%hacc, H⟩
      iapply (wp_done d L (wp_t6 d L v9 v10 v12 v74 h35 t3 t5 a17 h36 v147 c2 v153 v160 v167 t6 acc R)) $$ H
      iintro %r ⟨%hr, H⟩
      isplitr [H]
      · ipureintro
        have e45 := fun m : Fin 8 => k0_off45_eq t5 t6 m
        have hrun : ∀ (m : Fin 8) (x : S16.Idx), runOf (fun m => k0_off45 t5 t6 (BitVec.ofNat 32 m.val)) (k0_off45_inb t5 t6) R m x
            = (fun l n => rowW R t5.val (16 * n + l)) (x 0).val (8 * t6.val + m.val) := fun m x =>
          runOf_apply _ _ R m x (by rw [e45]; rfl) (by
            rw [e45]
            show _ + _ = _
            simp
            omega)
        refine ⟨fun x => ?_, fun x => ?_⟩
        · rw [hr.1, show 8 * (t6.val + 1) = 8 * t6.val + 8 by omega]
          exact runI_lane (X := fun l n => rowW R t5.val (16 * n + l)) hrun (run_num t6) hacc.1 8 le_rfl x
        · rw [hr.2, show 8 * (t6.val + 1) = 8 * t6.val + 8 by omega]
          exact runV_lane (X := fun l n => rowW R t5.val (16 * n + l)) hrun hacc.2 8 le_rfl x
      · iexact H)
  rw [show 8 * k0_t6_loop.trips = 128 by decide] at key
  exact key

end Cert.Proof.Tpp

end
-- ==== Proof.Halves.lean ====
/- The exchange of lanes in two halves, for the places where other operations come between them. -/
module

public import proofs.«01_k».proof.Proof.Exchange
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

/-- A sixteen-word scratch into which the words `w` were stored last. -/
def stored {e : EltTy} (M : Memref sig .scVector .vmem S16 e) (w : Vec F S16 e) : sProp (MM F) :=
  iprop(∃ f : Buf (Elt F) (M.view.loc (thr d L)), hold (F := F) d L M (View.write (Elt F) (M.access rW) f w Finset.univ))

variable {d L}
variable {e : EltTy} {M : Memref sig .scVector .vmem S16 e}
    {v9 : IVec S16 32} {v w : Vec F S16 e} {idx : IVec S16 32}
    {α : Type} {Q : α → sProp (MM F)}

theorem self16 {β : Type} (w : S16.Idx → β) : shapeCast S16 w shapeCasts_S16_S16 = w := funext (shapeCast_self16 w)

/-- Sixteen words stored. -/
theorem wp_put {hl₁ : M.view.LoadsAt rW.toLoadRect} {hx : (M.access rW).Stores Finset.univ}
    {hm : (Finset.univ : Finset rW.shape.Idx) = Finset.univ ∨ ∀ a, rW.stride a = 1} {kk : PUnit → Prog (TpuEff nD τ sig (Elt F) Λ₀ (thr d L).2) α}
    (hv : v = shapeCast S16 w shapeCasts_S16_S16) :
    iprop(∃ f : Buf (Elt F) (M.view.loc (thr d L)), hold (F := F) d L M f) ⊢ iprop((stored d L M w -∗ wpT (F := F) d L (kk ⟨⟩) Q) -∗ wpT d L (Prog.lift (.load M rW.toLoadRect hl₁) >>= fun _ =>
      Prog.lift (.store M rW v Finset.univ hx hm) >>= kk) Q) := by
  refine BIClass.wand_intro ?_
  iintro ⟨⟨%f, H⟩, HK⟩
  have key : iprop(hold (F := F) d L M f ∗ (stored d L M w -∗ wpT (F := F) d L (kk ⟨⟩) Q)) ⊢ wpT (F := F) d L (Prog.lift (.load M rW.toLoadRect hl₁) >>= fun _ =>
      Prog.lift (.store M rW v Finset.univ hx hm) >>= kk) Q := by
    refine st_load d L (st_store d L ?_)
    rw [hv, self16]
    iintro ⟨H, HK⟩
    iapply HK
    unfold stored
    iexists f
    iexact H
  iapply key
  isplitl [H]
  · iexact H
  · iexact HK

/-- The check that the lanes' numbers name words of the scratch. -/
theorem wp_lanes {chk : Prop} {dec : Decidable chk} {kk : PLift chk → Prog (TpuEff nD τ sig (Elt F) Λ₀ (thr d L).2) α} {P : sProp (MM F)}
    (h9 : IsLanes v9) (k : ℕ) (hk : k < 16) (hidx : idx = xori v9 (broadcast S16 (BitVec.ofNat 32 k)))
    (hchk : (∀ a x, ((![idx] : Fin 1 → IVec S16 32) a x).toNat < S16.size a) → chk) (hkk : ∀ h, P ⊢ wpT (F := F) d L (kk ⟨h⟩) Q) :
    P ⊢ wpT (F := F) d L (Prog.lift (TpuEff.assume chk dec) >>= kk) Q := by
  have hin : ∀ a x, ((![idx] : Fin 1 → IVec S16 32) a x).toNat < S16.size a := fun
    | 0, x => by
      have h := lanes_xor h9 hk x
      show (idx x).toNat < 16
      rw [hidx, h.1]; exact h.2
  exact st_assume d L (hchk hin) (hkk _)

/-- The same check, as a rule about what follows it. -/
theorem wp_lanes1 {chk : Prop} {dec : Decidable chk} {kk : PLift chk → Prog (TpuEff nD τ sig (Elt F) Λ₀ (thr d L).2) α}
    (h9 : IsLanes v9) (k : ℕ) (hk : k < 16) (hidx : idx = xori v9 (broadcast S16 (BitVec.ofNat 32 k)))
    (hchk : (∀ a x, ((![idx] : Fin 1 → IVec S16 32) a x).toNat < S16.size a) → chk) :
    iprop(∀ h, wpT (F := F) d L (kk ⟨h⟩) Q) ⊢ wpT (F := F) d L (Prog.lift (TpuEff.assume chk dec) >>= kk) Q :=
  wp_lanes h9 k hk hidx hchk fun h => by
    iintro H
    iapply H

/-- The stored words read back with every lane's number changed by `k`. -/
theorem wp_get
    (hset : ∀ (f : Buf (Elt F) (M.view.loc (thr d L))) (w : Vec F S16 e),
      (M.access (.whole S16)).read (Elt F) (View.write (Elt F) (M.access rW) f w Finset.univ) = w)
    (h9 : IsLanes v9) (k : ℕ) (hk : k < 16) {inb : ∀ a x, ((![idx] : Fin 1 → IVec S16 32) a x).toNat < S16.size a} {hl₂ : M.view.Loads}
    {kk : Vec F S16 e → Prog (TpuEff nD τ sig (Elt F) Λ₀ (thr d L).2) α} (hidx : idx = xori v9 (broadcast S16 (BitVec.ofNat 32 k))) :
    stored (F := F) d L M w ⊢ iprop(((∃ f', hold (F := F) d L M f') -∗ wpT d L (kk (perm k w)) Q) -∗ wpT d L (SparseCore.vectorLoadIdx M ![idx] inb hl₂ >>= kk) Q) := by
  refine BIClass.wand_intro ?_
  have hval : ∀ f : Buf (Elt F) (M.view.loc (thr d L)),
      loadIdx ((M.access (.whole S16)).read (Elt F) (View.write (Elt F) (M.access rW) f w Finset.univ)) ![idx] inb = perm k w := by
    intro f
    rw [hset]
    funext x
    have h := lanes_xor h9 hk x
    show w _ = w _
    refine congrArg w (ext1 ?_)
    show (idx x).toNat = _
    rw [hidx, h.1, i16_val h.2]
  unfold stored
  iintro ⟨⟨%f, H⟩, HK⟩
  have key : iprop(hold (F := F) d L M (View.write (Elt F) (M.access rW) f w Finset.univ) ∗ ((∃ f', hold (F := F) d L M f') -∗ wpT d L (kk (perm k w)) Q))
      ⊢ wpT d L (SparseCore.vectorLoadIdx M ![idx] inb hl₂ >>= kk) Q := by
    refine st_gather d L ?_
    rw [hval]
    iintro ⟨H, HK⟩
    iapply HK
    iexists _
    iexact H
  iapply key
  isplitl [H]
  · iexact H
  · iexact HK

/-- Both halves together. -/
theorem wp_swap
    (hset : ∀ (f : Buf (Elt F) (M.view.loc (thr d L))) (w : Vec F S16 e),
      (M.access (.whole S16)).read (Elt F) (View.write (Elt F) (M.access rW) f w Finset.univ) = w)
    (h9 : IsLanes v9) (k : ℕ) (hk : k < 16) {chk : Prop} {dec : Decidable chk}
    {hl₁ : M.view.LoadsAt rW.toLoadRect} {hx : (M.access rW).Stores Finset.univ}
    {hm : (Finset.univ : Finset rW.shape.Idx) = Finset.univ ∨ ∀ a, rW.stride a = 1}
    {inb : PLift chk → ∀ a x, ((![idx] : Fin 1 → IVec S16 32) a x).toNat < S16.size a} {hl₂ : M.view.Loads}
    {kk : Vec F S16 e → Prog (TpuEff nD τ sig (Elt F) Λ₀ (thr d L).2) α}
    (hv : v = shapeCast S16 w shapeCasts_S16_S16) (hidx : idx = xori v9 (broadcast S16 (BitVec.ofNat 32 k)))
    (hchk : (∀ a x, ((![idx] : Fin 1 → IVec S16 32) a x).toNat < S16.size a) → chk) :
    iprop(∃ f : Buf (Elt F) (M.view.loc (thr d L)), hold (F := F) d L M f) ⊢ iprop(((∃ f', hold (F := F) d L M f') -∗ wpT d L (kk (perm k w)) Q)
      -∗ wpT d L (Prog.lift (.load M rW.toLoadRect hl₁) >>= fun _ => Prog.lift (.store M rW v Finset.univ hx hm) >>= fun _ =>
      Prog.lift (TpuEff.assume chk dec) >>= fun a => SparseCore.vectorLoadIdx M ![idx] (inb a) hl₂ >>= kk) Q) := by
  refine BIClass.wand_intro ?_
  iintro ⟨H, HK⟩
  iapply (wp_put (F := F) (d := d) (L := L) (w := w) hv) $$ H
  iintro H
  iapply (wp_lanes1 (F := F) (d := d) (L := L) h9 k hk hidx hchk)
  iintro %hl
  iapply (wp_get (F := F) (d := d) (L := L) hset h9 k hk hidx) $$ H
  iexact HK

end Cert.Proof.Tpp

end
-- ==== Proof.Window.lean ====
/- Where a listed row's window of sixteen rows starts, from the row's number. -/
module

public import proofs.«01_k».proof.Proof.Slots
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

/-- The start of the window of sixteen rows a row is in, as the kernel computes it: sixteen times the row's quotient. -/
def win (v115 : BitVec 32) : BitVec 32 :=
  let c0_i32_39 : BitVec 32 := 0#32
  let v117 : BitVec 1 := Scalar.cmpi .sgt v115 c0_i32_39
  let v118 : BitVec 32 := Scalar.extui v117
  let c0_i32_40 : BitVec 32 := 0#32
  let v119 : BitVec 1 := Scalar.cmpi .slt v115 c0_i32_40
  let v120 : BitVec 32 := Scalar.extui v119
  let v121 : BitVec 32 := Scalar.subi v118 v120
  let c16_i32_38 : BitVec 32 := 16#32
  let c0_i32_41 : BitVec 32 := 0#32
  let v122 : BitVec 1 := Scalar.cmpi .sgt c16_i32_38 c0_i32_41
  let v123 : BitVec 32 := Scalar.extui v122
  let c0_i32_42 : BitVec 32 := 0#32
  let v124 : BitVec 1 := Scalar.cmpi .slt c16_i32_38 c0_i32_42
  let v125 : BitVec 32 := Scalar.extui v124
  let v126 : BitVec 32 := Scalar.subi v123 v125
  let v127 : BitVec 1 := Scalar.cmpi .ne v121 v126
  let v128 : BitVec 32 := Scalar.remsi v115 c16_i32_38
  let c0_i32_43 : BitVec 32 := 0#32
  let v129 : BitVec 1 := Scalar.cmpi .ne v128 c0_i32_43
  let v130 : BitVec 1 := Scalar.andi v127 v129
  let v116 : BitVec 32 := Scalar.divsi v115 c16_i32_38
  let c1_i32_44 : BitVec 32 := 1#32
  let v131 : BitVec 32 := Scalar.subi v116 c1_i32_44
  let v132 : BitVec 32 := Scalar.select v130 v131 v116
  let c16_i32_45 : BitVec 32 := 16#32
  let v133 : BitVec 32 := Scalar.muli v132 c16_i32_45
  v133

theorem win_eq : ∀ r : Fin 256, win (BitVec.ofNat 32 r.val) = BitVec.ofNat 32 (16 * (r.val / 16)) := by decide +kernel

/-- The first row of a task's 256. -/
def baseN (L : grid0.Coords) : ℕ := 512 * (L 1).val + 256 * (L 0).val

theorem base_word (L : grid0.Coords) : Scalar.muli (Scalar.addi (Scalar.muli (BitVec.ofNat 32 (L 1).val) 2#32) (BitVec.ofNat 32 (L 0).val)) 256#32 = BitVec.ofNat 32 (baseN L) := by
  show (BitVec.ofNat 32 (L 1).val * BitVec.ofNat 32 2 + BitVec.ofNat 32 (L 0).val) * BitVec.ofNat 32 256 = _
  rw [← BitVec.ofNat_mul, ← BitVec.ofNat_add, ← BitVec.ofNat_mul]
  congr 1
  unfold baseN
  omega

theorem word_sub (base r : ℕ) : Scalar.subi (BitVec.ofNat 32 (base + r)) (BitVec.ofNat 32 base) = BitVec.ofNat 32 r := by
  show BitVec.ofNat 32 (base + r) - BitVec.ofNat 32 base = _
  rw [BitVec.ofNat_add, BitVec.add_comm, BitVec.add_sub_cancel]

theorem win_nat {r : ℕ} (hr : r < 256) : (win (BitVec.ofNat 32 r)).toNat = 16 * (r / 16) := by
  rw [win_eq ⟨r, hr⟩, BitVec.toNat_ofNat]
  exact Nat.mod_eq_of_lt (by show 16 * (r / 16) < 2 ^ 32; omega)

theorem off44_nat (L : grid0.Coords) {r : ℕ} (hr : r < 256) : k0_off44 L (BitVec.ofNat 32 (baseN L + r)) 0 = 16 * (r / 16) := by
  have e : k0_off44 L (BitVec.ofNat 32 (baseN L + r)) 0
      = (win (Scalar.subi (BitVec.ofNat 32 (baseN L + r)) (Scalar.muli (Scalar.addi (Scalar.muli (BitVec.ofNat 32 (L 1).val) 2#32) (BitVec.ofNat 32 (L 0).val)) 256#32))).toNat := rfl
  rw [e, base_word, word_sub, win_nat hr]

theorem off46_nat (L : grid0.Coords) {r : ℕ} (hr : r < 256) : k0_off46 L (BitVec.ofNat 32 (baseN L + r)) 0 = 16 * (r / 16) := off44_nat L hr

/-- The lane of its window a listed row is in. -/
theorem lane_is {v9 : IVec S16 32} (h9 : IsLanes v9) {base r : ℕ} (hr : r < 256) {v111 : IVec S16 32} (h111 : v111 (i16 0) = BitVec.ofNat 32 (base + r)) (x : S16.Idx) :
    k0_pay137 (F := F) (BitVec.ofNat 32 base) v9 v111 x = (if (x 0).val = r % 16 then 1#1 else 0#1) := by
  have hx := lane_lt x
  have e0 : extractAt ![0] (k0_pay136 (F := F) v111) inpos_S1_p0 = BitVec.ofNat 32 (base + r) := by
    refine Eq.trans ?_ h111
    unfold k0_pay136
    refine (shapeCast_self16 v111 _).trans (congrArg v111 (ext1 rfl))
  have e : k0_pay137 (F := F) (BitVec.ofNat 32 base) v9 v111 x
      = IntOp.cmpi .eq (v9 x) (Scalar.subi (Scalar.subi (extractAt ![0] (k0_pay136 (F := F) v111) inpos_S1_p0) (BitVec.ofNat 32 base)) (win (Scalar.subi (extractAt ![0] (k0_pay136 (F := F) v111) inpos_S1_p0) (BitVec.ofNat 32 base)))) := rfl
  have e2 : Scalar.subi (BitVec.ofNat 32 r) (BitVec.ofNat 32 (16 * (r / 16))) = BitVec.ofNat 32 (r % 16) := by
    have := word_sub (16 * (r / 16)) (r % 16)
    rwa [Nat.div_add_mod] at this
  rw [e, e0, word_sub, win_eq ⟨r, hr⟩, e2, h9]
  have key : ∀ a b : Fin 16, IntOp.cmpi .eq (BitVec.ofNat 32 a.val) (BitVec.ofNat 32 b.val) = if a.val = b.val then 1#1 else 0#1 := by decide
  exact key ⟨_, hx⟩ ⟨r % 16, Nat.mod_lt _ (by decide)⟩

end Cert.Proof.Tpp

end
-- ==== Proof.Rescan.lean ====
/- The second pass over one listed row: its time spread over the lanes, its words scanned, the last one found stored as the row's decay. -/
module

public import proofs.«01_k».proof.Proof.Scan
public import proofs.«01_k».proof.Proof.Halves
public import proofs.«01_k».proof.Proof.Window
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

/-- A row's time in its lane, `fl` in the others. -/
def startW (T : ℕ → F .f32) (fl : F .f32) (r : ℕ) : FVec F S16 .f32 := fun x => if (x 0).val = r % 16 then T (16 * (r / 16) + (x 0).val) else fl
/-- A step of the maximum over the lanes. -/
def mx (k : ℕ) (w : FVec F S16 .f32) : FVec F S16 .f32 := maximumf w (perm k w)
/-- The row's time on every lane, as far as the maximum carries it. -/
def timeW (T : ℕ → F .f32) (fl : F .f32) (r : ℕ) : FVec F S16 .f32 := mx 8 (mx 4 (mx 2 (mx 1 (startW T fl r))))
/-- The column of each lane's last word at or before the time; −1 if there is none. -/
def lastI (tb : FVec F S16 .f32) (X : ℕ → F .f32) : IVec S16 32 := fun x =>
  Scalar.select (IntOp.cmpi .sge (scanI (tb x) (fun n => X (16 * n + (x 0).val)) 128) 0#32)
    (IntOp.addi (IntOp.muli (scanI (tb x) (fun n => X (16 * n + (x 0).val)) 128) 16#32) (BitVec.ofNat 32 (x 0).val)) 4294967295#32
/-- That word. -/
def lastV (tb : FVec F S16 .f32) (X : ℕ → F .f32) : FVec F S16 .f32 := fun x => scanV (tb x) (fun n => X (16 * n + (x 0).val)) 128
/-- A step of the search over the lanes for the largest column. -/
def argx (k : ℕ) (p : IVec S16 32 × FVec F S16 .f32) : IVec S16 32 × FVec F S16 .f32 :=
  (select (cmpi .sgt (perm k p.1) p.1) (perm k p.1) p.1, select (cmpi .sgt (perm k p.1) p.1) (perm k p.2) p.2)
/-- The largest column and its word, on every lane. -/
def bestW (tb : FVec F S16 .f32) (X : ℕ → F .f32) : IVec S16 32 × FVec F S16 .f32 := argx 8 (argx 4 (argx 2 (argx 1 (lastI tb X, lastV tb X))))
/-- The row's decay from them. -/
def decayW (tb : FVec F S16 .f32) (X : ℕ → F .f32) : FVec F S16 .f32 := fun x =>
  Scalar.select (IntOp.cmpi .sge ((bestW tb X).1 x) 0#32) (decay (tb x) ((bestW tb X).2 x)) zro
/-- The word the second pass stores for row `r`. -/
def second (T : ℕ → F .f32) (fl : F .f32) (X : ℕ → F .f32) (r : ℕ) : F .f32 := decayW (timeW T fl r) X (i16 (r % 16))

theorem start_lane (b : BitVec 32) (v9 : IVec S16 32) (v11 : FVec F S16 .f32) (v111 : Vec F S16 .i32) (v138 : Vec F S16 .f32) (x : S16.Idx) :
    k0_pay138 b v9 v11 v111 v138 x = Scalar.select (k0_pay137 (F := F) b v9 v111 x) (v138 x) (v11 x) := by
  show Scalar.select (k0_pay137 (F := F) b v9 v111 x) (shapeCast S16 v138 shapeCasts_S16_S16 x) (v11 x) = _
  rw [shapeCast_self16]

theorem start_words {b : BitVec 32} {v9 : IVec S16 32} {v11 : FVec F S16 .f32} {v111 : Vec F S16 .i32} {v138 : Vec F S16 .f32} {fl : F .f32} (h11 : ∀ x, v11 x = fl) {r : ℕ}
    (h136 : ∀ x, k0_pay137 (F := F) b v9 v111 x = if (x 0).val = r % 16 then 1#1 else 0#1) {T : ℕ → F .f32}
    (hT : ∀ x, v138 x = T (16 * (r / 16) + (x 0).val)) :
    k0_pay138 b v9 v11 v111 v138 = startW T fl r := by
  funext x
  rw [start_lane, h136, h11, hT]
  unfold startW
  by_cases h : (x 0).val = r % 16
  · rw [if_pos h, if_pos h]; rfl
  · rw [if_neg h, if_neg h]; rfl

theorem times_at {off : Fin 1 → ℕ} (inb : ∀ a, off a + S16.size a ≤ S256.size a) (T : S256.Idx → F .f32) {n : ℕ} (hn : off 0 = n) (x : S16.Idx) :
    (s1V.view.readAt (Elt F) (Rect.unit (s := S256) off S16.size inb).toLoadRect T : S16.Idx → F .f32) x = timesOf T (n + (x 0).val) :=
  times_read off inb T x (congrArg (· + (x 0).val) hn)

/-- Sixteen of the tile's times loaded. -/
theorem wp_ldT {off : Fin 1 → ℕ} {inb : ∀ a, off a + S16.size a ≤ S256.size a} {hl : s1V.view.LoadsAt (Rect.unit (s := S256) off S16.size inb).toLoadRect}
    {α : Type} {kk : Vec F S16 .f32 → Prog (TpuEff nD τ sig (Elt F) Λ₀ (thr d L).2) α} {Q : α → sProp (MM F)} {T : S256.Idx → F .f32} {n : ℕ} (hn : off 0 = n) :
    hold (F := F) d L s1V T ⊢ iprop((∀ v : Vec F S16 .f32, ⌜∀ x, v x = timesOf T (n + (x 0).val)⌝ -∗ hold (F := F) d L s1V T -∗ wpT d L (kk v) Q)
      -∗ wpT d L (Prog.lift (.load s1V (Rect.unit (s := S256) off S16.size inb).toLoadRect hl) >>= kk) Q) := by
  refine BIClass.wand_intro (st_load d L ?_)
  iintro ⟨H, HK⟩
  iapply HK $$ %_ [] H
  ipureintro
  exact times_at inb T hn

section Args
variable {v176 v182 : IVec S16 32} {v170 v188 : FVec F S16 .f32} {p : IVec S16 32 × FVec F S16 .f32}

theorem arg_i2 (h : k0_pay167 (F := F) v176 v182 = p.1) : k0_pay174 (F := F) v176 v182 (perm 2 p.1) = (argx 2 p).1 := by
  show select (cmpi .sgt (perm 2 p.1) (k0_pay167 (F := F) v176 v182)) (perm 2 p.1) (k0_pay167 (F := F) v176 v182) = _
  rw [h]; rfl

theorem arg_v2 (h : k0_pay167 (F := F) v176 v182 = p.1) (h' : k0_pay168 v170 v176 v182 v188 = p.2) :
    k0_pay175 v170 v176 v182 v188 (perm 2 p.1) (perm 2 p.2) = (argx 2 p).2 := by
  show select (cmpi .sgt (perm 2 p.1) (k0_pay167 (F := F) v176 v182)) (perm 2 p.2) (k0_pay168 v170 v176 v182 v188) = _
  rw [h, h']; rfl

variable {v197 : IVec S16 32} {v203 : FVec F S16 .f32}

theorem arg_i4 (h : k0_pay174 (F := F) v176 v182 v197 = p.1) : k0_pay181 (F := F) v176 v182 v197 (perm 4 p.1) = (argx 4 p).1 := by
  show select (cmpi .sgt (perm 4 p.1) (k0_pay174 (F := F) v176 v182 v197)) (perm 4 p.1) (k0_pay174 (F := F) v176 v182 v197) = _
  rw [h]; rfl

theorem arg_v4 (h : k0_pay174 (F := F) v176 v182 v197 = p.1) (h' : k0_pay175 v170 v176 v182 v188 v197 v203 = p.2) :
    k0_pay182 v170 v176 v182 v188 v197 v203 (perm 4 p.1) (perm 4 p.2) = (argx 4 p).2 := by
  show select (cmpi .sgt (perm 4 p.1) (k0_pay174 (F := F) v176 v182 v197)) (perm 4 p.2) (k0_pay175 v170 v176 v182 v188 v197 v203) = _
  rw [h, h']; rfl

end Args

section Parts
variable {v9 : IVec S16 32} {v10 : FVec F S16 .f32} {v11 : FVec F S16 .f32} {fl : F .f32}
  {v12 : IVec S16 32} {v74 : BitVec 32} (h35 : k0_cond35 v74 = 1#1) (t3 : Fin (k0_t3_loop v74).trips) (t5 : Fin k0_t5_loop.trips)
  (h36 : k0_cond36 v74 t3 t5 = 1#1)

/-- The row's number, and the first two steps of its time's spread. -/
theorem wp_part13 {v2 : BitVec 32} (h2 : v2 = BitVec.ofNat 32 (baseN L)) (h9 : IsLanes v9) (h11 : ∀ x, v11 x = fl) (h41 : k0_chk41 v74) (a16 a17 : BitVec 32) {g : S272.Idx → BitVec 32} {T : S256.Idx → F .f32} {r : ℕ} (hr : r < 256)
    (hg : g (i272 (k0_off43 v74 t3 t5 0)) = BitVec.ofNat 32 (baseN L + r)) :
    iprop(hold (F := F) d L s3V g ∗ hold (F := F) d L s1V T ∗ (∃ f6 : Buf (Elt F) (s6V.view.loc (thr d L)), hold (F := F) d L s6V f6))
      ⊢ wpT (F := F) d L (k0_part13 L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 v11 v74 h41 h35 t3 a16 t5 a17 h36)
      fun p => iprop(⌜p.1 = BitVec.ofNat 32 (baseN L + r) ∧ (∀ x, p.2.2.2.1 x = if (x 0).val = r % 16 then 1#1 else 0#1)
          ∧ p.2.2.2.2.1 = mx 1 (startW (timesOf T) fl r) ∧ p.2.2.2.2.2 = 2#32⌝
        ∗ hold (F := F) d L s3V g ∗ hold (F := F) d L s1V T ∗ stored (F := F) d L s6V p.2.2.2.2.1) := by
  simp only [k0_part13_eq_skeleton]
  unfold k0_part13_skel
  have h44 := off44_nat L hr
  have h46 := off46_nat L hr
  have hw : ∀ (inb : ∀ a, k0_off43 v74 t3 t5 a + S16.size a ≤ S272.size a),
      (s3V.view.readAt (Elt F) (Rect.unit (s := S272) (k0_off43 v74 t3 t5) S16.size inb).toLoadRect g : S16.Idx → BitVec 32) (i16 0) = BitVec.ofNat 32 (baseN L + r) := fun inb => by
    rw [list_read, ← hg]; rfl
  iintro ⟨Hg, HT, H6⟩
  iapply (wp_ld d L) $$ Hg; iintro Hg
  have h111 := hw (k0_off43_inb v74 h41 t3 t5 h35 h36)
  generalize View.readAt (Elt F) s3V.view (Rect.unit (s := S272) (k0_off43 v74 t3 t5) S16.size _).toLoadRect g = v111 at h111 ⊢
  have h114 : extractAt ![0] (k0_pay136 (F := F) v111) inpos_S1_p0 = BitVec.ofNat 32 (baseN L + r) := by
    refine Eq.trans ?_ h111
    unfold k0_pay136
    refine (shapeCast_self16 v111 _).trans (congrArg v111 (ext1 rfl))
  rw [← h114] at h44 h46
  have inb : ∀ a, k0_off44 L (extractAt ![0] (k0_pay136 (F := F) v111) inpos_S1_p0) a + S16.size a ≤ S256.size a := fun a => by
    match a with
    | 0 => rw [h44]; show _ + 16 ≤ 256; omega
  iapply (wp_as (F := F) d L ⟨fun _ _ => inb, fun _ _ a => by
      match a with
      | 0 => rw [h46]; show _ + 16 ≤ 256; omega⟩)
  iapply (wp_ldT (F := F) d L h44) $$ HT
  iintro %v138 %hT HT
  have h136 : ∀ x, k0_pay137 (F := F) v2 v9 v111 x = if (x 0).val = r % 16 then 1#1 else 0#1 := fun x => by
    rw [h2]; exact lane_is (F := F) h9 hr h111 x
  have h138 := start_words (F := F) h11 h136 hT
  iapply (wp_put (F := F) (d := d) (L := L) (M := s6V) (w := startW (timesOf T) fl r) ?hv) $$ H6
  case hv =>
    rw [← h138]; rfl
  iintro H6
  iapply (wp_lanes1 (F := F) (d := d) (L := L) h9 1 (by decide) ?hidx ?hchk)
  case hidx => rfl
  case hchk => exact fun h _ _ => h
  iintro %hl
  iapply (wp_get (F := F) (d := d) (L := L) (hset6 d L) h9 1 (by decide) ?hidx) $$ H6
  case hidx => rfl
  iintro H6
  iapply (wp_put (F := F) (d := d) (L := L) (M := s6V) (w := mx 1 (startW (timesOf T) fl r)) ?hv) $$ H6
  case hv => unfold mx; rw [← h138]; rfl
  iintro H6
  iapply (wp_value (F := F) d L _ (Entails.refl _))
  isplitr [Hg HT H6]
  · ipureintro
    exact ⟨h114, h136, by unfold mx; rw [← h138]; rfl, rfl⟩
  isplitl [Hg]
  · iexact Hg
  isplitl [HT]
  · iexact HT
  · have e : k0_pay141 (F := F) v2 v9 v11 v111 v138 (perm 1 (startW (timesOf T) fl r)) = mx 1 (startW (timesOf T) fl r) := by
      unfold mx; rw [← h138]; rfl
    rw [e]
    iexact H6

/-- The other steps of the spread, the scan, and the first exchange of its columns. -/
theorem wp_part14 (h9 : IsLanes v9) (h10 : ∀ x, v10 x = zro) (h12 : ∀ x, v12 x = 4294967295#32) (a17 : BitVec 32) {R : S16x2048.Idx → F .f32} (v147 : FVec F S16 .f32) :
    iprop(hold (F := F) d L s4V R ∗ (∃ f5 : Buf (Elt F) (s5V.view.loc (thr d L)), hold (F := F) d L s5V f5) ∗ stored (F := F) d L s6V v147)
      ⊢ wpT (F := F) d L (k0_part14 L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v9 v10 v12 v74 h35 t3 t5 a17 h36 v147 2#32)
      fun p => iprop(⌜p.1 = mx 8 (mx 4 (mx 2 v147)) ∧ p.2.1 = lastV (mx 8 (mx 4 (mx 2 v147))) (rowW R t5.val) ∧ p.2.2.1 = lastI (mx 8 (mx 4 (mx 2 v147))) (rowW R t5.val)
          ∧ p.2.2.2.1 = perm 1 p.2.2.1 ∧ p.2.2.2.2.1 = xori v9 (broadcast S16 (BitVec.ofNat 32 1))⌝
        ∗ hold (F := F) d L s4V R ∗ (∃ f5 : Buf (Elt F) (s5V.view.loc (thr d L)), hold (F := F) d L s5V f5) ∗ stored (F := F) d L s6V p.2.1) := by
  simp only [k0_part14_eq_skeleton]
  unfold k0_part14_skel
  iintro ⟨HR, H5, H6⟩
  iapply (wp_lanes1 (F := F) (d := d) (L := L) h9 2 (by decide) ?hidx ?hchk)
  case hidx => rfl
  case hchk => exact fun h _ _ => h
  iintro %hl
  iapply (wp_get (F := F) (d := d) (L := L) (hset6 d L) h9 2 (by decide) ?hidx) $$ H6
  case hidx => rfl
  iintro H6
  iapply (wp_put (F := F) (d := d) (L := L) (M := s6V) (w := mx 2 v147) ?hv) $$ H6
  case hv => rfl
  iintro H6
  iapply (wp_lanes1 (F := F) (d := d) (L := L) h9 4 (by decide) ?hidx ?hchk)
  case hidx => rfl
  case hchk => exact fun h _ _ => h
  iintro %hl
  iapply (wp_get (F := F) (d := d) (L := L) (hset6 d L) h9 4 (by decide) ?hidx) $$ H6
  case hidx => rfl
  iintro H6
  iapply (wp_put (F := F) (d := d) (L := L) (M := s6V) (w := mx 4 (mx 2 v147)) ?hv) $$ H6
  case hv => rfl
  iintro H6
  iapply (wp_lanes1 (F := F) (d := d) (L := L) h9 8 (by decide) ?hidx ?hchk)
  case hidx => rfl
  case hchk => exact fun h _ _ => h
  iintro %hl
  iapply (wp_get (F := F) (d := d) (L := L) (hset6 d L) h9 8 (by decide) ?hidx) $$ H6
  case hidx => rfl
  iintro H6
  have hscan := wp_scan (F := F) d L v9 h10 h12 v74 h35 t3 t5 a17 h36 v147 2#32 (perm 2 v147) (perm 4 (mx 2 v147)) (perm 8 (mx 4 (mx 2 v147))) R
  iapply (wp_use (F := F) d L hscan) $$ HR
  iintro %r ⟨%hr, HR⟩
  obtain ⟨r0, r1⟩ := r
  have e1 : r1 = lastV (mx 8 (mx 4 (mx 2 v147))) (rowW R t5.val) := funext hr.2
  have e0 : k0_pay161 v9 v12 r0 = lastI (mx 8 (mx 4 (mx 2 v147))) (rowW R t5.val) := by
    funext x
    show Scalar.select (IntOp.cmpi .sge (r0 x) 0#32) (IntOp.addi (IntOp.muli (r0 x) 16#32) (v9 x)) (v12 x) = _
    rw [h9, h12, show r0 x = _ from hr.1 x]; rfl
  subst e1
  iapply (wp_swap (F := F) (d := d) (L := L) (hset5 d L) h9 1 (by decide) (w := k0_pay161 v9 v12 r0) ?hv ?hidx ?hchk) $$ H5
  case hv => rfl
  case hidx => rfl
  case hchk => exact fun h _ _ => h
  iintro H5
  iapply (wp_put (F := F) (d := d) (L := L) (w := lastV (mx 8 (mx 4 (mx 2 v147))) (rowW R t5.val)) ?hv) $$ H6
  case hv => rfl
  iintro H6
  iapply (wp_lanes1 (F := F) (d := d) (L := L) h9 1 (by decide) ?hidx ?hchk)
  case hidx => rfl
  case hchk => exact fun h _ _ => h
  iintro %hl
  iapply (wp_value (F := F) d L _ (Entails.refl _))
  isplitr [HR H5 H6]
  · ipureintro
    exact ⟨rfl, rfl, e0, rfl, rfl⟩
  isplitl [HR]
  · iexact HR
  isplitl [H5]
  · iexact H5
  · iexact H6

/-- The next exchanges of the columns and their words. -/
theorem wp_part15 (h9 : IsLanes v9) (v170 : FVec F S16 .f32) (v176 v182 v187 : IVec S16 32) (h48 : k0_chk48 v74 t3 t5 v187)
    (h182 : v182 = perm 1 v176) (h187 : v187 = xori v9 (broadcast S16 (BitVec.ofNat 32 1))) :
    iprop((∃ f5 : Buf (Elt F) (s5V.view.loc (thr d L)), hold (F := F) d L s5V f5) ∗ stored (F := F) d L s6V v170)
      ⊢ wpT (F := F) d L (k0_part15 L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v9 v74 h35 t3 t5 h36 v170 v176 v182 v187 h48)
      fun p => iprop(⌜p.1 = (argx 4 (argx 2 (argx 1 (v176, v170)))).1 ∧ p.2.1 = (argx 4 (argx 2 (argx 1 (v176, v170)))).2 ∧ p.2.2 = perm 8 p.1⌝
        ∗ (∃ f5 : Buf (Elt F) (s5V.view.loc (thr d L)), hold (F := F) d L s5V f5) ∗ (∃ f6 : Buf (Elt F) (s6V.view.loc (thr d L)), hold (F := F) d L s6V f6)) := by
  simp only [k0_part15_eq_skeleton]
  unfold k0_part15_skel
  subst h182 h187
  obtain ⟨p1, hp1⟩ : ∃ p, argx 1 (v176, v170) = p := ⟨_, rfl⟩
  have i1 : k0_pay167 (F := F) v176 (perm 1 v176) = p1.1 := by rw [← hp1]; rfl
  have w1 : k0_pay168 (F := F) v170 v176 (perm 1 v176) (perm 1 v170) = p1.2 := by rw [← hp1]; rfl
  obtain ⟨p2, hp2⟩ : ∃ p, argx 2 p1 = p := ⟨_, rfl⟩
  have i2 : k0_pay174 (F := F) v176 (perm 1 v176) (perm 2 p1.1) = p2.1 := by rw [← hp2]; exact arg_i2 i1
  have w2 : k0_pay175 (F := F) v170 v176 (perm 1 v176) (perm 1 v170) (perm 2 p1.1) (perm 2 p1.2) = p2.2 := by rw [← hp2]; exact arg_v2 i1 w1
  obtain ⟨p4, hp4⟩ : ∃ p, argx 4 p2 = p := ⟨_, rfl⟩
  have i4 : k0_pay181 (F := F) v176 (perm 1 v176) (perm 2 p1.1) (perm 4 p2.1) = p4.1 := by rw [← hp4]; exact arg_i4 i2
  have w4 : k0_pay182 (F := F) v170 v176 (perm 1 v176) (perm 1 v170) (perm 2 p1.1) (perm 2 p1.2) (perm 4 p2.1) (perm 4 p2.2) = p4.2 := by rw [← hp4]; exact arg_v4 i2 w2
  rw [hp1, hp2, hp4]
  iintro ⟨H5, H6⟩
  iapply (wp_get (F := F) (d := d) (L := L) (hset6 d L) h9 1 (by decide) ?hidx) $$ H6
  case hidx => rfl
  iintro H6
  iapply (wp_swap (F := F) (d := d) (L := L) (hset5 d L) h9 2 (by decide) (w := p1.1) ?hv ?hidx ?hchk) $$ H5
  case hv => exact congrArg (fun w => shapeCast S16 w shapeCasts_S16_S16) i1
  case hidx => rfl
  case hchk => exact fun h _ _ => h
  iintro H5
  iapply (wp_swap (F := F) (d := d) (L := L) (hset6 d L) h9 2 (by decide) (w := p1.2) ?hv ?hidx ?hchk) $$ H6
  case hv => exact congrArg (fun w => shapeCast S16 w shapeCasts_S16_S16) w1
  case hidx => rfl
  case hchk => exact fun h _ _ => h
  iintro H6
  iapply (wp_swap (F := F) (d := d) (L := L) (hset5 d L) h9 4 (by decide) (w := p2.1) ?hv ?hidx ?hchk) $$ H5
  case hv => exact congrArg (fun w => shapeCast S16 w shapeCasts_S16_S16) i2
  case hidx => rfl
  case hchk => exact fun h _ _ => h
  iintro H5
  iapply (wp_swap (F := F) (d := d) (L := L) (hset6 d L) h9 4 (by decide) (w := p2.2) ?hv ?hidx ?hchk) $$ H6
  case hv => exact congrArg (fun w => shapeCast S16 w shapeCasts_S16_S16) w2
  case hidx => rfl
  case hchk => exact fun h _ _ => h
  iintro H6
  iapply (wp_swap (F := F) (d := d) (L := L) (hset5 d L) h9 8 (by decide) (w := p4.1) ?hv ?hidx ?hchk) $$ H5
  case hv => exact congrArg (fun w => shapeCast S16 w shapeCasts_S16_S16) i4
  case hidx => rfl
  case hchk => exact fun h _ _ => h
  iintro H5
  iapply (wp_value (F := F) d L _ (Entails.refl _))
  isplitr [H5 H6]
  · ipureintro
    exact ⟨i4, w4, by rw [← i4]⟩
  isplitl [H5]
  · iexact H5
  · iexact H6
end Parts

end Cert.Proof.Tpp

end
-- ==== Proof.Row.lean ====
/- The second pass over one listed row, whole: the row's window of the output with its word replaced. -/
module

public import proofs.«01_k».proof.Proof.Rescan
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

/-- A branch, each side in turn. -/
theorem wp_dite {α : Type} {c : Prop} [hd : Decidable c] {X : c → Prog (TpuEff nD τ sig (Elt F) Λ₀ (thr d L).2) α} {Y : ¬ c → Prog (TpuEff nD τ sig (Elt F) Λ₀ (thr d L).2) α}
    {Q : α → sProp (MM F)} {P : sProp (MM F)} (hX : ∀ h, P ⊢ wpT (F := F) d L (X h) Q) (hY : ∀ h, P ⊢ wpT (F := F) d L (Y h) Q) : P ⊢ wpT (F := F) d L (dite c X Y) Q := by
  by_cases h : c
  · rw [dif_pos h]; exact hX h
  · rw [dif_neg h]; exact hY h

theorem outs_at {off : Fin 1 → ℕ} (inb : ∀ a, off a + S16.size a ≤ S256.size a) (o : S256.Idx → F .f32) {n : ℕ} (hn : off 0 = n) (x : S16.Idx) :
    (s2V.view.readAt (Elt F) (Rect.unit (s := S256) off S16.size inb).toLoadRect o : S16.Idx → F .f32) x = timesOf o (n + (x 0).val) := by
  have h := inb 0
  have h' : off 0 + 16 ≤ 256 := h
  have hx := lane_lt x
  show o _ = o _
  exact congrArg o (ext1 (by
    rw [i256_val (by omega)]
    show off 0 + 1 * (x 0).val = _
    omega))

/-- Sixteen of the tile's output words loaded. -/
theorem wp_ldO {off : Fin 1 → ℕ} {inb : ∀ a, off a + S16.size a ≤ S256.size a} {hl : s2V.view.LoadsAt (Rect.unit (s := S256) off S16.size inb).toLoadRect}
    {α : Type} {kk : Vec F S16 .f32 → Prog (TpuEff nD τ sig (Elt F) Λ₀ (thr d L).2) α} {Q : α → sProp (MM F)} {o : S256.Idx → F .f32} {n : ℕ} (hn : off 0 = n) :
    hold (F := F) d L s2V o ⊢ iprop((∀ v : Vec F S16 .f32, ⌜∀ x, v x = timesOf o (n + (x 0).val)⌝ -∗ hold (F := F) d L s2V o -∗ wpT d L (kk v) Q)
      -∗ wpT d L (Prog.lift (.load s2V (Rect.unit (s := S256) off S16.size inb).toLoadRect hl) >>= kk) Q) := by
  refine BIClass.wand_intro (st_load d L ?_)
  iintro ⟨H, HK⟩
  iapply HK $$ %_ [] H
  ipureintro
  exact outs_at inb o hn

/-- The words stored: the row's decay in its lane, the words before in the others. -/
theorem last_words {v10 : FVec F S16 .f32} (h10 : ∀ x, v10 x = zro) {v136 : IVec S16 1} {r : ℕ} (h136 : ∀ x, v136 x = if (x 0).val = r % 16 then 1#1 else 0#1)
    (tb : FVec F S16 .f32) (X : ℕ → F .f32) {p : IVec S16 32 × FVec F S16 .f32} (hp : argx 4 (argx 2 (argx 1 (lastI tb X, lastV tb X))) = p) (v245 : FVec F S16 .f32) (x : S16.Idx) :
    k0_pay21 v10 v136 tb p.1 p.2 (perm 8 p.1) (perm 8 p.2) v245 x = if (x 0).val = r % 16 then decayW tb X x else v245 x := by
  have e : bestW tb X = argx 8 p := by unfold bestW; rw [hp]
  unfold k0_pay21
  refine (shapeCast_self16 _ x).trans ?_
  show Scalar.select (v136 x) (Scalar.select (IntOp.cmpi .sge ((argx 8 p).1 x) 0#32) (decay (tb x) ((argx 8 p).2 x)) (v10 x)) (shapeCast S16 v245 shapeCasts_S16_S16 x) = _
  rw [h136, shapeCast_self16, h10]
  unfold decayW
  rw [e]
  by_cases h : (x 0).val = r % 16
  · rw [if_pos h, if_pos h]; rfl
  · rw [if_neg h, if_neg h]; rfl

/-- The row's word changed, no other. -/
theorem word_put {o : S256.Idx → F .f32} {v : FVec F S16 .f32} {off : Fin 1 → ℕ} {r : ℕ} (hr : r < 256) (hoff : off 0 = 16 * (r / 16)) {w v245 : FVec F S16 .f32}
    (h245 : ∀ x, v245 x = timesOf o (16 * (r / 16) + (x 0).val)) (hv : ∀ x : S16.Idx, v x = if (x 0).val = r % 16 then w x else v245 x) :
    VecWindow.put (s := S256) o off S16.size v (i256 r) = w (i16 (r % 16)) ∧ ∀ e < 256, e ≠ r → VecWindow.put (s := S256) o off S16.size v (i256 e) = o (i256 e) := by
  constructor
  · rw [put16_apply, hoff, i256_val hr, if_pos (by omega), hv, i16_val (by omega), if_pos (by omega), show r - 16 * (r / 16) = r % 16 by omega]
  · intro e he hne
    rw [put16_apply, hoff, i256_val he]
    by_cases h : 16 * (r / 16) ≤ e ∧ e < 16 * (r / 16) + 16
    · rw [if_pos h, hv, i16_val (by omega), if_neg (by omega), h245, i16_val (by omega), show 16 * (r / 16) + (e - 16 * (r / 16)) = e by omega]
      rfl
    · rw [if_neg h]

section Row
variable {v2 : BitVec 32} {v9 : IVec S16 32} {v10 : FVec F S16 .f32} {v11 : FVec F S16 .f32} {fl : F .f32} {v12 : IVec S16 32} {v74 : BitVec 32}

/-- What the second pass keeps besides the output. -/
def Kept (g : S272.Idx → BitVec 32) (T : S256.Idx → F .f32) (R : S16x2048.Idx → F .f32) : sProp (MM F) :=
  iprop(hold (F := F) d L s3V g ∗ hold (F := F) d L s1V T ∗ hold (F := F) d L s4V R
    ∗ (∃ f5 : Buf (Elt F) (s5V.view.loc (thr d L)), hold (F := F) d L s5V f5) ∗ (∃ f6 : Buf (Elt F) (s6V.view.loc (thr d L)), hold (F := F) d L s6V f6))

/-- One row of a batch: past the list's end nothing happens, before it the row named there gets its decay. -/
theorem wp_t5 (h2 : v2 = BitVec.ofNat 32 (baseN L)) (h9 : IsLanes v9) (h10 : ∀ x, v10 x = zro) (h11 : ∀ x, v11 x = fl) (h12 : ∀ x, v12 x = 4294967295#32)
    (h41 : k0_chk41 v74) (h35 : k0_cond35 v74 = 1#1) (t3 : Fin (k0_t3_loop v74).trips) (t5 : Fin k0_t5_loop.trips) (a16 : BitVec 32)
    {g : S272.Idx → BitVec 32} {T : S256.Idx → F .f32} {R : S16x2048.Idx → F .f32} {o : S256.Idx → F .f32}
    (hg : k0_cond36 v74 t3 t5 = 1#1 → ∃ r < 256, g (i272 (k0_off43 v74 t3 t5 0)) = BitVec.ofNat 32 (baseN L + r)) :
    iprop(hold (F := F) d L s2V o ∗ Kept (F := F) d L g T R) ⊢ wpT (F := F) d L (k0_t5_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 v10 v11 v12 v74 h41 h35 t3 a16 t5 ⟨⟩)
      fun _ => iprop(∃ o' : S256.Idx → F .f32, ⌜(k0_cond36 v74 t3 t5 = 1#1 → ∃ r < 256, g (i272 (k0_off43 v74 t3 t5 0)) = BitVec.ofNat 32 (baseN L + r)
          ∧ o' (i256 r) = second (timesOf T) fl (rowW R t5.val) r ∧ ∀ e < 256, e ≠ r → o' (i256 e) = o (i256 e))
        ∧ (¬ k0_cond36 v74 t3 t5 = 1#1 → o' = o)⌝ ∗ hold (F := F) d L s2V o' ∗ Kept (F := F) d L g T R) := by
  unfold k0_t5_body Kept
  refine wp_dite d L (fun h36 => ?_) (fun h36 => ?_)
  · obtain ⟨r, hr, hgr⟩ := hg h36
    iintro ⟨Ho, Hg, HT, HR, H5, H6⟩
    ihave H : iprop(hold (F := F) d L s3V g ∗ hold (F := F) d L s1V T ∗ (∃ f6 : Buf (Elt F) (s6V.view.loc (thr d L)), hold (F := F) d L s6V f6)) $$ [Hg HT H6]
    · isplitl [Hg]
      · iexact Hg
      isplitl [HT]
      · iexact HT
      · iexact H6
    iapply (wp_use (F := F) d L (wp_part13 (F := F) d L h35 t3 t5 h36 h2 h9 h11 h41 a16 _ hr hgr)) $$ H
    iintro %p ⟨%hp, Hg, HT, H6⟩
    obtain ⟨v114, hw42, v133, v136, v147, c2⟩ := p
    obtain ⟨h114, h136, h147, hc2⟩ := hp
    dsimp only at h114 h136 h147 hc2
    subst hc2
    ihave H : iprop(hold (F := F) d L s4V R ∗ (∃ f5 : Buf (Elt F) (s5V.view.loc (thr d L)), hold (F := F) d L s5V f5) ∗ stored (F := F) d L s6V v147) $$ [HR H5 H6]
    · isplitl [HR]
      · iexact HR
      isplitl [H5]
      · iexact H5
      · iexact H6
    iapply (wp_use (F := F) d L (wp_part14 (F := F) d L h35 t3 t5 h36 h9 h10 h12 _ v147)) $$ H
    iintro %p ⟨%hp, HR, H5, H6⟩
    obtain ⟨v168, v170, v176, v182, v187, h48⟩ := p
    obtain ⟨h168, h170, h176, h182, h187⟩ := hp
    dsimp only at h168 h170 h176 h182 h187
    ihave H : iprop((∃ f5 : Buf (Elt F) (s5V.view.loc (thr d L)), hold (F := F) d L s5V f5) ∗ stored (F := F) d L s6V v170) $$ [H5 H6]
    · isplitl [H5]
      · iexact H5
      · iexact H6
    iapply (wp_use (F := F) d L (wp_part15 (F := F) d L h35 t3 t5 h36 h9 v170 v176 v182 v187 h48 h182 h187)) $$ H
    iintro %p ⟨%hp, H5, H6⟩
    obtain ⟨v220, v221, v227⟩ := p
    obtain ⟨h220, h221, h227⟩ := hp
    dsimp only at h220 h221 h227
    iapply (wp_swap (F := F) (d := d) (L := L) (hset6 d L) h9 8 (by decide) (w := v221) ?hv ?hidx ?hchk) $$ H6
    case hv => rfl
    case hidx => rfl
    case hchk => exact fun h _ _ => h
    iintro H6
    have h46 := off46_nat L hr
    rw [← h114] at h46
    iapply (wp_ldO (F := F) d L h46) $$ Ho
    iintro %v245 %h245 Ho
    iapply (wp_row16 (F := F) d L (k0_off46 L v114)) $$ Ho
    iintro Ho
    iapply (wp_value (F := F) d L _ (Entails.refl _))
    iexists _
    isplitr [Ho Hg HT HR H5 H6]
    rotate_left
    · isplitl [Ho]
      · iexact Ho
      isplitl [Hg]
      · iexact Hg
      isplitl [HT]
      · iexact HT
      isplitl [HR]
      · iexact HR
      isplitl [H5]
      · iexact H5
      · iexact H6
    · ipureintro
      refine ⟨fun _ => ⟨r, hr, hgr, ?_⟩, fun h => absurd h36 h⟩
      have hv168 : v168 = timeW (timesOf T) fl r := by rw [h168, h147]; rfl
      obtain ⟨q, hq⟩ : ∃ q, argx 4 (argx 2 (argx 1 (lastI (timeW (timesOf T) fl r) (rowW R t5.val), lastV (timeW (timesOf T) fl r) (rowW R t5.val)))) = q := ⟨_, rfl⟩
      rw [← h168, hv168] at h170 h176
      rw [h170, h176, hq] at h220 h221
      rw [h220] at h227
      rw [hv168, h227, h220, h221]
      exact word_put hr h46 h245 fun x => last_words h10 h136 (timeW (timesOf T) fl r) (rowW R t5.val) hq v245 x
  · iintro ⟨Ho, Hg, HT, HR, H5, H6⟩
    iapply (wp_value (F := F) d L _ (Entails.refl _))
    iexists o
    isplitr [Ho Hg HT HR H5 H6]
    · ipureintro
      exact ⟨fun h => absurd h h36, fun _ => rfl⟩
    · isplitl [Ho]
      · iexact Ho
      isplitl [Hg]
      · iexact Hg
      isplitl [HT]
      · iexact HT
      isplitl [HR]
      · iexact HR
      isplitl [H5]
      · iexact H5
      · iexact H6
end Row

end Cert.Proof.Tpp

end
-- ==== Proof.Counts.lean ====
/- The numbers of the second pass: batches, offsets and conditions from the count of listed rows. -/
module

public import proofs.«01_k».proof.Proof.Row
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {n : ℕ} (hn : n ≤ 256)

theorem count_lt {a b : ℕ} (ha : a < 1024) (hb : b < 1024) : IntOp.cmpi .slt (BitVec.ofNat 32 a) (BitVec.ofNat 32 b) = if a < b then 1#1 else 0#1 := by
  have ea : (BitVec.ofNat 32 a).toInt = a := by rw [BitVec.toInt_eq_toNat_of_lt] <;> rw [BitVec.toNat_ofNat] <;> omega
  have eb : (BitVec.ofNat 32 b).toInt = b := by rw [BitVec.toInt_eq_toNat_of_lt] <;> rw [BitVec.toNat_ofNat] <;> omega
  show BitVec.ofBool (BitVec.slt _ _) = _
  rw [BitVec.slt, ea, eb]
  by_cases h : a < b
  · rw [if_pos h, decide_eq_true (by omega)]; rfl
  · rw [if_neg h, decide_eq_false (by omega)]; rfl

theorem trips_all : ∀ m : Fin 257, (k0_t3_loop (BitVec.ofNat 32 m.val)).trips = (m.val + 15) / 16 ∧ (k0_t3_loop (BitVec.ofNat 32 m.val)).OK
    ∧ (k0_t7_loop (BitVec.ofNat 32 m.val)).trips = 0 ∧ (k0_t7_loop (BitVec.ofNat 32 m.val)).OK
    ∧ (k0_cond35 (BitVec.ofNat 32 m.val) = 1#1 ↔ 0 < m.val) := by
  decide +kernel

include hn in
theorem batches : (k0_t3_loop (BitVec.ofNat 32 n)).trips = (n + 15) / 16 := (trips_all ⟨n, by omega⟩).1
include hn in
theorem no_rest : (k0_t7_loop (BitVec.ofNat 32 n)).trips = 0 := (trips_all ⟨n, by omega⟩).2.2.1
include hn in
theorem some_left : k0_cond35 (BitVec.ofNat 32 n) = 1#1 ↔ 0 < n := (trips_all ⟨n, by omega⟩).2.2.2.2

theorem slot_word (a b : ℕ) : Scalar.addi (Scalar.muli (Scf.iv 0#32 1#32 a) 16#32) (Scf.iv 0#32 1#32 b) = BitVec.ofNat 32 (16 * a + b) := by
  have h : ∀ m : ℕ, Scf.iv 0#32 1#32 m = BitVec.ofNat 32 m := fun m => by
    show 0#32 + BitVec.ofNat 32 m * 1#32 = _
    rw [BitVec.mul_one, BitVec.zero_add]
  rw [h, h]
  show BitVec.ofNat 32 a * BitVec.ofNat 32 16 + BitVec.ofNat 32 b = _
  rw [← BitVec.ofNat_mul, ← BitVec.ofNat_add, Nat.mul_comm]

variable (t3 : Fin (k0_t3_loop (BitVec.ofNat 32 n)).trips) (t5 : Fin k0_t5_loop.trips)

include hn in
theorem t3_lt : t3.val < (n + 15) / 16 := (batches hn) ▸ t3.isLt

theorem t5_lt : t5.val < 16 := t5.isLt

include hn in
theorem off43_nat : k0_off43 (BitVec.ofNat 32 n) t3 t5 0 = 16 * t3.val + t5.val := by
  have h3 := t3_lt hn t3
  have h5 := t5_lt t5
  have e : k0_off43 (BitVec.ofNat 32 n) t3 t5 0 = (Scalar.addi (Scalar.muli (Scf.iv 0#32 1#32 t3.val) 16#32) (Scf.iv 0#32 1#32 t5.val)).toNat := rfl
  rw [e, slot_word, BitVec.toNat_ofNat]
  exact Nat.mod_eq_of_lt (by omega)

include hn in
theorem off41_nat : k0_off41 (BitVec.ofNat 32 n) t3 0 = 16 * t3.val := by
  have h3 := t3_lt hn t3
  have e : k0_off41 (BitVec.ofNat 32 n) t3 0 = (Scalar.muli (Scf.iv 0#32 1#32 t3.val) 16#32).toNat := rfl
  have e2 := slot_word t3.val 0
  have e3 : Scf.iv 0#32 1#32 0 = 0#32 := rfl
  rw [e3] at e2
  have e4 : Scalar.addi (Scalar.muli (Scf.iv 0#32 1#32 t3.val) 16#32) 0#32 = Scalar.muli (Scf.iv 0#32 1#32 t3.val) 16#32 := BitVec.add_zero _
  rw [e, ← e4, e2, BitVec.toNat_ofNat]
  exact Nat.mod_eq_of_lt (by omega)

include hn in
theorem cond36_iff : k0_cond36 (BitVec.ofNat 32 n) t3 t5 = 1#1 ↔ 16 * t3.val + t5.val < n := by
  have h3 := t3_lt hn t3
  have h5 := t5_lt t5
  have e : k0_cond36 (BitVec.ofNat 32 n) t3 t5
      = Scalar.cmpi .ne (Scalar.extui (IntOp.cmpi .slt (Scalar.addi (Scalar.muli (Scf.iv 0#32 1#32 t3.val) 16#32) (Scf.iv 0#32 1#32 t5.val)) (BitVec.ofNat 32 n)) : BitVec 32) 0#32 := rfl
  rw [e, slot_word, count_lt (by omega) (by omega)]
  by_cases h : 16 * t3.val + t5.val < n
  · rw [if_pos h]; exact ⟨fun _ => h, fun _ => rfl⟩
  · rw [if_neg h]; exact ⟨fun h' => absurd h' (by decide), fun h' => absurd h' h⟩

include hn in
/-- The check made before the second pass holds of any count the first pass ends with. -/
theorem count_ok : k0_chk41 (BitVec.ofNat 32 n) := by
  have hz := no_rest hn
  refine ⟨fun _ => (trips_all ⟨n, by omega⟩).2.1, fun t3 _ a => ?_, fun t3 t5 _ _ a => ?_, fun _ => (trips_all ⟨n, by omega⟩).2.2.2.1, fun t7 => ?_, fun t7 => ?_⟩
  · have h3 := t3_lt hn t3
    match a with
    | 0 => rw [off41_nat hn]; show _ + 16 ≤ 272; omega
  · have h3 := t3_lt hn t3
    have h5 := t5_lt t5
    match a with
    | 0 =>
      rename_i h36
      have := (cond36_iff hn t3 t5).mp h36
      rw [off43_nat hn]; show _ + 16 ≤ 272; omega
  · exact absurd (hz ▸ t7.isLt : t7.val < 0) (by omega)
  · exact absurd (hz ▸ t7.isLt : t7.val < 0) (by omega)

theorem block_nat : ∀ t4 : Fin k0_t4_loop.trips, k0_off42 t4 = ![0, 128 * t4.val] ∧ k0_off40 t4 = ![0, 128 * t4.val] := by decide +kernel

end Cert.Proof.Tpp

end
-- ==== Proof.Gather.lean ====
/- A batch of named rows fetched, one block of columns at a time. -/
module

public import proofs.«01_k».proof.Proof.Counts
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

/-- What a column block's gather brings: at row `j` and column `q` of the block, the array's row the list names there. -/
theorem fetched {off41 : Fin 1 → ℕ} {inb41 : ∀ a, off41 a + S16.size a ≤ S272.size a} {hs41 : ∀ a, (Rect.unit (s := S272) off41 S16.size inb41).stride a = 1}
    {off42 : Fin 2 → ℕ} {inb42 : ∀ a, off42 a + S8192x128.size a ≤ S8192x2048.size a} {hs42 : ∀ a, (Rect.unit (s := S8192x2048) off42 S8192x128.size inb42).stride a = 1}
    {a c : ℕ} (h41 : off41 0 = a) (h42 : off42 = ![0, c]) (ha : a + 16 ≤ 272) (hc : c + 128 ≤ 2048) (g : S272.Idx → BitVec 32) (fp : S8192x2048.Idx → F .f32) {hn}
    (hin : ∀ x, ((s3V.slice (Rect.unit (s := S272) off41 S16.size inb41) hs41).view.read (Elt F) g x).toNat < S8192x128.size gathers_S8192x128_S16x128.axis)
    (x : S16x128.Idx) :
    SparseCore.gatherPayload gathers_S8192x128_S16x128 ((pV.slice (Rect.unit (s := S8192x2048) off42 S8192x128.size inb42) hs42).view.read (Elt F) fp)
      (SparseCore.rows (F := F) ((s3V.slice (Rect.unit (s := S272) off41 S16.size inb41) hs41).view.read (Elt F) g) hn hin) x
      = fp (i8192x2048 (g (i272 (a + (x 0).val))).toNat (c + (x 1).val)) := by
  have hx1 : (x 1).val < 128 := (x 1).isLt
  have hx0 : (x 0).val < 16 := (x 0).isLt
  have e : ∀ y : S16.Idx, ((s3V.slice (Rect.unit (s := S272) off41 S16.size inb41) hs41).view.read (Elt F) g y : BitVec 32) = g (i272 (a + (y 0).val)) := fun y => by
    have hy : (y 0).val < 16 := (y 0).isLt
    show g ((Rect.unit (s := S272) off41 S16.size inb41).emb y) = _
    congr 1
    refine ext1 ?_
    rw [i272_val (by omega)]
    show off41 0 + 1 * (y 0).val = _
    rw [h41, Nat.one_mul]
  have em : ∀ k : Fin 16, ((S16.rowMajor.symm (k.cast hn.symm)) 0).val = k.val := fun k => by
    have h1 : S16.rowMajor.symm (k.cast hn.symm) = i16 k.val := by
      rw [Equiv.symm_apply_eq]
      exact Fin.ext ((by decide : ∀ k : Fin 16, k.val = (S16.rowMajor (i16 k.val)).val) k)
    rw [h1, i16_val k.isLt]
  show fp ((Rect.unit (s := S8192x2048) off42 S8192x128.size inb42).emb (gathers_S8192x128_S16x128.idx _ x)) = _
  congr 1
  have hrow := Shape.Gathers.idx_axis gathers_S8192x128_S16x128
    (SparseCore.rows (F := F) ((s3V.slice (Rect.unit (s := S272) off41 S16.size inb41) hs41).view.read (Elt F) g) hn hin) x
  have hcol := Shape.Gathers.idx_of_ne gathers_S8192x128_S16x128
    (SparseCore.rows (F := F) ((s3V.slice (Rect.unit (s := S272) off41 S16.size inb41) hs41).view.read (Elt F) g) hn hin) x (1 : Fin 2) (by decide)
  have hrow' := congrArg Fin.val hrow
  have hr2 : (SparseCore.rows (F := F) ((s3V.slice (Rect.unit (s := S272) off41 S16.size inb41) hs41).view.read (Elt F) g) hn hin (x 0)).val
      = (g (i272 (a + (x 0).val))).toNat := by
    show ((s3V.slice (Rect.unit (s := S272) off41 S16.size inb41) hs41).view.read (Elt F) g _ : BitVec 32).toNat = _
    refine (congrArg BitVec.toNat (e _)).trans ?_
    exact congrArg (fun m : ℕ => (g (i272 (a + m))).toNat) (em (x 0))
  have hlt : (g (i272 (a + (x 0).val))).toNat < 8192 := by
    have := hin (i16 (x 0).val)
    rw [show ((s3V.slice (Rect.unit (s := S272) off41 S16.size inb41) hs41).view.read (Elt F) g (i16 (x 0).val) : BitVec 32) = _ from e _, i16_val hx0] at this
    exact this
  refine ext2 ?_ ?_
  · show off42 0 + 1 * (gathers_S8192x128_S16x128.idx _ x 0).val = (g (i272 (a + (x 0).val))).toNat % 8192
    rw [Nat.mod_eq_of_lt hlt, h42, ← hr2, Nat.one_mul]
    show 0 + _ = _
    rw [Nat.zero_add]
    exact hrow'
  · show off42 1 + 1 * (gathers_S8192x128_S16x128.idx _ x 1).val = (c + (x 1).val) % 2048
    rw [Nat.mod_eq_of_lt (by omega), h42, Nat.one_mul]
    show c + _ = _
    rw [hcol]
    rfl

/-- One column block of a batch fetched and waited for. -/
theorem wp_fetch {off40 : Fin 2 → ℕ} {inb40 : ∀ a, off40 a + S16x128.size a ≤ S16x2048.size a} {hs40 : ∀ a, (Rect.unit (s := S16x2048) off40 S16x128.size inb40).stride a = 1}
    {off41 : Fin 1 → ℕ} {inb41 : ∀ a, off41 a + S16.size a ≤ S272.size a} {hs41 : ∀ a, (Rect.unit (s := S272) off41 S16.size inb41).stride a = 1}
    {off42 : Fin 2 → ℕ} {inb42 : ∀ a, off42 a + S8192x128.size a ≤ S8192x2048.size a} {hs42 : ∀ a, (Rect.unit (s := S8192x2048) off42 S8192x128.size inb42).stride a = 1}
    {a c : ℕ} (h40 : off40 = ![0, c]) (h41 : off41 0 = a) (h42 : off42 = ![0, c]) (ha : a + 16 ≤ 272) (hc : c + 128 ≤ 2048)
    {g : S272.Idx → BitVec 32} {fp : S8192x2048.Idx → F .f32} {R : S16x2048.Idx → F .f32} (hg : ∀ i, (g i).toNat < 8192) {q : PosShare TreeShare}
    {O : CellTallies nD τ sig (HIx 1)} {W : Waits sig (HIx 1)} {sem : DmaSem sig} {hsrc hsp hr hw1 hw2}
    {α : Type} {kk : PUnit → Prog (TpuEff nD τ sig (Elt F) Λ₀ (thr d L).2) α} {Q : α → sProp (MM F)} :
    iprop((pV.view.loc (thr d L) ↦{q} fp) ∗ hold (F := F) d L s3V g ∗ hold (F := F) d L s4V R ∗ semVal (thr d L, SemLoc.dma sem) 0
        ∗ owes (thr d L) O W ∗ Transfers.MayWaits (thr d L) (default : HIx 1) O)
      ⊢ iprop((∀ R' : S16x2048.Idx → F .f32, ⌜∀ j < 16, ∀ q < 2048, R' (i16x2048 j q) = if c ≤ q ∧ q < c + 128 then fp (i8192x2048 (g (i272 (a + j))).toNat q) else R (i16x2048 j q)⌝
          -∗ iprop((pV.view.loc (thr d L) ↦{q} fp) ∗ hold (F := F) d L s3V g ∗ hold (F := F) d L s4V R' ∗ semVal (thr d L, SemLoc.dma sem) 0
              ∗ owes (thr d L) O (insert (SemLoc.dma sem, (default : HIx 1)) W)) -∗ wpT d L (kk ⟨⟩) Q)
        -∗ wpT d L (SparseCore.enqueueIndirectGather rfl (pV.slice (Rect.unit (s := S8192x2048) off42 S8192x128.size inb42) hs42)
            (s4V.slice (Rect.unit (s := S16x2048) off40 S16x128.size inb40) hs40) gathers_S8192x128_S16x128
            (s3V.slice (Rect.unit (s := S272) off41 S16.size inb41) hs41) rfl sem hsrc rfl hsp hr >>= fun _ =>
          SparseCore.waitIndirectGather sem (pV.slice (Rect.unit (s := S8192x2048) off42 S8192x128.size inb42) hs42)
            (s4V.slice (Rect.unit (s := S16x2048) off40 S16x128.size inb40) hs40) hw1 hw2 >>= kk) Q) := by
  have hin : ∀ x, ((s3V.slice (Rect.unit (s := S272) off41 S16.size inb41) hs41).view.read (Elt F) g x).toNat < S8192x128.size gathers_S8192x128_S16x128.axis :=
    fun x => hg _
  have hN0 : ∀ h : S8192x128.Gathers 0 S16x128, ∑ j, ((s4V.slice (Rect.unit (s := S16x2048) ![0, 0] S16x128.size (by decide)) (fun _ => rfl)).slice (S16x128.rowRect h.axis' j) (S16x128.stride_rowRect h.axis' j)).view.dmaCredit
      = (s4V.slice (Rect.unit (s := S16x2048) ![0, 0] S16x128.size (by decide)) (fun _ => rfl)).view.dmaCredit := by decide
  have hN : ∀ h : S8192x128.Gathers 0 S16x128, ∑ j, ((s4V.slice (Rect.unit (s := S16x2048) off40 S16x128.size inb40) hs40).slice (S16x128.rowRect h.axis' j) (S16x128.stride_rowRect h.axis' j)).view.dmaCredit
      = (s4V.slice (Rect.unit (s := S16x2048) off40 S16x128.size inb40) hs40).view.dmaCredit := fun h => hN0 h
  iintro ⟨Hp, Hg, HR, Hsem, HO, #Hmw⟩ HK
  ihave Hp2 := (pointsTo_split_subset (ℓ := pV.view.loc (thr d L)) (q := q) (f := fp) (S := Finset.univ) (Finset.subset_univ (pV.slice (Rect.unit (s := S8192x2048) off42 S8192x128.size inb42) hs42).view.set)).1 $$ Hp
  icases Hp2 with ⟨Hp, Hpr⟩
  ihave Hg2 := (pointsTo_split_subset (ℓ := s3V.view.loc (thr d L)) (q := fullShare) (f := g) (S := Finset.univ) (Finset.subset_univ (s3V.slice (Rect.unit (s := S272) off41 S16.size inb41) hs41).view.set)).1 $$ Hg
  icases Hg2 with ⟨Hg, Hgr⟩
  ihave HR2 := (pointsTo_split_subset (ℓ := s4V.view.loc (thr d L)) (q := fullShare) (f := R) (S := Finset.univ) (Finset.subset_univ (s4V.slice (Rect.unit (s := S16x2048) off40 S16x128.size inb40) hs40).view.set)).1 $$ HR
  icases HR2 with ⟨HR, HRr⟩
  unfold wpT
  iapply (SparseCore.wp_indirectGatherLocal countersEmb 𝒱₀ (thr d L) none (hg := gathers_S8192x128_S16x128) (default : HIx 1)
      (s4V.slice (Rect.unit (s := S16x2048) off40 S16x128.size inb40) hs40).view.dmaCredit (hN _) (by decide) hin) $$ [Hp HR Hg Hsem]
  · isplitl [Hp]
    · iexact Hp
    isplitl [HR]
    · iexact HR
    isplitl [Hg]
    · iexact Hg
    · iexact Hsem
  iintro Hfl
  sl_exec
  iapply (Transfers.wp_waitLocalO countersEmb 𝒱₀ (thr d L) none (default : HIx 1)
    (rfl : (s4V.slice (Rect.unit (s := S16x2048) off40 S16x128.size inb40) hs40).view.dmaCredit = _)) $$ [Hfl HO]
  · isplitl [Hfl]
    · iexact Hfl
    isplitl [HO]
    · iexact HO
    · iapply (Transfers.MayWaits.elim (SemLoc.dma sem)) $$ Hmw
  iintro ⟨⟨HR, Hp, Hg⟩, Hsem, HO⟩
  obtain ⟨w, hw⟩ : ∃ w, SparseCore.gatherPayload gathers_S8192x128_S16x128 ((pV.slice (Rect.unit (s := S8192x2048) off42 S8192x128.size inb42) hs42).view.read (Elt F) fp)
      (SparseCore.rows (F := F) ((s3V.slice (Rect.unit (s := S272) off41 S16.size inb41) hs41).view.read (Elt F) g) rfl hin) = w := ⟨_, rfl⟩
  have hwv : ∀ x : S16x128.Idx, w x = fp (i8192x2048 (g (i272 (a + (x 0).val))).toNat (c + (x 1).val)) := fun x => by
    rw [← hw]; exact fetched (F := F) h41 h42 ha hc g fp hin x
  ihave HRr := (Entails.of_eq (pointsTo_congr (ℓ := s4V.view.loc (thr d L)) (q := fullShare) (f := R)
    (g := (s4V.slice (Rect.unit (s := S16x2048) off40 S16x128.size inb40) hs40).view.write (Elt F) R w Finset.univ)
    (fun i hi => (View.write_of_not_mem (v := (s4V.slice (Rect.unit (s := S16x2048) off40 S16x128.size inb40) hs40).view) (Val := Elt F) R w Finset.univ (by
      rw [View.setOn_univ]; exact (Finset.mem_sdiff.mp hi).2)).symm))) $$ HRr
  rw [hw]
  ihave HR := (pointsTo_split_subset (ℓ := s4V.view.loc (thr d L)) (q := fullShare)
    (f := (s4V.slice (Rect.unit (s := S16x2048) off40 S16x128.size inb40) hs40).view.write (Elt F) R w Finset.univ)
    (S := Finset.univ) (Finset.subset_univ (s4V.slice (Rect.unit (s := S16x2048) off40 S16x128.size inb40) hs40).view.set)).2 $$ [HR HRr]
  · isplitl [HR]
    · iexact HR
    · iexact HRr
  ihave Hp := (pointsTo_split_subset (ℓ := pV.view.loc (thr d L)) (q := q) (f := fp) (S := Finset.univ) (Finset.subset_univ (pV.slice (Rect.unit (s := S8192x2048) off42 S8192x128.size inb42) hs42).view.set)).2 $$ [Hp Hpr]
  · isplitl [Hp]
    · iexact Hp
    · iexact Hpr
  ihave Hg := (pointsTo_split_subset (ℓ := s3V.view.loc (thr d L)) (q := fullShare) (f := g) (S := Finset.univ) (Finset.subset_univ (s3V.slice (Rect.unit (s := S272) off41 S16.size inb41) hs41).view.set)).2 $$ [Hg Hgr]
  · isplitl [Hg]
    · iexact Hg
    · iexact Hgr
  rw [wp_ret]
  imodintro
  iapply HK $$ %_ [] [Hp Hg HR Hsem HO]
  rotate_left
  · isplitl [Hp]
    · iexact Hp
    isplitl [Hg]
    · iexact Hg
    isplitl [HR]
    · iexact HR
    isplitl [Hsem]
    · iexact Hsem
    · iexact HO
  ipureintro
  intro j hj q' hq
  by_cases h : c ≤ q' ∧ q' < c + 128
  · rw [if_pos h]
    have hx : i16x2048 j q' = (s4V.slice (Rect.unit (s := S16x2048) off40 S16x128.size inb40) hs40).view.emb
        (fun | 0 => ⟨j, hj⟩ | 1 => ⟨q' - c, show q' - c < 128 by omega⟩ : S16x128.Idx) := by
      refine ext2 ?_ ?_
      · show j % 16 = off40 0 + 1 * j
        rw [h40, Nat.mod_eq_of_lt hj]; show j = 0 + 1 * j; omega
      · show q' % 2048 = off40 1 + 1 * (q' - c)
        rw [h40, Nat.mod_eq_of_lt hq]; show q' = c + 1 * (q' - c); omega
    rw [hx]
    refine (View.write_emb_of_mem (v := (s4V.slice (Rect.unit (s := S16x2048) off40 S16x128.size inb40) hs40).view) (Val := Elt F) R w (Finset.mem_univ _)).trans ?_
    refine (hwv _).trans ?_
    show fp (i8192x2048 (g (i272 (a + j))).toNat (c + (q' - c))) = _
    rw [show c + (q' - c) = q' by omega]
  · rw [if_neg h]
    refine View.write_of_not_mem (v := (s4V.slice (Rect.unit (s := S16x2048) off40 S16x128.size inb40) hs40).view) (Val := Elt F) R w Finset.univ ?_
    rw [View.setOn_univ]
    intro hm
    obtain ⟨y, -, hy⟩ := Finset.mem_map.mp hm
    have hy1 : (y 1).val < 128 := (y 1).isLt
    have e1 := congrArg (fun i : S16x2048.Idx => (i 1).val) hy
    have e2 : off40 1 + 1 * (y 1).val = q' % 2048 := e1
    have h1 : off40 1 = c := by rw [h40]; rfl
    have hy2 : (y 1).val < 128 := hy1
    rw [Nat.mod_eq_of_lt hq] at e2
    have e4 : c + 1 * (y 1).val = q' := h1 ▸ e2
    exact h ⟨by omega, by omega⟩

end Cert.Proof.Tpp

end
-- ==== Proof.Batch.lean ====
/- The second pass: batches of listed rows, fetched and settled. -/
module

public import proofs.«01_k».proof.Proof.Gather
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

theorem baseN_le : baseN L ≤ 7936 := by
  have h1 : (L 1).val < 16 := (L 1).isLt
  have h0 : (L 0).val < 2 := (L 0).isLt
  unfold baseN; omega

/-- The first row of the tile decides its listed words. -/
theorem word_inj {b e r : ℕ} (hb : b ≤ 7936) (he : e < 256) (hr : r < 256) (h : BitVec.ofNat 32 (b + e) = BitVec.ofNat 32 (b + r)) : e = r := by
  have := congrArg BitVec.toNat h
  rw [BitVec.toNat_ofNat, BitVec.toNat_ofNat, Nat.mod_eq_of_lt (by omega), Nat.mod_eq_of_lt (by omega)] at this
  omega

section Batch
variable {n : ℕ} (hn : n ≤ 256) {g : S272.Idx → BitVec 32} {T : S256.Idx → F .f32} {fp : S8192x2048.Idx → F .f32} {W : ℕ → BitVec 32} {FIN : ℕ → F .f32}
  {q : PosShare TreeShare} {O : CellTallies nD τ sig (HIx 1)} {W0 : Waits sig (HIx 1)}
  {v2 : BitVec 32} {v9 : IVec S16 32} {v10 : FVec F S16 .f32} {v11 : FVec F S16 .f32} {fl : F .f32} {v12 : IVec S16 32}

/-- What a wait needs and leaves: the array at a share, the list, the cell, and the record of waits. -/
def Line (q : PosShare TreeShare) (fp : S8192x2048.Idx → F .f32) (O : CellTallies nD τ sig (HIx 1)) (W0 : Waits sig (HIx 1)) : sProp (MM F) :=
  iprop((pV.view.loc (thr d L) ↦{q} fp) ∗ semVal (thr d L, SemLoc.dma cc0_scratch9.sem) 0
    ∗ (∃ W', ⌜∀ p ∈ W', p ∈ W0 ∨ p.2 = none⌝ ∗ owes (thr d L) O W') ∗ Transfers.MayWaits (thr d L) (default : HIx 1) O)

/-- After `k` blocks: the first `128 * k` columns of the batch's rows are in. -/
def Fetch (g : S272.Idx → BitVec 32) (a : ℕ) (q : PosShare TreeShare) (fp : S8192x2048.Idx → F .f32) (O : CellTallies nD τ sig (HIx 1)) (W0 : Waits sig (HIx 1)) (k : ℕ) : sProp (MM F) :=
  iprop(∃ R : S16x2048.Idx → F .f32, ⌜∀ j < 16, ∀ p < 2048, p < 128 * k → R (i16x2048 j p) = fp (i8192x2048 (g (i272 (a + j))).toNat p)⌝
    ∗ hold (F := F) d L s3V g ∗ hold (F := F) d L s4V R ∗ Line (F := F) d L q fp O W0)

include hn in
theorem wp_block (hg : ∀ i, (g i).toNat < 8192) (h41 : k0_chk41 (BitVec.ofNat 32 n)) (h35 : k0_cond35 (BitVec.ofNat 32 n) = 1#1)
    (t3 : Fin (k0_t3_loop (BitVec.ofNat 32 n)).trips) (t4 : Fin k0_t4_loop.trips) :
    Fetch (F := F) d L g (16 * t3.val) q fp O W0 t4.val ⊢ wpT (F := F) d L (k0_t4_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 (BitVec.ofNat 32 n) h41 h35 t3 t4 ⟨⟩)
      fun _ => Fetch (F := F) d L g (16 * t3.val) q fp O W0 (t4.val + 1) := by
  have h3 := t3_lt hn t3
  have h4 : t4.val < 16 := t4.isLt
  unfold k0_t4_body Fetch Line
  iintro ⟨%R, %hR, Hg, HR, Hp, Hsem, ⟨%W', %hW', HO⟩, #Hmw⟩
  iapply (wp_fetch (F := F) d L (block_nat t4).2 (off41_nat hn t3) (block_nat t4).1 (by omega) (by omega) hg) $$ [Hg HR Hp Hsem HO]
  · isplitl [Hp]
    · iexact Hp
    isplitl [Hg]
    · iexact Hg
    isplitl [HR]
    · iexact HR
    isplitl [Hsem]
    · iexact Hsem
    isplitl [HO]
    · iexact HO
    · iexact Hmw
  iintro %R' %hR' ⟨Hp, Hg, HR, Hsem, HO⟩
  iapply (wp_value (F := F) d L _ (Entails.refl _))
  iexists R'
  isplitr [Hp Hg HR Hsem HO]
  · ipureintro
    intro j hj p hp hpk
    rw [hR' j hj p hp]
    by_cases h : 128 * t4.val ≤ p ∧ p < 128 * t4.val + 128
    · rw [if_pos h]
    · rw [if_neg h]; exact hR j hj p hp (by omega)
  · isplitl [Hg]
    · iexact Hg
    isplitl [HR]
    · iexact HR
    isplitl [Hp]
    · iexact Hp
    isplitl [Hsem]
    · iexact Hsem
    isplitl [HO]
    · iexists _
      isplitr [HO]
      rotate_left
      · iexact HO
      · ipureintro
        intro p hp
        rcases Finset.mem_insert.mp hp with hp | hp
        · exact .inr (hp ▸ rfl)
        · exact hW' p hp
    · iexact Hmw

include hn in
theorem wp_blocks (hg : ∀ i, (g i).toNat < 8192) (h41 : k0_chk41 (BitVec.ofNat 32 n)) (h35 : k0_cond35 (BitVec.ofNat 32 n) = 1#1)
    (t3 : Fin (k0_t3_loop (BitVec.ofNat 32 n)).trips) :
    Fetch (F := F) d L g (16 * t3.val) q fp O W0 0 ⊢ wpT (F := F) d L (Scf.Loop.for k0_t4_loop k0_t4_ok ⟨⟩ (k0_t4_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 (BitVec.ofNat 32 n) h41 h35 t3))
      fun _ => Fetch (F := F) d L g (16 * t3.val) q fp O W0 16 :=
  wp_loop (F := F) d L k0_t4_loop k0_t4_ok ⟨⟩ _ (fun k _ => Fetch (F := F) d L g (16 * t3.val) q fp O W0 k) (Entails.refl _)
    fun t4 _ => wp_block (F := F) d L hn hg h41 h35 t3 t4

/-- The rows settled so far: those the first pass settled, and the first `done` of the list. -/
def Done (W : ℕ → BitVec 32) (FIN : ℕ → F .f32) (g : S272.Idx → BitVec 32) (b n done : ℕ) (o : S256.Idx → F .f32) : Prop :=
  ∀ r < 256, (W r = 0#32 → o (i256 r) = FIN r) ∧ ∀ p < done, p < n → g (i272 p) = BitVec.ofNat 32 (b + r) → o (i256 r) = FIN r

include hn in
theorem wp_listed (h2 : v2 = BitVec.ofNat 32 (baseN L)) (h9 : IsLanes v9) (h10 : ∀ x, v10 x = zro) (h11 : ∀ x, v11 x = fl) (h12 : ∀ x, v12 x = 4294967295#32)
    (hL : Listed (baseN L) W n 256 g) (hF : ∀ r < 256, W r = 1#32 → FIN r = second (timesOf T) fl (fun q => fp (i8192x2048 (baseN L + r) q)) r)
    (h41 : k0_chk41 (BitVec.ofNat 32 n)) (h35 : k0_cond35 (BitVec.ofNat 32 n) = 1#1)
    (t3 : Fin (k0_t3_loop (BitVec.ofNat 32 n)).trips) (t5 : Fin k0_t5_loop.trips) (a16 : BitVec 32) {R : S16x2048.Idx → F .f32}
    (hR : ∀ j < 16, ∀ p < 2048, R (i16x2048 j p) = fp (i8192x2048 (g (i272 (16 * t3.val + j))).toNat p)) :
    iprop(∃ o, ⌜Done W FIN g (baseN L) n (16 * t3.val + t5.val) o⌝ ∗ hold (F := F) d L s2V o ∗ Kept (F := F) d L g T R)
      ⊢ wpT (F := F) d L (k0_t5_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 v10 v11 v12 (BitVec.ofNat 32 n) h41 h35 t3 a16 t5 ⟨⟩)
      fun _ => iprop(∃ o, ⌜Done W FIN g (baseN L) n (16 * t3.val + (t5.val + 1)) o⌝ ∗ hold (F := F) d L s2V o ∗ Kept (F := F) d L g T R) := by
  have hb := baseN_le L
  have h3 := t3_lt hn t3
  have h5 := t5_lt t5
  have hoff := off43_nat hn t3 t5
  have hsnd : 16 * t3.val + t5.val < n → ∃ e < 256, W e = 1#32 ∧ g (i272 (16 * t3.val + t5.val)) = BitVec.ofNat 32 (baseN L + e) := fun h => hL.sound _ h
  iintro ⟨%o, %ho, Ho, HK⟩
  iapply (wp_done (F := F) d L (wp_t5 (F := F) d L h2 h9 h10 h11 h12 h41 h35 t3 t5 a16 (g := g) (T := T) (R := R) (o := o) (fun h36 => by
    obtain ⟨e, he, -, h⟩ := hsnd ((cond36_iff hn t3 t5).mp h36)
    exact ⟨e, he, by rw [hoff]; exact h⟩))) $$ [Ho HK]
  · isplitl [Ho]
    · iexact Ho
    · iexact HK
  iintro %_ ⟨%o', %ho', Ho, HK⟩
  iexists o'
  isplitr [Ho HK]
  · ipureintro
    by_cases h36 : k0_cond36 (BitVec.ofNat 32 n) t3 t5 = 1#1
    · obtain ⟨e, he, hWe, hge⟩ := hsnd ((cond36_iff hn t3 t5).mp h36)
      obtain ⟨r, hr, hgr, hv, hrest⟩ := ho'.1 h36
      rw [hoff, hge] at hgr
      have her := word_inj hb he hr hgr
      subst her
      have hval : o' (i256 e) = FIN e := by
        rw [hv, hF e he hWe]
        congr 1
        funext p
        have e1 : i16x2048 t5.val p = i16x2048 t5.val (p % 2048) := ext2 rfl (Nat.mod_mod _ _).symm
        have e2 : ∀ m, i8192x2048 m p = i8192x2048 m (p % 2048) := fun m => ext2 rfl (Nat.mod_mod _ _).symm
        show R (i16x2048 t5.val p) = _
        rw [e1, hR t5.val h5 _ (Nat.mod_lt _ (by decide)), hge, e2, BitVec.toNat_ofNat, Nat.mod_eq_of_lt (by omega)]
      intro r hr
      by_cases hre : r = e
      · subst hre; exact ⟨fun _ => hval, fun _ _ _ _ => hval⟩
      · rw [hrest r hr hre]
        refine ⟨(ho r hr).1, fun p hp hpn hgp => ?_⟩
        by_cases hpe : p = 16 * t3.val + t5.val
        · subst hpe; rw [hge] at hgp; exact absurd (word_inj hb he hr hgp).symm hre
        · exact (ho r hr).2 p (by omega) hpn hgp
    · rw [ho'.2 h36]
      have hnn : ¬ 16 * t3.val + t5.val < n := fun h => h36 ((cond36_iff hn t3 t5).mpr h)
      exact fun r hr => ⟨(ho r hr).1, fun p hp hpn hgp => (ho r hr).2 p (by omega) hpn hgp⟩
  · isplitl [Ho]
    · iexact Ho
    · iexact HK

/-- Between batches. -/
def Batches (W : ℕ → BitVec 32) (FIN : ℕ → F .f32) (n : ℕ) (g : S272.Idx → BitVec 32) (T : S256.Idx → F .f32) (q : PosShare TreeShare) (fp : S8192x2048.Idx → F .f32)
    (O : CellTallies nD τ sig (HIx 1)) (W0 : Waits sig (HIx 1)) (k : ℕ) : sProp (MM F) :=
  iprop(∃ (o : S256.Idx → F .f32) (R : S16x2048.Idx → F .f32), ⌜Done W FIN g (baseN L) n (16 * k) o⌝ ∗ hold (F := F) d L s2V o ∗ Kept (F := F) d L g T R ∗ Line (F := F) d L q fp O W0)

include hn in
theorem wp_batch (h2 : v2 = BitVec.ofNat 32 (baseN L)) (h9 : IsLanes v9) (h10 : ∀ x, v10 x = zro) (h11 : ∀ x, v11 x = fl) (h12 : ∀ x, v12 x = 4294967295#32)
    (hL : Listed (baseN L) W n 256 g) (hF : ∀ r < 256, W r = 1#32 → FIN r = second (timesOf T) fl (fun q => fp (i8192x2048 (baseN L + r) q)) r)
    (h41 : k0_chk41 (BitVec.ofNat 32 n)) (h35 : k0_cond35 (BitVec.ofNat 32 n) = 1#1) (t3 : Fin (k0_t3_loop (BitVec.ofNat 32 n)).trips) :
    Batches (F := F) d L W FIN n g T q fp O W0 t3.val
      ⊢ wpT (F := F) d L (k0_t3_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 v10 v11 v12 (BitVec.ofNat 32 n) h41 h35 t3 ⟨⟩) fun _ => Batches (F := F) d L W FIN n g T q fp O W0 (t3.val + 1) := by
  have hb := baseN_le L
  have hg : ∀ i, (g i).toNat < 8192 := fun i => by
    obtain ⟨e, he, h⟩ := hL.word i
    rw [h, BitVec.toNat_ofNat, Nat.mod_eq_of_lt (by omega)]; omega
  unfold k0_t3_body Batches Kept
  iintro ⟨%o, %R, %ho, Ho, ⟨Hg, HT, HR, H5, H6⟩, HL⟩
  ihave H : Fetch (F := F) d L g (16 * t3.val) q fp O W0 0 $$ [Hg HR HL]
  · unfold Fetch
    iexists R
    isplitr [Hg HR HL]
    · ipureintro; intro j _ p _ hp; exact absurd hp (by omega)
    isplitl [Hg]
    · iexact Hg
    isplitl [HR]
    · iexact HR
    · iexact HL
  iapply (wp_use (F := F) d L (wp_blocks (F := F) d L hn hg h41 h35 t3)) $$ H
  iintro %_ H
  unfold Fetch
  icases H with ⟨%R', %hR', Hg, HR, HL⟩
  have hI := fun t5 a16 => wp_listed (F := F) d L hn h2 h9 h10 h11 h12 hL hF h41 h35 t3 t5 a16 (R := R') (fun j hj p hp => hR' j hj p hp (by omega))
  ihave H : iprop(∃ o, ⌜Done W FIN g (baseN L) n (16 * t3.val + 0) o⌝ ∗ hold (F := F) d L s2V o ∗ Kept (F := F) d L g T R') $$ [Ho Hg HT HR H5 H6]
  · iexists o
    isplitr [Ho Hg HT HR H5 H6]
    · ipureintro; exact ho
    isplitl [Ho]
    · iexact Ho
    unfold Kept
    isplitl [Hg]
    · iexact Hg
    isplitl [HT]
    · iexact HT
    isplitl [HR]
    · iexact HR
    isplitl [H5]
    · iexact H5
    · iexact H6
  iapply (wp_use (F := F) d L (wp_loop (F := F) d L k0_t5_loop k0_t5_ok ⟨⟩ _
    (fun k _ => iprop(∃ o, ⌜Done W FIN g (baseN L) n (16 * t3.val + k) o⌝ ∗ hold (F := F) d L s2V o ∗ Kept (F := F) d L g T R')) (Entails.refl _)
    fun t5 _ => hI t5 _)) $$ H
  iintro %_ ⟨%o', %ho', Ho, HK⟩
  iapply (wp_value (F := F) d L _ (Entails.refl _))
  iexists o', R'
  isplitr [Ho HK HL]
  · ipureintro; exact ho'
  isplitl [Ho]
  · iexact Ho
  isplitl [HK]
  · unfold Kept; iexact HK
  · iexact HL

include hn in
/-- Every row is settled once the list is through. -/
theorem all_done (hL : Listed (baseN L) W n 256 g) (hW : ∀ r, W r = 0#32 ∨ W r = 1#32) {o : S256.Idx → F .f32} {done : ℕ} (hd : n ≤ done)
    (h : Done W FIN g (baseN L) n done o) : ∀ r < 256, o (i256 r) = FIN r := fun r hr => by
  rcases hW r with h0 | h1
  · exact (h r hr).1 h0
  · obtain ⟨p, hp, hgp⟩ := hL.compl r hr h1
    exact (h r hr).2 p (by omega) hp hgp

include hn in
/-- The second pass: every row settled. -/
theorem wp_pass2 (h2 : v2 = BitVec.ofNat 32 (baseN L)) (h9 : IsLanes v9) (h10 : ∀ x, v10 x = zro) (h11 : ∀ x, v11 x = fl) (h12 : ∀ x, v12 x = 4294967295#32)
    (hL : Listed (baseN L) W n 256 g) (hW : ∀ r, W r = 0#32 ∨ W r = 1#32)
    (hF : ∀ r < 256, W r = 1#32 → FIN r = second (timesOf T) fl (fun q => fp (i8192x2048 (baseN L + r) q)) r)
    (h41 : k0_chk41 (BitVec.ofNat 32 n)) {v100 : k0_cond35 (BitVec.ofNat 32 n) = 1#1 → BitVec 32}
    {α : Type} {kk : Prog (TpuEff nD τ sig (Elt F) Λ₀ (thr d L).2) α} {Q : α → sProp (MM F)} :
    Batches (F := F) d L W FIN n g T q fp O W0 0
      ⊢ iprop((iprop(∃ (o : S256.Idx → F .f32) (R : S16x2048.Idx → F .f32), ⌜∀ r < 256, o (i256 r) = FIN r⌝ ∗ hold (F := F) d L s2V o ∗ Kept (F := F) d L g T R ∗ Line (F := F) d L q fp O W0) -∗ wpT (F := F) d L (kk) Q) -∗ wpT (F := F) d L (if h35 : k0_cond35 (BitVec.ofNat 32 n) = 1#1 then
          Scf.Loop.for (k0_t3_loop (BitVec.ofNat 32 n)) (k0_t3_ok (BitVec.ofNat 32 n) h41 h35) ⟨⟩ (k0_t3_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 v10 v11 v12 (BitVec.ofNat 32 n) h41 h35) >>= fun _ =>
          Scf.Loop.for (k0_t7_loop (BitVec.ofNat 32 n)) (k0_t7_ok (BitVec.ofNat 32 n) h41 h35) ⟨⟩ (k0_t7_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 v10 v11 v12 (BitVec.ofNat 32 n) h41 h35 (v100 h35)) >>= fun _ =>
          kk
        else kk) Q) := by
  have hend : ∀ done, n ≤ done → ∀ o : S256.Idx → F .f32, Done W FIN g (baseN L) n done o → ∀ r < 256, o (i256 r) = FIN r :=
    fun done hd o h => all_done L hn hL hW hd h
  refine BIClass.wand_intro (wp_dite (F := F) d L (fun h35 => ?_) (fun h35 => ?_))
  · iintro ⟨H, HK⟩
    iapply (wp_use (F := F) d L (wp_loop (F := F) d L _ (k0_t3_ok (BitVec.ofNat 32 n) h41 h35) ⟨⟩ _ (fun k _ => Batches (F := F) d L W FIN n g T q fp O W0 k) (Entails.refl _)
      fun t3 _ => wp_batch (F := F) d L hn h2 h9 h10 h11 h12 hL hF h41 h35 t3)) $$ H
    iintro %_ H
    have hz := no_rest hn
    iapply (wp_use (F := F) d L (wp_loop (F := F) d L _ (k0_t7_ok (BitVec.ofNat 32 n) h41 h35) ⟨⟩ (k0_t7_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v2 v9 v10 v11 v12 (BitVec.ofNat 32 n) h41 h35 (v100 h35)) (fun _ _ => Batches (F := F) d L W FIN n g T q fp O W0 (k0_t3_loop (BitVec.ofNat 32 n)).trips) (Entails.refl _)
      fun t7 _ => absurd (hz ▸ t7.isLt : t7.val < 0) (by omega))) $$ H
    iintro %_ H
    iapply HK
    unfold Batches
    icases H with ⟨%o, %R, %ho, H⟩
    iexists o, R
    isplitr [H]
    · ipureintro
      refine hend _ ?_ o ho
      rw [batches hn]; omega
    · iexact H
  · unfold Batches
    iintro ⟨⟨%o, %R, %ho, H⟩, HK⟩
    iapply HK
    iexists o, R
    isplitr [H]
    · ipureintro
      refine hend _ ?_ o ho
      have := (some_left hn).not.mp h35
      omega
    · iexact H

end Batch

end Cert.Proof.Tpp

end
-- ==== Proof.Ends.lean ====
/- The two ends of a task: its pieces of the arrays, its result, and the copies in and out. -/
module

public import proofs.«01_k».proof.Proof.Batch
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

/-! ## The tile's pieces of the arrays, as the program names them -/

/-- The tile's block of last columns. -/
abbrev aK (L : grid0.Coords) : Memref sig .scVector .hbm S64x256 .f32 :=
  (aV.slice (Rect.unit (s := S32x64x256) (k0_off1 L) S1x64x256.size (k0_off1_inb L)) (fun _ => rfl)).squeeze S64x256 squeezes_S1x64x256_S64x256
/-- The tile's times. -/
abbrev tK (L : grid0.Coords) : Memref sig .scVector .hbm S256 .f32 := tV.slice (Rect.unit (s := S8192) (k0_off2 L) S256.size (k0_off2_inb L)) (fun _ => rfl)
/-- The tile's rows of the result. -/
abbrev oK (L : grid0.Coords) : Memref sig .scVector .hbm S256 .f32 := oV.slice (Rect.unit (s := S8192) (k0_off54 L) S256.size (k0_off54_inb L)) (fun _ => rfl)

/-! ## The result, row by row -/

/-- An index of the blocks of last columns. -/
def i32x64x256 (w c r : ℕ) : S32x64x256.Idx := fun | 0 => ⟨w % 32, Nat.mod_lt _ (by decide)⟩ | 1 => ⟨c % 64, Nat.mod_lt _ (by decide)⟩ | 2 => ⟨r % 256, Nat.mod_lt _ (by decide)⟩

/-- The last columns and the times of tile `w`. -/
def lastOf (ma : S32x64x256.Idx → F .f32) (w c r : ℕ) : F .f32 := ma (i32x64x256 w c r)
def timeOf (mt : S8192.Idx → F .f32) (w r : ℕ) : F .f32 := mt (i8192 (256 * w + r % 256))

/-- The number the program starts a running maximum from. -/
def floorC : F .f32 := Named.named κ "floor" 0xFF7FC99E#32

/-- What the second pass gives row `r` of tile `w`, and what the two passes together give it. -/
def again (mt : S8192.Idx → F .f32) (mp : S8192x2048.Idx → F .f32) (w r : ℕ) : F .f32 :=
  second (timeOf mt w) floorC (fun q => mp (i8192x2048 (256 * w + r) q)) r
def rowRes (ma : S32x64x256.Idx → F .f32) (mt : S8192.Idx → F .f32) (mp : S8192x2048.Idx → F .f32) (w r : ℕ) : F .f32 :=
  if missW (lastOf ma w) (timeOf mt w) r = 0#32 then first (lastOf ma w) (timeOf mt w) r else again mt mp w r

/-- The whole result. -/
def resOf (ma : S32x64x256.Idx → F .f32) (mt : S8192.Idx → F .f32) (mp : S8192x2048.Idx → F .f32) : S8192.Idx → F .f32 :=
  fun i => rowRes ma mt mp ((i 0).val / 256) ((i 0).val % 256)

/-- The tile's number. -/
def tileN (L : grid0.Coords) : ℕ := 2 * (L 1).val + (L 0).val

theorem baseN_tile : baseN L = 256 * tileN L := by unfold baseN tileN; omega

theorem tileN_lt : tileN L < 32 := by
  have h1 : (L 1).val < 16 := (L 1).isLt
  have h0 : (L 0).val < 2 := (L 0).isLt
  unfold tileN; omega

/-- Where the tile's words lie in the whole arrays. -/
theorem emb_aK (c r : ℕ) : ((aK L).view.emb (i64x256 c r) : S32x64x256.Idx) = i32x64x256 (tileN L) c r := by
  have hc : ((i64x256 c r) 0).val < 64 := ((i64x256 c r) 0).isLt
  have hr : ((i64x256 c r) 1).val < 256 := ((i64x256 c r) 1).isLt
  show (Rect.unit (s := S32x64x256) (k0_off1 L) S1x64x256.size (k0_off1_inb L)).emb (Shape.reshapeEquiv _ (i64x256 c r)) = _
  have ho := k0_off1_eq L
  have e := Shape.reshapeEquiv_cons_one (n := 2) (d := ![64, 256]) squeezes_S1x64x256_S64x256.numel_eq (i64x256 c r)
  have hw := tileN_lt L
  funext a
  refine Fin.ext ?_
  have hemb : ∀ y : S1x64x256.Idx, ∀ a : Fin 3, ((Rect.unit (s := S32x64x256) (k0_off1 L) S1x64x256.size (k0_off1_inb L)).emb y a).val = k0_off1 L a + 1 * (y a).val := fun _ _ => rfl
  refine (hemb _ a).trans ?_
  refine (congrArg (fun m : ℕ => m + 1 * _) (congrFun ho a)).trans ?_
  match a with
  | 0 =>
    have : ((Shape.reshapeEquiv squeezes_S1x64x256_S64x256.numel_eq (i64x256 c r) : S1x64x256.Idx) 0).val = 0 := by rw [show (Shape.reshapeEquiv squeezes_S1x64x256_S64x256.numel_eq (i64x256 c r) : S1x64x256.Idx) = _ from e]; rfl
    show tileN L + 1 * ((Shape.reshapeEquiv squeezes_S1x64x256_S64x256.numel_eq (i64x256 c r) : S1x64x256.Idx) 0).val = tileN L % 32
    rw [this, Nat.mod_eq_of_lt hw]; omega
  | 1 =>
    have : ((Shape.reshapeEquiv squeezes_S1x64x256_S64x256.numel_eq (i64x256 c r) : S1x64x256.Idx) 1).val = c % 64 := by rw [show (Shape.reshapeEquiv squeezes_S1x64x256_S64x256.numel_eq (i64x256 c r) : S1x64x256.Idx) = _ from e]; rfl
    show 0 + 1 * ((Shape.reshapeEquiv squeezes_S1x64x256_S64x256.numel_eq (i64x256 c r) : S1x64x256.Idx) 1).val = c % 64
    rw [this]; omega
  | 2 =>
    have : ((Shape.reshapeEquiv squeezes_S1x64x256_S64x256.numel_eq (i64x256 c r) : S1x64x256.Idx) 2).val = r % 256 := by rw [show (Shape.reshapeEquiv squeezes_S1x64x256_S64x256.numel_eq (i64x256 c r) : S1x64x256.Idx) = _ from e]; rfl
    show 0 + 1 * ((Shape.reshapeEquiv squeezes_S1x64x256_S64x256.numel_eq (i64x256 c r) : S1x64x256.Idx) 2).val = r % 256
    rw [this]; omega

theorem cols_aK (ma : S32x64x256.Idx → F .f32) : colsOf ((aK L).view.read (Elt F) ma) = lastOf ma (tileN L) := by
  funext c r
  exact congrArg ma (emb_aK L c r)

theorem emb_tK (r : ℕ) : ((tK L).view.emb (i256 r) : S8192.Idx) = i8192 (256 * tileN L + r % 256) := by
  have ho := k0_off2_eq L
  have hw := tileN_lt L
  have hm : r % 256 < 256 := Nat.mod_lt _ (by decide)
  refine ext1 ?_
  show k0_off2 L 0 + 1 * (r % 256) = (256 * tileN L + r % 256) % 8192
  rw [ho, Nat.mod_eq_of_lt (a := 256 * tileN L + r % 256) (by omega)]
  show 512 * (L 1).val + 256 * (L 0).val + 1 * (r % 256) = _
  unfold tileN; omega

theorem times_tK (mt : S8192.Idx → F .f32) : timesOf ((tK L).view.read (Elt F) mt) = timeOf mt (tileN L) := by
  funext r
  exact congrArg mt (emb_tK L r)

theorem emb_oK (r : ℕ) : ((oK L).view.emb (i256 r) : S8192.Idx) = i8192 (256 * tileN L + r % 256) := by
  have ho := k0_off54_eq L
  have hw := tileN_lt L
  have hm : r % 256 < 256 := Nat.mod_lt _ (by decide)
  refine ext1 ?_
  show k0_off54 L 0 + 1 * (r % 256) = (256 * tileN L + r % 256) % 8192
  rw [ho, Nat.mod_eq_of_lt (a := 256 * tileN L + r % 256) (by omega)]
  show 512 * (L 1).val + 256 * (L 0).val + 1 * (r % 256) = _
  unfold tileN; omega

/-- The tile's rows of the result buffer, once the tile's words are copied there. -/
theorem out_oK (ma : S32x64x256.Idx → F .f32) (mt : S8192.Idx → F .f32) (mp : S8192x2048.Idx → F .f32) (fo : S8192.Idx → F .f32) (o : S256.Idx → F .f32)
    (ho : ∀ r < 256, o (i256 r) = rowRes ma mt mp (tileN L) r) (i : S8192.Idx) (hi : i ∈ (oK L).view.set) :
    (oK L).view.write (Elt F) fo (s2V.view.read (Elt F) o) Finset.univ i = resOf ma mt mp i := by
  obtain ⟨y, -, hy⟩ := Finset.mem_map.mp hi
  have hy0 : (y 0).val < 256 := (y 0).isLt
  have hw := tileN_lt L
  have h1 := congrArg (fun i : S8192.Idx => (i 0).val) hy
  have h2 : k0_off54 L 0 + 1 * (y 0).val = (i 0).val := h1
  rw [show k0_off54 L 0 = 512 * (L 1).val + 256 * (L 0).val from congrFun (k0_off54_eq L) 0] at h2
  have hb : (i 0).val = 256 * tileN L + (y 0).val := by unfold tileN; omega
  rw [← hy]
  refine (View.write_emb_of_mem (v := (oK L).view) (Val := Elt F) fo _ (Finset.mem_univ _)).trans ?_
  show o y = resOf ma mt mp ((oK L).view.emb y)
  rw [hy]
  unfold resOf
  rw [hb, show (256 * tileN L + (y 0).val) / 256 = tileN L by omega, show (256 * tileN L + (y 0).val) % 256 = (y 0).val by omega, ← ho _ hy0]
  exact congrArg o (ext1 (i256_val hy0).symm)

/-! ## The list's first filling -/

/-- The first `16 * k` words of the list hold `w`. -/
def Filled (w : BitVec 32) (k : ℕ) : sProp (MM F) :=
  iprop(∃ g : S272.Idx → BitVec 32, ⌜∀ x, (x 0).val < 16 * k → g x = w⌝ ∗ hold (F := F) d L s3V g)

theorem wp_fill {off : Fin 1 → ℕ} {inb : ∀ a, off a + S16.size a ≤ S272.size a} {v : IVec S16 32} {w : BitVec 32} (k : ℕ) (hk : off 0 = 16 * k) (hv : ∀ x, v x = w)
    {hl : s3V.view.LoadsAt (Rect.unit (s := S272) off S16.size inb).toLoadRect} {hx : (s3V.access (Rect.unit (s := S272) off S16.size inb)).Stores Finset.univ}
    {hm : (Finset.univ : Finset (Rect.unit (s := S272) off S16.size inb).shape.Idx) = Finset.univ ∨ ∀ a, (Rect.unit (s := S272) off S16.size inb).stride a = 1}
    {α : Type} {kk : PUnit → Prog (TpuEff nD τ sig (Elt F) Λ₀ (thr d L).2) α} {Q : α → sProp (MM F)} :
    Filled (F := F) d L w k ⊢ iprop((Filled (F := F) d L w (k + 1) -∗ wpT d L (kk ⟨⟩) Q)
      -∗ wpT d L (Prog.lift (.load s3V (Rect.unit (s := S272) off S16.size inb).toLoadRect hl) >>= fun _ =>
        Prog.lift (.store s3V (Rect.unit (s := S272) off S16.size inb) v Finset.univ hx hm) >>= kk) Q) := by
  unfold Filled
  iintro ⟨%g, %hg, H⟩
  have hw : (View.write (Elt F) (s3V.access (Rect.unit (s := S272) off S16.size inb)) g v Finset.univ : S272.Idx → BitVec 32)
      = VecWindow.put (s := S272) g off S16.size v :=
    View.read_writes_cons_put (Val := Elt F) s3V.view g inb v [] (off' := off) rfl
  have step : hold (F := F) d L s3V g ⊢ iprop((hold (F := F) d L s3V (VecWindow.put (s := S272) g off S16.size v) -∗ wpT d L (kk ⟨⟩) Q)
      -∗ wpT d L (Prog.lift (.load s3V (Rect.unit (s := S272) off S16.size inb).toLoadRect hl) >>= fun _ =>
        Prog.lift (.store s3V (Rect.unit (s := S272) off S16.size inb) v Finset.univ hx hm) >>= kk) Q) := by
    refine BIClass.wand_intro (st_load d L (st_store d L ?_))
    rw [hw]
    iintro ⟨H, HK⟩
    iapply HK $$ H
  iintro HK
  iapply step $$ H
  iintro H
  iapply HK
  iexists _
  isplitr [H]
  rotate_left
  · iexact H
  · ipureintro
    intro x hxk
    rw [put16_apply, hk]
    by_cases h : 16 * k ≤ (x 0).val ∧ (x 0).val < 16 * k + 16
    · rw [if_pos h]; exact hv _
    · rw [if_neg h]; exact hg x (by omega)

/-! ## The copies -/

section Copies
variable {sp sp' : Space} {s : Shape} {e : EltTy} {src : Memref sig (thr d L).2.kind sp s e} {dst : Memref sig (thr d L).2.kind sp' s e} {sem : DmaSem sig}
  {hsrc : src.view.WordExact} {hdst : dst.view.WordExact} {hsem : DmaTarget.Typed (nD := nD) sp (.dma sem) (.here dst : DmaTarget nD τ sig (thr d L).2 sp' s e)}
  {α : Type} {kk : PUnit → Prog (TpuEff nD τ sig (Elt F) Λ₀ (thr d L).2) α} {Q : α → sProp (MM F)} {q : PosShare TreeShare}
  {fs : Buf (Elt F) (src.view.loc (thr d L))} {fd : Buf (Elt F) (dst.view.loc (thr d L))} {Sd : Finset (Idx (dst.view.loc (thr d L)))}

/-- A copy under way: at its wait it gives the destination written and the source back. -/
def Copying (src : Memref sig (thr d L).2.kind sp s e) (dst : Memref sig (thr d L).2.kind sp' s e) (sem : DmaSem sig) (q : PosShare TreeShare)
    (fs : Buf (Elt F) (src.view.loc (thr d L))) (fd : Buf (Elt F) (dst.view.loc (thr d L))) (Sd : Finset (Idx (dst.view.loc (thr d L)))) : sProp (MM F) :=
  Transfers.Flight countersEmb (thr d L) (.dma sem) (default : HIx 1) dst.view.dmaCredit
    iprop((dst.view.loc (thr d L) ↦[Sd]{fullShare} (dst.view.write (Elt F) fd (src.view.read (Elt F) fs) Finset.univ)) ∗ (src.view.loc (thr d L) ↦[src.view.set]{q} fs))

theorem copying_of : Transfers.Flight countersEmb (thr d L) (.dma sem) (default : HIx 1) dst.view.dmaCredit
    iprop((dst.view.loc (thr d L) ↦[Sd]{fullShare} (dst.view.write (Elt F) fd (ReadAs.same.apply (src.view.read (Elt F) fs)) Finset.univ)) ∗ (src.view.loc (thr d L) ↦[src.view.set]{q} fs))
      ⊢ Copying (F := F) d L src dst sem q fs fd Sd := by
  unfold Copying
  exact Entails.refl _

theorem wp_recv {κ' : Kind} {s' : Shape} {e' : EltTy} {sp2 sp3 : Space} {s2 : Shape} {e2 : EltTy} {srcw : Memref sig (thr d L).2.kind sp2 s' e'} {dstw : Memref sig κ' sp3 s2 e2}
    {h1 : srcw.view.WordExact} {h2 : dstw.view.WordExact} (hN : dstw.view.dmaCredit = dst.view.dmaCredit)
    {O : CellTallies nD τ sig (HIx 1)} {W : Waits sig (HIx 1)} :
    iprop(Copying (F := F) d L src dst sem q fs fd Sd ∗ owes (thr d L) O W ∗ MayWait (thr d L) (.dma sem) (default : HIx 1) O)
      ⊢ iprop((iprop(iprop((dst.view.loc (thr d L) ↦[Sd]{fullShare} (dst.view.write (Elt F) fd (src.view.read (Elt F) fs) Finset.univ)) ∗ (src.view.loc (thr d L) ↦[src.view.set]{q} fs))
            ∗ semVal (thr d L, SemLoc.dma sem) 0 ∗ owes (thr d L) O (insert (SemLoc.dma sem, (default : HIx 1)) W)) -∗ wpT d L (kk ⟨⟩) Q)
        -∗ wpT d L (Prog.lift (.waitDma2 sem srcw dstw h1 h2) >>= kk) Q) :=
  Transfers.wp_waitLocalO countersEmb 𝒱₀ (thr d L) none (default : HIx 1) hN

end Copies

end Cert.Proof.Tpp

end
-- ==== Proof.Start.lean ====
/- The start of a task: its copies in and the list filled with its first row. -/
module

public import proofs.«01_k».proof.Proof.Ends
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

theorem base_vec (x : S16.Idx) : k0_pay247 L x = BitVec.ofNat 32 (baseN L) := by
  have e : k0_pay247 L x = 0#32 + Scalar.muli (Scalar.addi (Scalar.muli (BitVec.ofNat 32 (L 1).val) 2#32) (BitVec.ofNat 32 (L 0).val)) 256#32 := rfl
  rw [e, base_word, BitVec.zero_add]

/-- The iota's lane numbers. -/
theorem lanes_at (x : S16.Idx) : iota .scVector S16 32 [0] iota_S16_d0_w32_scVector x = BitVec.ofNat 32 (x 0).val := by
  simp [iota]

/-- The task's start: both copies in are issued and the list begun. -/
theorem wp_start {ma : S32x64x256.Idx → F .f32} {mt : S8192.Idx → F .f32} {fa : S64x256.Idx → F .f32} {ft : S256.Idx → F .f32} {fg : S272.Idx → BitVec 32} :
    iprop(((aK L).view.loc (thr d L) ↦[(aK L).view.set]{fullShare} ma) ∗ ((tK L).view.loc (thr d L) ↦[(tK L).view.set]{fullShare} mt)
        ∗ hold (F := F) d L s0V fa ∗ hold (F := F) d L s1V ft ∗ hold (F := F) d L s3V fg
        ∗ semVal (thr d L, SemLoc.dma cc0_scratch7.sem) 0 ∗ semVal (thr d L, SemLoc.dma cc0_scratch8.sem) 0)
      ⊢ wpT (F := F) d L (k0_part20 L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0) fun p =>
        iprop(⌜p.1 = BitVec.ofNat 32 (baseN L) ∧ IsLanes p.2.1 ∧ (∀ x, p.2.2.1 x = zro) ∧ (∀ x, p.2.2.2.1 x = floorC) ∧ (∀ x, p.2.2.2.2.1 x = 4294967295#32)
            ∧ ∀ x, p.2.2.2.2.2 x = BitVec.ofNat 32 (baseN L)⌝
          ∗ Copying (F := F) d L (aK L) s0V cc0_scratch7.sem fullShare ma fa Finset.univ
          ∗ Copying (F := F) d L (tK L) s1V cc0_scratch8.sem fullShare mt ft Finset.univ ∗ Filled (F := F) d L (BitVec.ofNat 32 (baseN L)) 6) := by
  simp only [k0_part20_eq_skeleton]
  unfold k0_part20_skel
  iintro ⟨Ha, Ht, H0, H1, Hg, HsA, HsT⟩
  iapply (Transfers.wp_dmaLocal countersEmb 𝒱₀ (thr d L) none (default : HIx 1) (src := aK L) (dst := s0V) (sm := SemLoc.dma cc0_scratch7.sem) (Sd := Finset.univ) s0V.view.dmaCredit rfl (by decide) (Finset.subset_univ _)) $$ [Ha H0 HsA]
  · isplitl [Ha]
    · iexact Ha
    isplitl [H0]
    · iexact H0
    · iexact HsA
  iintro HA
  iapply (Transfers.wp_dmaLocal countersEmb 𝒱₀ (thr d L) none (default : HIx 1) (src := tK L) (dst := s1V) (sm := SemLoc.dma cc0_scratch8.sem) (Sd := Finset.univ) s1V.view.dmaCredit rfl (by decide) (Finset.subset_univ _)) $$ [Ht H1 HsT]
  · isplitl [Ht]
    · iexact Ht
    isplitl [H1]
    · iexact H1
    · iexact HsT
  iintro HT
  ihave HG : Filled (F := F) d L (BitVec.ofNat 32 (baseN L)) 0 $$ [Hg]
  · unfold Filled
    iexists fg
    isplitr [Hg]
    · ipureintro; intro x hx; exact absurd hx (by omega)
    · iexact Hg
  iapply (wp_fill (F := F) d L 0 rfl (v := k0_pay248 L) (fun x => (shapeCast_self16 _ x).trans (base_vec L x))) $$ HG
  iintro HG
  iapply (wp_fill (F := F) d L 1 rfl (v := k0_pay249 L) (fun x => (shapeCast_self16 _ x).trans (base_vec L x))) $$ HG
  iintro HG
  iapply (wp_fill (F := F) d L 2 rfl (v := k0_pay250 L) (fun x => (shapeCast_self16 _ x).trans (base_vec L x))) $$ HG
  iintro HG
  iapply (wp_fill (F := F) d L 3 rfl (v := k0_pay251 L) (fun x => (shapeCast_self16 _ x).trans (base_vec L x))) $$ HG
  iintro HG
  iapply (wp_fill (F := F) d L 4 rfl (v := k0_pay252 L) (fun x => (shapeCast_self16 _ x).trans (base_vec L x))) $$ HG
  iintro HG
  iapply (wp_fill (F := F) d L 5 rfl (v := k0_pay253 L) (fun x => (shapeCast_self16 _ x).trans (base_vec L x))) $$ HG
  iintro HG
  iapply (wp_value (F := F) d L _ (Entails.refl _))
  isplitr [HA HT HG]
  · ipureintro
    exact ⟨base_word L, fun x => lanes_at x, fun x => rfl, fun x => rfl, fun x => rfl, base_vec L⟩
  isplitl [HA]
  · iapply (copying_of (F := F) d L (src := aK L) (dst := s0V)) $$ HA
  isplitl [HT]
  · iapply (copying_of (F := F) d L (src := tK L) (dst := s1V)) $$ HT
  · iexact HG

/-- The rest of the list's first filling. -/
theorem wp_rest {v15 : IVec S16 32} {w : BitVec 32} (h15 : ∀ x, v15 x = w) :
    Filled (F := F) d L w 6 ⊢ wpT (F := F) d L (k0_part21 L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 v15) fun _ => Filled (F := F) d L w 17 := by
  simp only [k0_part21_eq_skeleton]
  unfold k0_part21_skel
  iintro HG
  iapply (wp_fill (F := F) d L 6 rfl (v := k0_pay254 v15) (fun x => (shapeCast_self16 _ x).trans (h15 x))) $$ HG
  iintro HG
  iapply (wp_fill (F := F) d L 7 rfl (v := k0_pay255 v15) (fun x => (shapeCast_self16 _ x).trans (h15 x))) $$ HG
  iintro HG
  iapply (wp_fill (F := F) d L 8 rfl (v := k0_pay256 v15) (fun x => (shapeCast_self16 _ x).trans (h15 x))) $$ HG
  iintro HG
  iapply (wp_fill (F := F) d L 9 rfl (v := k0_pay257 v15) (fun x => (shapeCast_self16 _ x).trans (h15 x))) $$ HG
  iintro HG
  iapply (wp_fill (F := F) d L 10 rfl (v := k0_pay258 v15) (fun x => (shapeCast_self16 _ x).trans (h15 x))) $$ HG
  iintro HG
  iapply (wp_fill (F := F) d L 11 rfl (v := k0_pay259 v15) (fun x => (shapeCast_self16 _ x).trans (h15 x))) $$ HG
  iintro HG
  iapply (wp_fill (F := F) d L 12 rfl (v := k0_pay260 v15) (fun x => (shapeCast_self16 _ x).trans (h15 x))) $$ HG
  iintro HG
  iapply (wp_fill (F := F) d L 13 rfl (v := k0_pay261 v15) (fun x => (shapeCast_self16 _ x).trans (h15 x))) $$ HG
  iintro HG
  iapply (wp_fill (F := F) d L 14 rfl (v := k0_pay262 v15) (fun x => (shapeCast_self16 _ x).trans (h15 x))) $$ HG
  iintro HG
  iapply (wp_fill (F := F) d L 15 rfl (v := k0_pay263 v15) (fun x => (shapeCast_self16 _ x).trans (h15 x))) $$ HG
  iintro HG
  iapply (wp_fill (F := F) d L 16 rfl (v := k0_pay264 v15) (fun x => (shapeCast_self16 _ x).trans (h15 x))) $$ HG
  iintro HG
  iapply (wp_value (F := F) d L _ (Entails.refl _))
  iexact HG

end Cert.Proof.Tpp

end
-- ==== Proof.Out.lean ====
/- The end of a task: its rows of the result copied out. -/
module

public import proofs.«01_k».proof.Proof.Start
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

/-- The list filled with the task's first row is a list of no row. -/
theorem listed_zero {base : ℕ} {W : ℕ → BitVec 32} {g : S272.Idx → BitVec 32} (hg : ∀ i, g i = BitVec.ofNat 32 base) : Listed base W 0 0 g where
  le := Nat.le_refl _
  word := fun i => ⟨0, by decide, by rw [hg]; rfl⟩
  sound := fun _ h => absurd h (by omega)
  compl := fun _ h => absurd h (by omega)

/-- Every wait so far is one of the given ones or one at no index. -/
def OweSome (O : CellTallies nD τ sig (HIx 1)) (W : Waits sig (HIx 1)) : sProp (MM F) :=
  iprop(∃ W', ⌜∀ p ∈ W', p ∈ W ∨ p.2 = none⌝ ∗ owes (thr d L) O W')

/-- What a task starts from besides its pieces of the arrays: its scratch buffers and its semaphores. -/
def Room : sProp (MM F) :=
  iprop((∃ f, hold (F := F) d L s0V f) ∗ (∃ f, hold (F := F) d L s1V f) ∗ (∃ f, hold (F := F) d L s2V f) ∗ (∃ f, hold (F := F) d L s3V f)
    ∗ (∃ f, hold (F := F) d L s4V f) ∗ (∃ f, hold (F := F) d L s5V f) ∗ (∃ f, hold (F := F) d L s6V f)
    ∗ semVal (thr d L, SemLoc.dma cc0_scratch7.sem) 0 ∗ semVal (thr d L, SemLoc.dma cc0_scratch8.sem) 0
    ∗ semVal (thr d L, SemLoc.dma cc0_scratch9.sem) 0 ∗ semVal (thr d L, SemLoc.dma cc0_scoped0.sem) 0)

/-- The pieces of the arrays a task works on. -/
def Pieces (q : PosShare TreeShare) (ma : S32x64x256.Idx → F .f32) (mt : S8192.Idx → F .f32) (mp : S8192x2048.Idx → F .f32) (mo : S8192.Idx → F .f32) : sProp (MM F) :=
  iprop(((aK L).view.loc (thr d L) ↦[(aK L).view.set]{fullShare} ma) ∗ ((tK L).view.loc (thr d L) ↦[(tK L).view.set]{fullShare} mt)
    ∗ (pV.view.loc (thr d L) ↦{q} mp) ∗ ((oK L).view.loc (thr d L) ↦[(oK L).view.set]{fullShare} mo))

theorem whole_s2 (o : S256.Idx → F .f32) : iprop(s2V.view.loc (thr d L) ↦[s2V.view.set]{fullShare} o) = (hold (F := F) d L s2V o) := by
  unfold hold
  rw [show s2V.view.set = Finset.univ from View.set_whole _]

/-- The task's rows of the result, copied out. -/
theorem wp_out {ma : S32x64x256.Idx → F .f32} {mt : S8192.Idx → F .f32} {mp : S8192x2048.Idx → F .f32} {mo : S8192.Idx → F .f32} {o : S256.Idx → F .f32}
    (ho : ∀ r < 256, o (i256 r) = rowRes ma mt mp (tileN L) r) {O : CellTallies nD τ sig (HIx 1)} {W : Waits sig (HIx 1)}
    {h1 : s2V.view.WordExact} {h2 : (oK L).view.WordExact} {h3 : DmaTarget.Typed (nD := nD) .vmem (.dma cc0_scoped0.sem) (.here (oK L) : DmaTarget nD τ sig (thr d L).2 .hbm S256 .f32)} {h4 : s2V.view.WordExact} {h5 : (oK L).view.WordExact} :
    iprop(((oK L).view.loc (thr d L) ↦[(oK L).view.set]{fullShare} mo) ∗ hold (F := F) d L s2V o ∗ semVal (thr d L, SemLoc.dma cc0_scoped0.sem) 0
        ∗ OweSome (F := F) d L O W ∗ Transfers.MayWaits (thr d L) (default : HIx 1) O)
      ⊢ wpT (F := F) d L (Prog.lift (.enqueueDma s2V (.here (oK L)) (.dma cc0_scoped0.sem) h1 h2 h3) >>= fun _ =>
          Prog.lift (.waitDma2 cc0_scoped0.sem s2V (oK L) h4 h5) >>= fun _ => pure PUnit.unit)
        fun _ => iprop(((oK L).view.loc (thr d L) ↦[(oK L).view.set]{fullShare} resOf ma mt mp) ∗ hold (F := F) d L s2V o ∗ semVal (thr d L, SemLoc.dma cc0_scoped0.sem) 0
          ∗ OweSome (F := F) d L O W) := by
  unfold OweSome
  iintro ⟨Ho, H2, HsO, ⟨%W', %hW', HO⟩, Hmw⟩
  ihave H2 := (Entails.of_eq (whole_s2 (F := F) d L o).symm) $$ H2
  iapply (Transfers.wp_dmaLocal countersEmb 𝒱₀ (thr d L) none (default : HIx 1) (src := s2V) (dst := oK L) (sm := SemLoc.dma cc0_scoped0.sem) (Sd := (oK L).view.set) (oK L).view.dmaCredit rfl (show 0 < s2V.view.dmaCredit by decide) (Finset.Subset.refl _)) $$ [H2 Ho HsO]
  · isplitl [H2]
    · iexact H2
    isplitl [Ho]
    · iexact Ho
    · iexact HsO
  iintro HF
  ihave HF := (copying_of (F := F) d L (src := s2V) (dst := oK L)) $$ HF
  ihave Hm := (Transfers.MayWaits.elim (SemLoc.dma cc0_scoped0.sem)) $$ Hmw
  iapply (wp_recv (F := F) d L (src := s2V) (dst := oK L) rfl) $$ [HF HO Hm]
  · isplitl [HF]
    · iexact HF
    isplitl [HO]
    · iexact HO
    · iexact Hm
  iintro ⟨⟨Ho, H2⟩, HsO, HO⟩
  ihave H2 := (Entails.of_eq (whole_s2 (F := F) d L o)) $$ H2
  ihave Ho := (Entails.of_eq (pointsTo_congr (ℓ := (oK L).view.loc (thr d L)) (out_oK (F := F) L ma mt mp mo o ho))) $$ Ho
  iapply (wp_value (F := F) d L _ (Entails.refl _))
  isplitl [Ho]
  · iexact Ho
  isplitl [H2]
  · iexact H2
  isplitl [HsO]
  · iexact HsO
  · iexists _
    isplitr [HO]
    rotate_left
    · iexact HO
    · ipureintro
      intro p hp
      rcases Finset.mem_insert.mp hp with rfl | h
      · exact .inr rfl
      · exact hW' p h

end Cert.Proof.Tpp

end
-- ==== Proof.Pass.lean ====
/- The first pass over a tile's rows: eight pairs of groups of sixteen. -/
module

public import proofs.«01_k».proof.Proof.Pair

@[expose] public section

noncomputable section

namespace Cert.Proof.Tpp

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F] (d : Dev nD) (L : grid0.Coords)

/-- What is held before pair `k` of groups, with `c` rows listed so far. -/
def Pass1 (base : ℕ) (A : S64x256.Idx → F .f32) (T : S256.Idx → F .f32) (k : ℕ) (c : BitVec 32) : sProp (MM F) :=
  iprop(∃ (g : S272.Idx → BitVec 32) (o : S256.Idx → F .f32) (f5 : Buf (Elt F) (s5V.view.loc (thr d L))),
    ⌜Listed base (missW (colsOf A) (timesOf T)) c.toNat (32 * k) g ∧ ∀ e < 32 * k, o (i256 e) = first (colsOf A) (timesOf T) e⌝
    ∗ hold (F := F) d L s0V A ∗ hold (F := F) d L s1V T ∗ hold (F := F) d L s2V o ∗ hold (F := F) d L s3V g ∗ hold (F := F) d L s5V f5)

theorem pair_word (t1 : Fin k0_t1_loop.trips) : Scalar.muli (Scf.iv 0#32 1#32 t1) 32#32 = BitVec.ofNat 32 (32 * t1.val)
    ∧ Scalar.addi (Scalar.muli (Scf.iv 0#32 1#32 t1) 32#32) 16#32 = BitVec.ofNat 32 (32 * t1.val + 16) := by
  revert t1; decide

theorem group_num (base b0 k : ℕ) : Scalar.addi (Scalar.addi (BitVec.ofNat 32 base) (BitVec.ofNat 32 b0)) (BitVec.ofNat 32 k) = BitVec.ofNat 32 (base + (b0 + k)) := by
  show _ + _ + _ = _
  rw [← BitVec.ofNat_add, ← BitVec.ofNat_add, Nat.add_assoc]

/-- One pair. -/
theorem wp_pair {base : ℕ} {v9 : IVec S16 32} (h9 : IsLanes v9) {v10 : FVec F S16 .f32} (h10 : ∀ x, v10 x = zro) (t1 : Fin k0_t1_loop.trips) (a17 : BitVec 32)
    (A : S64x256.Idx → F .f32) (T : S256.Idx → F .f32) :
    Pass1 d L base A T t1.val a17 ⊢ wpT (F := F) d L (k0_t1_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 (BitVec.ofNat 32 base) v9 v10 t1 a17) (Pass1 d L base A T (t1.val + 1)) := by
  have ht1 : t1.val < 8 := t1.isLt
  unfold k0_t1_body
  unfold Pass1
  iintro ⟨%g, %o, %f5, %hi, HA, HT, Ho, Hg, H5⟩
  obtain ⟨hL, ho⟩ := hi
  ihave H : iprop(hold (F := F) d L s0V A ∗ hold (F := F) d L s1V T ∗ hold (F := F) d L s2V o ∗ hold (F := F) d L s5V f5) $$ [HA HT Ho H5]
  · isplitl [HA]
    · iexact HA
    isplitl [HT]
    · iexact HT
    isplitl [Ho]
    · iexact Ho
    · iexact H5
  iapply (wp_use d L (wp_part10 d L h9 h10 t1 ho)) $$ H
  iintro %r ⟨%o, %f5, %hr, HA, HT, Ho, H5⟩
  obtain ⟨v78, v79, v85, v88, v102, v116⟩ := r
  obtain ⟨⟨h78, h79⟩, h85, h88, h102, h116, ho⟩ := hr
  dsimp only at h78 h79 h85 h88 h102 h116
  subst h78 h79 h116
  have G : Group v9 (BitVec.ofNat 32 base) (Scalar.muli (Scf.iv 0#32 1#32 t1) 32#32) v102 base (32 * t1.val) (missW (colsOf A) (timesOf T)) :=
    ⟨h9, h102, missW_cases _ _, fun k _ => by rw [(pair_word t1).1]; exact group_num _ _ _, by omega⟩
  ihave H : iprop(hold (F := F) d L s5V f5 ∗ hold (F := F) d L s3V g ∗ hold (F := F) d L s2V o) $$ [H5 Hg Ho]
  · isplitl [H5]
    · iexact H5
    isplitl [Hg]
    · iexact Hg
    · iexact Ho
  iapply (wp_use d L (wp_part11 d L (v2 := BitVec.ofNat 32 base) h10 t1 G hL h85 h88 ho)) $$ H
  iintro %r ⟨%o, %f5, %g, %hr, H5, Hg, Ho⟩
  obtain ⟨v132, v136, v150, v156⟩ := r
  obtain ⟨h136, h150, h156, hL, ho⟩ := hr
  dsimp only at h136 h150 h156 hL ho
  subst h136 h156
  have G : Group v9 (BitVec.ofNat 32 base) (Scalar.addi (Scalar.muli (Scf.iv 0#32 1#32 t1) 32#32) 16#32) v150 base (32 * t1.val + 16) (missW (colsOf A) (timesOf T)) :=
    ⟨h9, h150, missW_cases _ _, fun k _ => by rw [(pair_word t1).2]; exact group_num _ _ _, by omega⟩
  iapply (wp_exch d L s5V (hset5 d L) h9 2 (by decide) ?hv ?hidx ?hchk) $$ H5
  case hv => rfl
  case hidx => rfl
  case hchk => exact fun h => h
  iintro %f5 H5
  iapply (wp_exch d L s5V (hset5 d L) h9 4 (by decide) ?hv ?hidx ?hchk) $$ H5
  case hv => rfl
  case hidx => rfl
  case hchk => exact fun h => h
  iintro %f5 H5
  iapply (wp_exch d L s5V (hset5 d L) h9 8 (by decide) ?hv ?hidx ?hchk) $$ H5
  case hv => rfl
  case hidx => rfl
  case hchk => exact fun h => h
  iintro %f5 H5
  ihave H : iprop(hold d L s3V g ∗ (hold d L s5V f5 ∗ hold d L s2V o ∗ hold d L s0V A ∗ hold d L s1V T)) $$ [H5 Hg Ho HA HT]
  · isplitl [Hg]
    · iexact Hg
    isplitl [H5]
    · iexact H5
    isplitl [Ho]
    · iexact Ho
    isplitl [HA]
    · iexact HA
    · iexact HT
  iapply (wp_meet (F := F) d L iprop(∃ g' : S272.Idx → BitVec 32, ⌜Listed base (missW (colsOf A) (timesOf T)) (Scalar.addi (Scalar.addi a17 v132) (addx 8 (addx 4 (addx 2 (addx 1 v150))) (i16 0))).toNat (32 * t1.val + 16 + 16) g'⌝
      ∗ hold d L s3V g' ∗ (hold d L s5V f5 ∗ hold d L s2V o ∗ hold d L s0V A ∗ hold d L s1V T)) ?hX ?hn ?hkk) $$ H
  case hX =>
    intro h hm
    refine wp_useG d L (wp_part8 d L G a17 _ _ h hL) ?_
    rintro ⟨v186, v192, v198, v204, v210, v216, v220⟩ g ⟨hv220, hL, hw0, hw1, hw2, hw3, hw4, hw5⟩
    dsimp only at hv220 hL hw0 hw1 hw2 hw3 hw4 hw5
    subst hv220
    refine wp_useG d L (wp_part9 d L G a17 _ _ h v186 v192 v198 v204 v210 v216 hL) ?_
    rintro ⟨v222, v228, v234, v240, v246, v252, v256⟩ g ⟨hv256, hL, hw6, hw7, hw8, hw9, hw10, hw11⟩
    dsimp only at hv256 hL hw6 hw7 hw8 hw9 hw10 hw11
    subst hv256
    iterate 3 refine wp_slotG d L G _ (by decide) hL rfl rfl rfl (fun _ => rfl) (fun h _ hc => h hc) fun g hL => ?_
    refine wp_slotG d L G _ (by decide) hL rfl rfl rfl (fun _ => rfl) (fun h _ hc => h hc) fun g hL => ?_
    refine BIBase.Entails.trans ?_ hm
    iintro ⟨Hg, HR⟩
    iexists g
    isplitr [Hg HR]
    · ipureintro
      refine (congrArg (fun n : BitVec 32 => Listed base (missW (colsOf A) (timesOf T)) n.toNat (32 * t1.val + 16 + 16) g) ?_).mp hL
      subst hw0 hw1 hw2 hw3 hw4 hw5 hw6 hw7 hw8 hw9 hw10 hw11
      refine Eq.trans ?_ (run_sum (Scalar.addi a17 v132) v150 _ ?_)
      · exact congrArg₂ Scalar.addi (congrArg₂ Scalar.addi (congrArg₂ Scalar.addi (congrArg₂ Scalar.addi rfl (congrArg v150 (ext1 rfl))) (congrArg v150 (ext1 rfl)))
          (congrArg v150 (ext1 rfl))) (congrArg v150 (ext1 rfl))
      all_goals rfl
    · isplitl [Hg]
      · iexact Hg
      · iexact HR
  case hn =>
    intro h
    obtain ⟨hz, hs⟩ := none_left (missW_cases (colsOf A) (timesOf T)) h150 _ rfl h
    iintro ⟨Hg, HR⟩
    iexists g
    isplitr [Hg HR]
    · ipureintro
      refine (congrArg (fun n : BitVec 32 => Listed base (missW (colsOf A) (timesOf T)) n.toNat (32 * t1.val + 16 + 16) g) ?_).mp (hL.skips 16 hz)
      have e0 : addx 8 (addx 4 (addx 2 (addx 1 v150))) (i16 0) = 0#32 := by
        refine Eq.trans (congrArg (addx 8 (addx 4 (addx 2 (addx 1 v150)))) ?_) hs
        exact ext1 rfl
      exact ((congrArg (Scalar.addi (Scalar.addi a17 v132)) e0).trans (BitVec.add_zero _)).symm
    · isplitl [Hg]
      · iexact Hg
      · iexact HR
  case hkk =>
    iintro ⟨%g', %hL', Hg, H5, Ho, HA, HT⟩
    iapply (wp_value (F := F) d L _ (Entails.refl _))
    iexists g', o, f5
    isplitr [Hg Ho H5 HA HT]
    · ipureintro
      refine ⟨?_, ho⟩
      refine (congrArg (fun n : BitVec 32 => Listed base (missW (colsOf A) (timesOf T)) n.toNat (32 * t1.val + 16 + 16) g') ?_).mp hL'
      exact congrArg (Scalar.addi (Scalar.addi a17 v132)) (congrArg (addx 8 (addx 4 (addx 2 (addx 1 v150)))) (ext1 rfl))
    · isplitl [HA]
      · iexact HA
      isplitl [HT]
      · iexact HT
      isplitl [Ho]
      · iexact Ho
      isplitl [Hg]
      · iexact Hg
      · iexact H5

/-- All eight pairs. -/
theorem wp_pass1 {base : ℕ} {v9 : IVec S16 32} (h9 : IsLanes v9) {v10 : FVec F S16 .f32} (h10 : ∀ x, v10 x = zro)
    (A : S64x256.Idx → F .f32) (T : S256.Idx → F .f32) :
    Pass1 d L base A T 0 0#32 ⊢ wpT (F := F) d L (Scf.Loop.for k0_t1_loop k0_t1_ok 0#32 (k0_t1_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0 (BitVec.ofNat 32 base) v9 v10)) (Pass1 d L base A T 8) :=
  wp_loop (F := F) d L k0_t1_loop k0_t1_ok 0#32 _ (fun k c => Pass1 d L base A T k c) (Entails.refl _) fun t1 a => wp_pair d L h9 h10 t1 a A T

end Cert.Proof.Tpp

end
-- ==== Proof.Tile.lean ====
/- A whole task. -/
module

public import proofs.«01_k».proof.Proof.Out
public import proofs.«01_k».proof.Proof.Pass
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F] (d : Dev nD) (L : grid0.Coords)

/-- A staged array holds what was copied into it. -/
theorem landed0 (f w : S64x256.Idx → F .f32) :
    iprop(s0V.view.loc (thr d L) ↦[Finset.univ]{fullShare} s0V.view.write (Elt F) f w Finset.univ) = (hold (F := F) d L s0V w) := by
  exact congrArg (fun f => iprop(s0V.view.loc (thr d L) ↦[Finset.univ]{fullShare} f)) (View.write_whole_univ (Val := Elt F) s0V.view.ref f w)

/-- A staged array holds what was copied into it. -/
theorem landed1 (f w : S256.Idx → F .f32) :
    iprop(s1V.view.loc (thr d L) ↦[Finset.univ]{fullShare} s1V.view.write (Elt F) f w Finset.univ) = (hold (F := F) d L s1V w) := by
  exact congrArg (fun f => iprop(s1V.view.loc (thr d L) ↦[Finset.univ]{fullShare} f)) (View.write_whole_univ (Val := Elt F) s1V.view.ref f w)

/-- A whole task: from its pieces of the arrays, its rows of the result. -/
theorem wp_tile {q : PosShare TreeShare} {ma : S32x64x256.Idx → F .f32} {mt : S8192.Idx → F .f32} {mp : S8192x2048.Idx → F .f32} {mo : S8192.Idx → F .f32}
    {O : CellTallies nD τ sig (HIx 1)} {W : Waits sig (HIx 1)} :
    iprop(Pieces (F := F) d L q ma mt mp mo ∗ Room (F := F) d L ∗ owes (thr d L) O W ∗ Transfers.MayWaits (thr d L) (default : HIx 1) O)
      ⊢ wpT (F := F) d L (cc0__sc_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0) fun _ => iprop(Pieces (F := F) d L q ma mt mp (resOf ma mt mp) ∗ Room (F := F) d L ∗ OweSome (F := F) d L O W) := by
  simp only [cc0__sc_body_eq_skeleton]
  unfold cc0__sc_body_skel
  unfold Pieces Room
  iintro ⟨⟨Ha, Ht, Hp, Ho⟩, ⟨⟨%f0, H0⟩, ⟨%f1, H1⟩, ⟨%f2, H2⟩, ⟨%f3, H3⟩, ⟨%f4, H4⟩, ⟨%f5, H5⟩, ⟨%f6, H6⟩, HsA, HsT, HsR, HsO⟩, HO, #Hmw⟩
  iapply (wp_use (F := F) d L (wp_start (F := F) d L (ma := ma) (mt := mt) (fa := f0) (ft := f1) (fg := f3))) $$ [Ha Ht H0 H1 H3 HsA HsT]
  · isplitl [Ha]
    · iexact Ha
    isplitl [Ht]
    · iexact Ht
    isplitl [H0]
    · iexact H0
    isplitl [H1]
    · iexact H1
    isplitl [H3]
    · iexact H3
    isplitl [HsA]
    · iexact HsA
    · iexact HsT
  iintro %p ⟨%hp, HA, HT, HG⟩
  obtain ⟨v2, v9, v10, v11, v12, v15⟩ := p
  dsimp only at hp
  obtain ⟨h2, h9, h10, h11, h12, h15⟩ := hp
  subst h2
  iapply (wp_use (F := F) d L (wp_rest (F := F) d L h15)) $$ HG
  iintro %_ HG
  ihave Hm := (Transfers.MayWaits.elim (SemLoc.dma cc0_scratch7.sem)) $$ Hmw
  iapply (wp_recv (F := F) d L (src := aK L) (dst := s0V) rfl) $$ [HA HO Hm]
  · isplitl [HA]
    · iexact HA
    isplitl [HO]
    · iexact HO
    · iexact Hm
  iintro ⟨⟨H0, Ha⟩, HsA, HO⟩
  ihave Hm := (Transfers.MayWaits.elim (SemLoc.dma cc0_scratch8.sem)) $$ Hmw
  iapply (wp_recv (F := F) d L (src := tK L) (dst := s1V) rfl) $$ [HT HO Hm]
  · isplitl [HT]
    · iexact HT
    isplitl [HO]
    · iexact HO
    · iexact Hm
  iintro ⟨⟨H1, Ht⟩, HsT, HO⟩
  ihave H0 := (Entails.of_eq (landed0 (F := F) d L f0 ((aK L).view.read (Elt F) ma))) $$ H0
  ihave H1 := (Entails.of_eq (landed1 (F := F) d L f1 ((tK L).view.read (Elt F) mt))) $$ H1
  ihave HP : Pass1 (F := F) d L (baseN L) ((aK L).view.read (Elt F) ma) ((tK L).view.read (Elt F) mt) 0 0#32 $$ [H0 H1 H2 HG H5]
  · unfold Filled Pass1
    icases HG with ⟨%g, %hg, HG⟩
    iexists g, f2, f5
    isplitr [H0 H1 H2 HG H5]
    · ipureintro
      exact ⟨listed_zero fun i => hg i (by have := (i 0).isLt; exact lt_of_lt_of_eq this rfl), fun e he => absurd he (by omega)⟩
    isplitl [H0]
    · iexact H0
    isplitl [H1]
    · iexact H1
    isplitl [H2]
    · iexact H2
    isplitl [HG]
    · iexact HG
    · iexact H5
  iapply (wp_use (F := F) d L (wp_pass1 (F := F) d L h9 h10 ((aK L).view.read (Elt F) ma) ((tK L).view.read (Elt F) mt))) $$ HP
  iintro %v74 HP
  unfold Pass1
  icases HP with ⟨%g, %o, %f5', %hP, H0, H1, H2, H3, H5⟩
  obtain ⟨hL, hfirst⟩ := hP
  obtain ⟨n, hn, rfl⟩ : ∃ n, n ≤ 256 ∧ v74 = BitVec.ofNat 32 n := ⟨v74.toNat, hL.le, by simp⟩
  rw [BitVec.toNat_ofNat, Nat.mod_eq_of_lt (by omega)] at hL
  rw [cols_aK, times_tK] at hL hfirst
  iapply (wp_as (F := F) d L (count_ok hn))
  iapply (wp_pass2 (F := F) d L hn (v2 := BitVec.ofNat 32 (baseN L)) rfl h9 h10 h11 h12 (W := missW (lastOf ma (tileN L)) (timeOf mt (tileN L))) (FIN := rowRes ma mt mp (tileN L))
    (g := g) (T := (tK L).view.read (Elt F) mt) (q := q) (fp := mp) (O := O) (W0 := W) hL (missW_cases _ _) ?hF (count_ok hn)) $$ [H2 H3 H1 H4 H5 H6 Hp HsR HO]
  case hF =>
    intro r _ hr
    rw [times_tK, baseN_tile]
    show rowRes ma mt mp (tileN L) r = again mt mp (tileN L) r
    unfold rowRes
    rw [if_neg (by rw [hr]; decide)]
  · unfold Batches Kept Line
    iexists o, f4
    isplitr [H2 H3 H1 H4 H5 H6 Hp HsR HO]
    · ipureintro
      refine fun r hr => ⟨fun h0 => ?_, fun p hp => absurd hp (by omega)⟩
      rw [hfirst r (by omega)]
      unfold rowRes
      rw [if_pos h0]
    isplitl [H2]
    · iexact H2
    isplitl [H3 H1 H4 H5 H6]
    · isplitl [H3]
      · iexact H3
      isplitl [H1]
      · iexact H1
      isplitl [H4]
      · iexact H4
      isplitl [H5]
      · iexists _; iexact H5
      · iexists _; iexact H6
    isplitl [Hp]
    · iexact Hp
    isplitl [HsR]
    · iexact HsR
    isplitl [HO]
    · iexists _
      isplitr [HO]
      rotate_left
      · iexact HO
      · ipureintro
        intro p hp
        rcases Finset.mem_insert.mp hp with rfl | h
        · exact .inr rfl
        rcases Finset.mem_insert.mp h with rfl | h
        · exact .inr rfl
        · exact .inl h
    · iexact Hmw
  unfold Kept Line
  iintro H
  icases H with ⟨%o', %R, %ho', H2, ⟨H3, H1, H4, H5, H6⟩, Hp, HsR, HO, -⟩
  iapply (wp_done (F := F) d L (wp_out (F := F) d L ho' (mo := mo) (O := O) (W := W))) $$ [Ho H2 HsO HO]
  · unfold OweSome
    isplitl [Ho]
    · iexact Ho
    isplitl [H2]
    · iexact H2
    isplitl [HsO]
    · iexact HsO
    isplitl [HO]
    · iexact HO
    · iexact Hmw
  iintro %_ ⟨Ho, H2, HsO, HO⟩
  isplitl [Ha Ht Hp Ho]
  · isplitl [Ha]
    · iexact Ha
    isplitl [Ht]
    · iexact Ht
    isplitl [Hp]
    · iexact Hp
    · iexact Ho
  isplitr [HO]
  · isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexact H5
    isplitl [H6]
    · iexact H6
    isplitl [HsA]
    · iexact HsA
    isplitl [HsT]
    · iexact HsT
    isplitl [HsR]
    · iexact HsR
    · iexact HsO
  · iexact HO

end Cert.Proof.Tpp

end
-- ==== Proof.Parts.lean ====
/- The arrays shared out among the tiles. -/
module

public import proofs.«01_k».proof.Proof.Tile
public import Idealize.ShloMosaic.Lib.ValueLayout

@[expose] public section

noncomputable section

namespace Cert.Proof.Tpp

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F] [Named F]

/-! ## The tiles' sets of elements -/

/-- The rows of tile `w`, and its block of last columns. -/
def rowSet (w : ℕ) : Finset S8192.Idx := Finset.univ.filter fun i => (i 0).val / 256 = w
def blockSet (w : ℕ) : Finset S32x64x256.Idx := Finset.univ.filter fun i => (i 0).val = w

section Sets
variable (L : grid0.Coords)

theorem idx256 (y : S256.Idx) : y = i256 (y 0).val := ext1 (Nat.mod_eq_of_lt (y 0).isLt).symm
theorem idx64x256 (y : S64x256.Idx) : y = i64x256 (y 0).val (y 1).val := by
  funext a
  match a with
  | 0 => exact Fin.ext (Nat.mod_eq_of_lt (y 0).isLt).symm
  | 1 => exact Fin.ext (Nat.mod_eq_of_lt (y 1).isLt).symm

/-- A view whose words lie at a tile's rows covers that tile's rows. -/
theorem set_rows {e : S256.Idx ↪ S8192.Idx} (he : ∀ r, e (i256 r) = i8192 (256 * tileN L + r % 256)) : Finset.univ.map e = rowSet (tileN L) := by
  have hw := tileN_lt L
  ext i
  have hi : (i 0).val < 8192 := (i 0).isLt
  rw [Finset.mem_map, rowSet, Finset.mem_filter]
  constructor
  · rintro ⟨y, -, rfl⟩
    have hy : (y 0).val < 256 := (y 0).isLt
    refine ⟨Finset.mem_univ _, ?_⟩
    rw [idx256 y, he]
    show (256 * tileN L + (y 0).val % 256) % 8192 / 256 = tileN L
    omega
  · rintro ⟨-, h⟩
    refine ⟨i256 ((i 0).val % 256), Finset.mem_univ _, ?_⟩
    rw [he]
    refine ext1 ?_
    show (256 * tileN L + (i 0).val % 256 % 256) % 8192 = (i 0).val
    omega

theorem set_tK : ((tK L).view.set : Finset S8192.Idx) = rowSet (tileN L) := set_rows L (emb_tK L)
theorem set_oK : ((oK L).view.set : Finset S8192.Idx) = rowSet (tileN L) := set_rows L (emb_oK L)

theorem set_blocks {e : S64x256.Idx ↪ S32x64x256.Idx} (he : ∀ c r, e (i64x256 c r) = i32x64x256 (tileN L) c r) : Finset.univ.map e = blockSet (tileN L) := by
  have hw := tileN_lt L
  ext i
  rw [Finset.mem_map, blockSet, Finset.mem_filter]
  constructor
  · rintro ⟨y, -, rfl⟩
    refine ⟨Finset.mem_univ _, ?_⟩
    rw [idx64x256 y, he]
    show tileN L % 32 = tileN L
    omega
  · rintro ⟨-, h⟩
    refine ⟨i64x256 (i 1).val (i 2).val, Finset.mem_univ _, ?_⟩
    have h1 : (i 1).val < 64 := (i 1).isLt
    have h2 : (i 2).val < 256 := (i 2).isLt
    rw [he]
    funext a
    match a with
    | 0 => exact Fin.ext (show tileN L % 32 = (i 0).val by omega)
    | 1 => exact Fin.ext (show (i 1).val % 64 = (i 1).val by omega)
    | 2 => exact Fin.ext (show (i 2).val % 256 = (i 2).val by omega)

theorem set_aK : ((aK L).view.set : Finset S32x64x256.Idx) = blockSet (tileN L) := set_blocks L (emb_aK L)

end Sets

/-! ## The tiles -/

/-- The task of SparseCore `c`, subcore `i`. -/
def tile (c : Fin (grid0.bound 0)) (i : Fin (grid0.bound 1)) : grid0.Coords :=
  fun | 0 => c | 1 => i | ⟨_ + 2, h⟩ => absurd h (Nat.not_lt.2 (Nat.le_add_left _ _))

abbrev Tiles : Type := Fin (grid0.bound 0) × Fin (grid0.bound 1)
/-- A tile's number. -/
def num (p : Tiles) : ℕ := 2 * p.2.val + p.1.val

theorem num_tile (p : Tiles) : tileN (tile p.1 p.2) = num p := rfl

theorem num_inj {p p' : Tiles} (h : num p = num p') : p = p' := by
  have h1 : p.1.val < 2 := p.1.isLt
  have h2 : p'.1.val < 2 := p'.1.isLt
  unfold num at h
  exact Prod.ext (Fin.ext (by omega)) (Fin.ext (by omega))

theorem num_surj {w : ℕ} (h : w < 32) : ∃ p : Tiles, num p = w :=
  ⟨(⟨w % 2, show w % 2 < 2 by omega⟩, ⟨w / 2, show w / 2 < 16 by omega⟩), show 2 * (w / 2) + w % 2 = w by omega⟩

theorem nums : (Finset.univ : Finset Tiles).image num = Finset.range 32 := by
  ext w
  rw [Finset.mem_image, Finset.mem_range]
  constructor
  · rintro ⟨p, -, rfl⟩
    have h1 : p.1.val < 2 := p.1.isLt
    have h2 : p.2.val < 16 := p.2.isLt
    unfold num; omega
  · intro h
    obtain ⟨p, hp⟩ := num_surj h
    exact ⟨p, Finset.mem_univ _, hp⟩

/-! ## An array shared out among the tiles -/

section Split
variable {ℓ : Loc nD τ sig} {q : PosShare TreeShare} {f : Buf (Elt F) ℓ}

/-- An array held whole is its tiles' parts, for any way of numbering its elements by tile. -/
theorem split_tiles (S : ℕ → Finset (Idx ℓ)) (part : Idx ℓ → ℕ) (hpart : ∀ i, part i < 32) (hS : ∀ w i, i ∈ S w ↔ part i = w) :
    (ℓ ↦{q} f : sProp (MM F)) = bigSep Finset.univ fun p : Tiles => ℓ ↦[S (num p)]{q} f := by
  have hd : ∀ p ∈ (Finset.univ : Finset Tiles), ∀ p' ∈ (Finset.univ : Finset Tiles), p ≠ p' → Disjoint (S (num p)) (S (num p')) := fun p _ p' _ hne =>
    Finset.disjoint_left.mpr fun i hi hi' => hne (num_inj (((hS _ _).mp hi).symm.trans ((hS _ _).mp hi')))
  have hc : (Finset.univ : Finset Tiles).biUnion (fun p => S (num p)) = Finset.univ := by
    ext i
    rw [Finset.mem_biUnion]
    refine ⟨fun _ => Finset.mem_univ _, fun _ => ?_⟩
    obtain ⟨p, hp⟩ := num_surj (hpart i)
    exact ⟨p, Finset.mem_univ _, (hS _ _).mpr hp.symm⟩
  exact (congrArg (fun I => (ℓ ↦[I]{q} f : sProp (MM F))) hc.symm).trans (pointsTo_biUnion Finset.univ (ℓ := ℓ) (fun p : Tiles => S (num p)) hd)

/-- What is left of a share after `k` halves are given away. -/
def left : ℕ → PosShare TreeShare
  | 0 => fullShare
  | k + 1 => (left k).right
/-- The half given away at step `k`. -/
def given (k : ℕ) : PosShare TreeShare := (left k).left

theorem share_out (n : ℕ) : (ℓ ↦{fullShare} f : sProp (MM F)) ⊢ iprop((bigSep (Finset.range n) fun k => ℓ ↦{given k} f) ∗ ℓ ↦{left n} f) := by
  induction n with
  | zero =>
    rw [Finset.range_zero, bigSep_empty]
    iintro H
    isplitr [H]
    · iempintro
    · iexact H
  | succ n ih =>
    rw [Finset.range_add_one, SparseCore.bigSep_insert' Finset.notMem_range_self]
    iintro H
    ihave H := ih $$ H
    icases H with ⟨HB, H⟩
    ihave H := (pointsTo_share (PosShare.mem_left_op_right (left n))).1 $$ H
    icases H with ⟨H1, H2⟩
    isplitl [HB H1]
    · isplitl [H1]
      · iexact H1
      · iexact HB
    · iexact H2

/-- An array every tile reads: a share of it to each, and the rest. -/
theorem share_tiles : (ℓ ↦{fullShare} f : sProp (MM F)) ⊢ iprop((bigSep Finset.univ fun p : Tiles => ℓ ↦{given (num p)} f) ∗ ℓ ↦{left 32} f) := by
  refine BI.Entails.trans (share_out 32) ?_
  rw [← nums, SparseCore.bigSep_image_of_injOn (fun a _ b _ e => num_inj e)]
  exact Entails.refl _

end Split

end Cert.Proof.Tpp

end
-- ==== Proof.Task.lean ====
/- A task as the launch theorem asks for it: from its scoped buffers and semaphores, and its pieces of the arrays. -/
module

public import proofs.«01_k».proof.Proof.Parts

@[expose] public section

noncomputable section

namespace Cert.Proof.Tpp

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F] [Named F] (d : Dev nD) (L : grid0.Coords)

/-! ## The scratch buffers and the semaphores among the subcore's own -/

abbrev scratches : Finset (Ref sig .scVector) := {cc0_scratch0, cc0_scratch1, cc0_scratch2, cc0_scratch3, cc0_scratch4, cc0_scratch5, cc0_scratch6}
abbrev cells : Finset (SemLoc sig) := {SemLoc.dma cc0_scratch7.sem, SemLoc.dma cc0_scratch8.sem, SemLoc.dma cc0_scratch9.sem, SemLoc.dma cc0_scoped0.sem}

/-- The buffers as this subcore's device names them, and the semaphores as its own. -/
def refAt : Ref sig .scVector ↪ DevRef τ sig := ⟨(Proc.scVector (cV L) (jV L)).devRef, Proc.devRef_injective _⟩
def cellAt : SemLoc sig ↪ GSem nD τ sig := ⟨fun s => (thr d L, s), fun _ _ e => (Prod.mk.inj e).2⟩

theorem refs_own : scratches.map (refAt L) ⊆ ownRefs (τ := τ) (Proc.scVector (cV L) (jV L)) := by
  intro b hb
  obtain ⟨r, hr, rfl⟩ := Finset.mem_map.mp hb
  have : r ∈ scratches → ((Proc.scVector (cV L) (jV L)).devRef r).owner = .proc (Proc.scVector (cV L) (jV L)) := by
    intro h
    simp only [scratches, Finset.mem_insert, Finset.mem_singleton] at h
    rcases h with rfl | rfl | rfl | rfl | rfl | rfl | rfl <;> rfl
  exact SparseCore.Cfg.mem_ownRefs_of_owner (this hr)

theorem cells_scoped : ∀ s ∈ cells, s.isScoped .scVector = true := by decide

theorem cells_own : cells.map (cellAt d L) ⊆ ownCells (thr d L) := by
  intro g hg
  obtain ⟨s, hs, rfl⟩ := Finset.mem_map.mp hg
  exact mem_ownCells.mpr ⟨rfl, cells_scoped s hs⟩

/-- The buffers of the subcore no task touches, and the semaphores. -/
def restBufs : sProp (MM F) := bigSep (ownRefs (τ := τ) (Proc.scVector (cV L) (jV L)) \ scratches.map (refAt L)) fun b => iprop(∃ f, ((d, b) : Loc nD τ sig) ↦{fullShare} f)
def restSems : sProp (MM F) := bigSep (ownCells (thr d L) \ cells.map (cellAt d L)) fun g => semVal g 0

theorem own_bufs : (ownBufs (thr d L) : sProp (MM F))
    = iprop(((∃ f, hold (F := F) d L s0V f) ∗ (∃ f, hold (F := F) d L s1V f) ∗ (∃ f, hold (F := F) d L s2V f) ∗ (∃ f, hold (F := F) d L s3V f)
      ∗ (∃ f, hold (F := F) d L s4V f) ∗ (∃ f, hold (F := F) d L s5V f) ∗ (∃ f, hold (F := F) d L s6V f)) ∗ restBufs (F := F) d L) := by
  unfold SparseCore.Cfg.ownBufs
  refine (SparseCore.bigSep_sdiff_split' (refs_own L)).trans ?_
  rw [SparseCore.bigSep_map, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem own_sems : (ownSems0 (thr d L) : sProp (MM F))
    = iprop((semVal (thr d L, SemLoc.dma cc0_scratch7.sem) 0 ∗ semVal (thr d L, SemLoc.dma cc0_scratch8.sem) 0
      ∗ semVal (thr d L, SemLoc.dma cc0_scratch9.sem) 0 ∗ semVal (thr d L, SemLoc.dma cc0_scoped0.sem) 0) ∗ restSems (F := F) d L) := by
  unfold SparseCore.Cfg.ownSems0
  refine (SparseCore.bigSep_sdiff_split' (cells_own d L)).trans ?_
  rw [SparseCore.bigSep_map, SparseCore.bigSep_insert' (by decide), SparseCore.bigSep_insert' (by decide), SparseCore.bigSep_insert' (by decide), bigSep_singleton]
  rfl

/-- The two together: the room a task works in, and the rest. -/
theorem own_room : iprop(ownBufs (thr d L) ∗ ownSems0 (thr d L)) ⊢ (iprop(Room (F := F) d L ∗ restBufs (F := F) d L ∗ restSems (F := F) d L) : sProp (MM F)) := by
  rw [own_bufs, own_sems]
  unfold Room
  iintro ⟨⟨⟨H0, H1, H2, H3, H4, H5, H6⟩, HB⟩, ⟨S0, S1, S2, S3⟩, HS⟩
  iframe

theorem room_own : iprop(Room (F := F) d L ∗ restBufs (F := F) d L ∗ restSems (F := F) d L) ⊢ (iprop(ownBufs (thr d L) ∗ ownSems0 (thr d L)) : sProp (MM F)) := by
  rw [own_bufs, own_sems]
  unfold Room
  iintro ⟨⟨H0, H1, H2, H3, H4, H5, H6, S0, S1, S2, S3⟩, HB, HS⟩
  iframe

/-- A task's pieces, as the launch names them: the tile's elements of the transposed last columns, of the times and of the result, and a share of the rows. -/
def Piece (w : ℕ) (ma : Buf (Elt F) (aLoc d)) (mt : Buf (Elt F) (tLoc d)) (mp : Buf (Elt F) (pLoc d)) (mo : Buf (Elt F) (oLoc d)) : sProp (MM F) :=
  iprop((aLoc d ↦[blockSet w]{fullShare} ma) ∗ (tLoc d ↦[rowSet w]{fullShare} mt) ∗ (pLoc d ↦{given w} mp) ∗ (oLoc d ↦[rowSet w]{fullShare} mo))

theorem pieces_eq (ma : Buf (Elt F) (aLoc d)) (mt : Buf (Elt F) (tLoc d)) (mp : Buf (Elt F) (pLoc d)) (mo : Buf (Elt F) (oLoc d)) :
    Pieces (F := F) d L (given (tileN L)) ma mt mp mo = Piece (F := F) d (tileN L) ma mt mp mo := by
  unfold Pieces Piece
  rw [set_aK, set_tK, set_oK]

theorem task (hF : (K (F := F)).Facts) (ma : Buf (Elt F) (aLoc d)) (mt : Buf (Elt F) (tLoc d)) (mp : Buf (Elt F) (pLoc d)) (mo : Buf (Elt F) (oLoc d))
    (O : CellTallies nD τ sig (HIx 1)) (W : Waits sig (HIx 1)) (hO : ∀ g, O g none = 0) :
    iprop(levAts (K (F := F)).L (K (F := F)).lev ∗ emp ∗ Piece (F := F) d (tileN L) ma mt mp mo
        ∗ scopedBufs (thr d L) ∗ scopedSems0 (thr d L) ∗ owes (thr d L) O W)
      ⊢ wp frame (wpE (defs₀ (F := F)) 𝒱₀ (thr d L) none) Set.univ
          (cc0__sc_body L tV (Memref.isWhole_whole _) pV (Memref.isWhole_whole _) aV (Memref.isWhole_whole _) oV (Memref.isWhole_whole _) s0V (Memref.isWhole_whole _) s1V (Memref.isWhole_whole _) s2V (Memref.isWhole_whole _) s3V (Memref.isWhole_whole _) s4V (Memref.isWhole_whole _) s5V (Memref.isWhole_whole _) s6V (Memref.isWhole_whole _) cc0_scratch7 cc0_scratch8 cc0_scratch9 cc0_scoped0)
          fun _ => iprop(Piece (F := F) d (tileN L) ma mt mp (resOf ma mt mp) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L)]
  iintro ⟨#Hlv, -, HP, HB, HS, HO⟩
  ihave Hmw := (show levAts (K (F := F)).L (K (F := F)).lev ⊢ Transfers.MayWaits (thr d L) (default : HIx 1) O from
    (K (F := F)).mayWaits_none (thr := thr d L) hO) $$ Hlv
  ihave HR := (own_room (F := F) d L) $$ [HB HS]
  · isplitl [HB]
    · iexact HB
    · iexact HS
  icases HR with ⟨HR, HB, HS⟩
  ihave HP := (Entails.of_eq (pieces_eq (F := F) d L ma mt mp mo).symm) $$ HP
  iapply (wp_done (F := F) d L (wp_tile (F := F) d L (q := given (tileN L)) (ma := ma) (mt := mt) (mp := mp) (mo := mo) (O := O) (W := W))) $$ [HP HR HO Hmw]
  · isplitl [HP]
    · iexact HP
    isplitl [HR]
    · iexact HR
    isplitl [HO]
    · iexact HO
    · iexact Hmw
  iintro %a ⟨HP, HR, HO⟩
  ihave HP := (Entails.of_eq (pieces_eq (F := F) d L ma mt mp (resOf ma mt mp))) $$ HP
  ihave HBS := (room_own (F := F) d L) $$ [HR HB HS]
  · isplitl [HR]
    · iexact HR
    isplitl [HB]
    · iexact HB
    · iexact HS
  icases HBS with ⟨HB, HS⟩
  isplitl [HP]
  · iexact HP
  isplitl [HB]
  · iexact HB
  isplitl [HS]
  · iexact HS
  · unfold OweSome
    iexact HO

end Cert.Proof.Tpp

end
-- ==== Proof.Launch.lean ====
/- The launch: the operations before the call, the pieces each task is handed, the whole program's run. -/
module

public import proofs.«01_k».proof.Proof.Task

@[expose] public section

noncomputable section

namespace Cert.Proof.Tpp

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic Idealize.ShloMosaic.ValueIdx

variable {F : FTy → Type} [FloatOps F] [Named F] (m : (ℓ : Loc nD τ sig) → Buf (Elt F) ℓ) (ρ : Dev nD → PrngReg) (d : Dev nD)

/-! ## The operations before the call -/

abbrev b0 : DevRef τ sig := Proc.devRef .tc (main_arg0 : Ref sig .tc)
abbrev b1 : DevRef τ sig := Proc.devRef .tc (main_arg1 : Ref sig .tc)
abbrev b2 : DevRef τ sig := Proc.devRef .tc (main_arg2 : Ref sig .tc)
abbrev b3 : DevRef τ sig := Proc.devRef .tc (main_arg3 : Ref sig .tc)
abbrev b4 : DevRef τ sig := Proc.devRef .tc (main_arg4 : Ref sig .tc)
abbrev b5 : DevRef τ sig := Proc.devRef .tc (main_arg5 : Ref sig .tc)
abbrev b6 : DevRef τ sig := Proc.devRef .tc (main_arg6 : Ref sig .tc)
abbrev b7 : DevRef τ sig := Proc.devRef .tc (main_v0 : Ref sig .tc)
abbrev b8 : DevRef τ sig := Proc.devRef .tc (main_v1 : Ref sig .tc)
abbrev b9 : DevRef τ sig := Proc.devRef .tc (main_v2 : Ref sig .tc)
abbrev b10 : DevRef τ sig := Proc.devRef .tc (main_v3 : Ref sig .tc)

/-- The slice of the last columns, its rows grouped by tile, each group transposed. -/
abbrev opSlice : HloOp τ sig (Elt F) := StableHlo.unary main_arg4 main_v0 ((extractStridedSlice S8192x64 ![0, 1984] · slices_S8192x2048_S8192x64_0_1984) : (⟨S8192x2048, .f32⟩ : BufTy).Contents (Elt F) → (⟨S8192x64, .f32⟩ : BufTy).Contents (Elt F))
abbrev opGroup : HloOp τ sig (Elt F) := StableHlo.reshape main_v0 main_v1 (rfl : (.f32 : EltTy) = .f32) shapeCasts_S8192x64_S32x256x64
abbrev opTurn : HloOp τ sig (Elt F) := StableHlo.unary main_v1 main_v2 ((transpose S32x64x256 [0, 2, 1] · transposes_S32x256x64_S32x64x256_0_2_1) : (⟨S32x256x64, .f32⟩ : BufTy).Contents (Elt F) → (⟨S32x64x256, .f32⟩ : BufTy).Contents (Elt F))

/-- The arrays of the program. -/
abbrev arrays : Finset (DevRef τ sig) := {b0, b1, b2, b3, b4, b5, b6, b7, b8, b9, b10}
abbrev arrayRefs : Finset (Ref sig .tc) := {main_arg0, main_arg1, main_arg2, main_arg3, main_arg4, main_arg5, main_arg6, main_v0, main_v1, main_v2, main_v3}

theorem held_arrays (W : Valuation τ sig (Elt F)) : (held (SparseCore.T d) arrays W : sProp (MM F))
    = iprop(((SparseCore.T d).loc main_arg0 ↦{fullShare} W b0) ∗ ((SparseCore.T d).loc main_arg1 ↦{fullShare} W b1) ∗ (tLoc d ↦{fullShare} W b2) ∗ ((SparseCore.T d).loc main_arg3 ↦{fullShare} W b3)
      ∗ (pLoc d ↦{fullShare} W b4) ∗ ((SparseCore.T d).loc main_arg5 ↦{fullShare} W b5) ∗ ((SparseCore.T d).loc main_arg6 ↦{fullShare} W b6)
      ∗ ((SparseCore.T d).loc main_v0 ↦{fullShare} W b7) ∗ ((SparseCore.T d).loc main_v1 ↦{fullShare} W b8) ∗ (aLoc d ↦{fullShare} W b9) ∗ oLoc d ↦{fullShare} W b10) := by
  unfold held arrays
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The contents at launch, and after each of the three operations. -/
def V0 : Valuation τ sig (Elt F) := fun b => m (d, b)
def V3 : Valuation τ sig (Elt F) := (opTurn (F := F)).result ((opGroup (F := F)).result ((opSlice (F := F)).result (V0 m d)))

/-- The transposed last columns, of the rows. -/
def turned (mp : S8192x2048.Idx → F .f32) : S32x64x256.Idx → F .f32 :=
  transpose S32x64x256 [0, 2, 1] (shapeCast S32x256x64 (extractStridedSlice S8192x64 ![0, 1984] mp slices_S8192x2048_S8192x64_0_1984) shapeCasts_S8192x64_S32x256x64) transposes_S32x256x64_S32x64x256_0_2_1

theorem V3_other (b : DevRef τ sig) (h7 : b ≠ b7) (h8 : b ≠ b8) (h9 : b ≠ b9) : V3 m d b = m (d, b) := by
  unfold V3
  rw [(opTurn (F := F)).result_of_not_mem _ (show b ∉ ({b9} : Finset (DevRef τ sig)) from fun h => h9 (Finset.mem_singleton.mp h)),
    (opGroup (F := F)).result_of_not_mem _ (show b ∉ ({b8} : Finset (DevRef τ sig)) from fun h => h8 (Finset.mem_singleton.mp h)),
    (opSlice (F := F)).result_of_not_mem _ (show b ∉ ({b7} : Finset (DevRef τ sig)) from fun h => h7 (Finset.mem_singleton.mp h))]
  rfl

theorem V3_turned : V3 m d b9 = turned (m (pLoc d)) := by
  unfold V3
  refine (StableHlo.unary_result _ _ _ _ _ _).trans ?_
  refine congrArg (fun x => transpose S32x64x256 [0, 2, 1] x transposes_S32x256x64_S32x64x256_0_2_1) ?_
  refine (StableHlo.reshape_result _ _ _ _ _ _ _).trans ?_
  refine congrArg (fun x => shapeCast S32x256x64 x shapeCasts_S8192x64_S32x256x64) ?_
  exact StableHlo.unary_result _ _ _ _ _ _

theorem unscoped_held : (unscopedBufs d (fun b => m ((SparseCore.T d).loc b)) : sProp (MM F)) = held (SparseCore.T d) arrays (V0 m d) := by
  unfold unscopedBufs
  rw [show (Finset.univ.filter fun b : Ref sig .tc => ¬ b.isScoped) = arrayRefs by decide, held_arrays]
  unfold arrayRefs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-- The result, of the times and the rows. -/
def result (mt : S8192.Idx → F .f32) (mp : S8192x2048.Idx → F .f32) : S8192.Idx → F .f32 := resOf (turned mp) mt mp

/-! ## What the launch hands out -/

/-- A tile's number from its launch indices. -/
def numOf (c : Fin ((K (F := F)).nCore 0)) (i : Fin ((K (F := F)).nSub 0)) : ℕ := 2 * i.val + c.val

/-- A task's pieces, before and after. -/
def pieceAt (w : ℕ) : sProp (MM F) := Piece (F := F) d w (turned (m (pLoc d))) (m (tLoc d)) (m (pLoc d)) (m (oLoc d))
def pieceDone (w : ℕ) : sProp (MM F) := Piece (F := F) d w (turned (m (pLoc d))) (m (tLoc d)) (m (pLoc d)) (result (m (tLoc d)) (m (pLoc d)))

instance storable_at (w : ℕ) : BI.Storable (upEmb : UEmb _ (MM F)) (pieceAt m d w) := by unfold pieceAt Piece; infer_instance
instance storable_done (w : ℕ) : BI.Storable (upEmb : UEmb _ (MM F)) (pieceDone m d w) := by unfold pieceDone Piece; infer_instance

def P : (K (F := F)).Pay (nD := nD) (Val := Elt F) (Name := ℕ) (U := UU) where
  st := fun q d c => match q with | 0 => bigSep Finset.univ fun i : Fin ((K (F := F)).nSub 0) => pieceAt m d (numOf (F := F) c i)
  dn := fun q d c => match q with | 0 => bigSep Finset.univ fun i : Fin ((K (F := F)).nSub 0) => pieceDone m d (numOf (F := F) c i)
  go := fun q d c i => match q with | 0 => pieceAt m d (numOf (F := F) c i)
  td := fun q d c i => match q with | 0 => pieceDone m d (numOf (F := F) c i)
  x := fun _ _ => iprop(emp)

instance P_storable : (P (F := F) m).IsStorable where
  st q d c := match q with
    | 0 => (inferInstance : BI.Storable (upEmb : UEmb _ (MM F)) (bigSep Finset.univ fun i : Fin ((K (F := F)).nSub 0) => pieceAt m d (numOf (F := F) c i)))
  dn q d c := match q with
    | 0 => (inferInstance : BI.Storable (upEmb : UEmb _ (MM F)) (bigSep Finset.univ fun i : Fin ((K (F := F)).nSub 0) => pieceDone m d (numOf (F := F) c i)))
  go q d c i := match q with
    | 0 => (inferInstance : BI.Storable (upEmb : UEmb _ (MM F)) (pieceAt m d (numOf (F := F) c i)))
  td q d c i := match q with
    | 0 => (inferInstance : BI.Storable (upEmb : UEmb _ (MM F)) (pieceDone m d (numOf (F := F) c i)))

theorem vecSplit : (K (F := F)).VecSplit' (P m) 0 := by
  intro d c
  show (bigSep Finset.univ fun i : Fin ((K (F := F)).nSub 0) => pieceAt m d (numOf (F := F) c i)) ⊢ |={Set.univ}=> iprop(
      (bigSep Finset.univ fun i : Fin ((K (F := F)).nSub 0) => pieceAt m d (numOf (F := F) c i))
      ∗ ((bigSep Finset.univ fun i : Fin ((K (F := F)).nSub 0) => pieceDone m d (numOf (F := F) c i))
          -∗ bigSep Finset.univ fun i : Fin ((K (F := F)).nSub 0) => pieceDone m d (numOf (F := F) c i)))
  iintro H; imodintro
  isplitl [H]
  · iexact H
  · iintro H; iexact H

/-! ## The obligation of a task -/

theorem defs₀_vector (c : Fin τ.nSC) (s : Fin τ.nSub) :
    defs₀ (F := F) (.scVector c s) 0 ()
      = SparseCore.onTile hcore0 hsub0 (fun c s => cc0__sc_body (tile c s)
          tV (Memref.isWhole_whole _) pV (Memref.isWhole_whole _) aV (Memref.isWhole_whole _) oV (Memref.isWhole_whole _)
          s0V (Memref.isWhole_whole _) s1V (Memref.isWhole_whole _) s2V (Memref.isWhole_whole _) s3V (Memref.isWhole_whole _)
          s4V (Memref.isWhole_whole _) s5V (Memref.isWhole_whole _) s6V (Memref.isWhole_whole _) cc0_scratch7 cc0_scratch8 cc0_scratch9 cc0_scoped0) ⟨⟩ c s := rfl

theorem obl_post {t : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task (F := F) d (tile ⟨_, hci.1⟩ ⟨_, hci.2⟩) hF (turned (m (pLoc d))) (m (tLoc d)) (m (pLoc d)) (m (oLoc d)) O W hO).trans (wp_mono frame _ _ fun _ => obl_post)

end Cert.Proof.Tpp

end
-- ==== Proof.Main.lean ====
/- The whole program's run: the operations before the call, the call, and what the final memory holds. -/
module

public import proofs.«01_k».proof.Proof.Launch

@[expose] public section

noncomputable section

namespace Cert.Proof.Tpp

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic Idealize.ShloMosaic.ValueIdx

variable {F : FTy → Type} [FloatOps F] [Named F] (m : (ℓ : Loc nD τ sig) → Buf (Elt F) ℓ) (ρ : Dev nD → PrngReg) (d : Dev nD)

/-! ## The arrays dealt to the tasks and gathered again -/

theorem split_a (f : Buf (Elt F) (aLoc d)) : (aLoc d ↦{fullShare} f : sProp (MM F)) = bigSep Finset.univ fun p : Tiles => aLoc d ↦[blockSet (num p)]{fullShare} f :=
  split_tiles (ℓ := aLoc d) blockSet (fun i : S32x64x256.Idx => (i 0).val) (fun i => (i 0).isLt) fun w i => by
    show i ∈ Finset.univ.filter _ ↔ _
    rw [Finset.mem_filter]; exact ⟨fun h => h.2, fun h => ⟨Finset.mem_univ _, h⟩⟩

theorem row_part (i : S8192.Idx) : (i 0).val / 256 < 32 := by
  have : (i 0).val < 8192 := (i 0).isLt
  omega

theorem mem_rowSet (w : ℕ) (i : S8192.Idx) : i ∈ rowSet w ↔ (i 0).val / 256 = w := by
  unfold rowSet
  rw [Finset.mem_filter]; exact ⟨fun h => h.2, fun h => ⟨Finset.mem_univ _, h⟩⟩

theorem split_t (f : Buf (Elt F) (tLoc d)) : (tLoc d ↦{fullShare} f : sProp (MM F)) = bigSep Finset.univ fun p : Tiles => tLoc d ↦[rowSet (num p)]{fullShare} f :=
  split_tiles (ℓ := tLoc d) rowSet (fun i : S8192.Idx => (i 0).val / 256) row_part mem_rowSet
theorem split_o (f : Buf (Elt F) (oLoc d)) : (oLoc d ↦{fullShare} f : sProp (MM F)) = bigSep Finset.univ fun p : Tiles => oLoc d ↦[rowSet (num p)]{fullShare} f :=
  split_tiles (ℓ := oLoc d) rowSet (fun i : S8192.Idx => (i 0).val / 256) row_part mem_rowSet

/-- Every task's pieces, gathered array by array. -/
theorem pieces_all (ma : Buf (Elt F) (aLoc d)) (mt : Buf (Elt F) (tLoc d)) (mp : Buf (Elt F) (pLoc d)) (mo : Buf (Elt F) (oLoc d)) :
    (bigSep Finset.univ fun p : Tiles => Piece (F := F) d (num p) ma mt mp mo)
      = iprop((aLoc d ↦{fullShare} ma) ∗ (tLoc d ↦{fullShare} mt) ∗ (bigSep Finset.univ fun p : Tiles => pLoc d ↦{given (num p)} mp) ∗ oLoc d ↦{fullShare} mo) := by
  rw [split_a, split_t, split_o]
  unfold Piece
  rw [bigSep_sep', bigSep_sep', bigSep_sep']

theorem tiles_all (Φ : ℕ → sProp (MM F)) :
    (bigSep Finset.univ fun c : Fin ((K (F := F)).nCore 0) => bigSep Finset.univ fun i : Fin ((K (F := F)).nSub 0) => Φ (numOf (F := F) c i))
      = bigSep Finset.univ fun p : Tiles => Φ (num p) := by
  rw [← Finset.univ_product_univ, SparseCore.bigSep_product]
  rfl

theorem st0_eq : (bigSep Finset.univ fun c : Fin ((K (F := F)).nCore 0) => (P m).st 0 d c)
    = iprop((aLoc d ↦{fullShare} turned (m (pLoc d))) ∗ (tLoc d ↦{fullShare} m (tLoc d)) ∗ (bigSep Finset.univ fun p : Tiles => pLoc d ↦{given (num p)} m (pLoc d)) ∗ oLoc d ↦{fullShare} m (oLoc d)) :=
  (tiles_all (F := F) (pieceAt m d)).trans (pieces_all (F := F) d _ _ _ _)
theorem dn0_eq : (bigSep Finset.univ fun c : Fin ((K (F := F)).nCore 0) => (P m).dn 0 d c)
    = iprop((aLoc d ↦{fullShare} turned (m (pLoc d))) ∗ (tLoc d ↦{fullShare} m (tLoc d)) ∗ (bigSep Finset.univ fun p : Tiles => pLoc d ↦{given (num p)} m (pLoc d))
      ∗ oLoc d ↦{fullShare} result (m (tLoc d)) (m (pLoc d))) :=
  (tiles_all (F := F) (pieceDone m d)).trans (pieces_all (F := F) d _ _ _ _)

/-! ## The program on the TensorCore -/

/-- The arrays before the call: the arguments and the result as at launch, the last columns transposed. -/
theorem held_V3 : (held (SparseCore.T d) arrays (V3 m d) : sProp (MM F))
    = iprop(((SparseCore.T d).loc main_arg0 ↦{fullShare} m (d, b0)) ∗ ((SparseCore.T d).loc main_arg1 ↦{fullShare} m (d, b1)) ∗ (tLoc d ↦{fullShare} m (tLoc d)) ∗ ((SparseCore.T d).loc main_arg3 ↦{fullShare} m (d, b3))
      ∗ (pLoc d ↦{fullShare} m (pLoc d)) ∗ ((SparseCore.T d).loc main_arg5 ↦{fullShare} m (d, b5)) ∗ ((SparseCore.T d).loc main_arg6 ↦{fullShare} m (d, b6))
      ∗ ((SparseCore.T d).loc main_v0 ↦{fullShare} V3 m d b7) ∗ ((SparseCore.T d).loc main_v1 ↦{fullShare} V3 m d b8) ∗ (aLoc d ↦{fullShare} turned (m (pLoc d))) ∗ oLoc d ↦{fullShare} m (oLoc d)) := by
  rw [held_arrays, V3_turned, V3_other m d b0 (by decide) (by decide) (by decide), V3_other m d b1 (by decide) (by decide) (by decide),
    V3_other m d b2 (by decide) (by decide) (by decide), V3_other m d b3 (by decide) (by decide) (by decide), V3_other m d b4 (by decide) (by decide) (by decide),
    V3_other m d b5 (by decide) (by decide) (by decide), V3_other m d b6 (by decide) (by decide) (by decide), V3_other m d b10 (by decide) (by decide) (by decide)]

theorem slice_in : (opSlice (F := F)).bufs ⊆ arrays := show ({b4, b7} : Finset (DevRef τ sig)) ⊆ arrays by decide
theorem group_in : (opGroup (F := F)).bufs ⊆ arrays := show ({b7, b8} : Finset (DevRef τ sig)) ⊆ arrays by decide
theorem turn_in : (opTurn (F := F)).bufs ⊆ arrays := show ({b8, b9} : Finset (DevRef τ sig)) ⊆ arrays by decide

/-- What the run leaves: the arguments as they were, the result at its value. -/
abbrev FIN : sProp (MM F) :=
  iprop(((SparseCore.T d).loc main_arg0 ↦{fullShare} m (d, b0)) ∗ ((SparseCore.T d).loc main_arg1 ↦{fullShare} m (d, b1)) ∗ (tLoc d ↦{fullShare} m (tLoc d)) ∗ ((SparseCore.T d).loc main_arg3 ↦{fullShare} m (d, b3))
    ∗ (pLoc d ↦{left 32} m (pLoc d)) ∗ ((SparseCore.T d).loc main_arg5 ↦{fullShare} m (d, b5)) ∗ ((SparseCore.T d).loc main_arg6 ↦{fullShare} m (d, b6))
    ∗ oLoc d ↦{fullShare} result (m (tLoc d)) (m (pLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opSlice) (S := arrays) slice_in (V := V0 m d)) $$ [Hb Hheld]
  · isplitl [Hb] <;> iassumption
  iintro ⟨Hb, Hheld⟩
  rw [wp_ret]; imodintro
  iapply (wp_hlo_within 𝒱 (SparseCore.T d) none Set.univ (op := opGroup) (S := arrays) group_in (V := (opSlice (F := F)).result (V0 m d))) $$ [Hb Hheld]
  · isplitl [Hb] <;> iassumption
  iintro ⟨Hb, Hheld⟩
  rw [wp_ret]; imodintro
  iapply (wp_hlo_within 𝒱 (SparseCore.T d) none Set.univ (op := opTurn) (S := arrays) turn_in (V := (opGroup (F := F)).result ((opSlice (F := F)).result (V0 m d)))) $$ [Hb Hheld]
  · isplitl [Hb] <;> iassumption
  iintro ⟨Hb, Hheld⟩
  rw [wp_ret]; imodintro
  ihave Hh := (show (held (SparseCore.T d) arrays ((opTurn (F := F)).result ((opGroup (F := F)).result ((opSlice (F := F)).result (V0 m d)))) : sProp (MM F)) ⊢ _ from Entails.of_eq (held_V3 (F := F) m d)) $$ Hheld
  icases Hh with ⟨H0, H1, H2, H3, H4, H5, H6, H7, H8, H9, H10⟩
  ihave H4 := (share_tiles (F := F) (ℓ := pLoc d) (f := m (pLoc d))) $$ H4
  icases H4 with ⟨H4, H4r⟩
  iapply ((K (F := F)).wp_run (D (F := F)) 𝒱 (EH := EH) (P := P m) κ d 0) $$ [Hst H0 H1 H2 H3 H4 H4r H5 H6 H9 H10 Hb Hts]
  isplitr; · iexact Hctx
  isplitl [Hst]; · iexact Hst
  isplitl [H2 H4 H9 H10]
  · rw [st0_eq]
    isplitl [H9]; · iexact H9
    isplitl [H2]; · iexact H2
    isplitl [H4]; · iexact H4
    iexact H10
  iintro ⟨Hst, Hdn⟩
  ihave Hdn := (Entails.of_eq (dn0_eq (F := F) m d)) $$ Hdn
  icases Hdn with ⟨-, H2, -, H10⟩
  imodintro
  isplitl [Hst]; · iexact Hst
  isplitr [Hb Hts]
  · isplitl [H0]; · iexact H0
    isplitl [H1]; · iexact H1
    isplitl [H2]; · iexact H2
    isplitl [H3]; · iexact H3
    isplitl [H4r]; · iexact H4r
    isplitl [H5]; · iexact H5
    isplitl [H6]; · iexact H6
    iexact H10
  isplitl [Hb] <;> iassumption

/-! ## The final memory -/

/-- What the claims read of a device's final memory. -/
def fq (d : Dev nD) (s' : Phys nD τ sig (Elt F)) : Prop :=
  s'.mem.mem (oLoc d) = result (m (tLoc d)) (m (pLoc d))
    ∧ s'.mem.mem ((SparseCore.T d).loc main_arg0) = m ((SparseCore.T d).loc main_arg0) ∧ s'.mem.mem ((SparseCore.T d).loc main_arg1) = m ((SparseCore.T d).loc main_arg1)
    ∧ s'.mem.mem (tLoc d) = m (tLoc d) ∧ s'.mem.mem ((SparseCore.T d).loc main_arg3) = m ((SparseCore.T d).loc main_arg3)
    ∧ s'.mem.mem (pLoc d) = m (pLoc d) ∧ s'.mem.mem ((SparseCore.T d).loc main_arg5) = m ((SparseCore.T d).loc main_arg5)
    ∧ s'.mem.mem ((SparseCore.T d).loc main_arg6) = m ((SparseCore.T d).loc main_arg6)

/-- An array held at some share has the contents it is held at. -/
theorem agrees {s' : Phys nD τ sig (Elt F)} {ℓ : Loc nD τ sig} {q : PosShare TreeShare} {f : Buf (Elt F) ℓ} :
    iprop(SI s' ∗ ℓ ↦{q} f) ⊢ (iprop(⌜s'.mem.mem ℓ = f⌝ ∗ SI s') : sProp (MM F)) := by
  iintro ⟨HSI, H⟩
  ihave H := (persistent_entails_right (SI_pointsTo_agree (st := s') (ℓ := ℓ) (I := Finset.univ) (q := q) (f := f))) $$ [HSI H]
  · isplitl [HSI] <;> iassumption
  icases H with ⟨%h1, HSI, -⟩
  isplitr
  · ipureintro; exact funext fun i => h1 i (Finset.mem_univ i)
  · iexact HSI

set_option maxRecDepth 16384 in
theorem hfin (d : Dev nD) (s' : Phys nD τ sig (Elt F)) : iprop(FIN m d ∗ SI s') ⊢ (⌜fq m d s'⌝ : sProp (MM F)) := by
  iintro ⟨⟨H0, H1, H2, H3, H4, H5, H6, H10⟩, HSI⟩
  ihave H := (agrees (F := F)) $$ [HSI H0]
  · isplitl [HSI] <;> iassumption
  icases H with ⟨%e0, HSI⟩
  ihave H := (agrees (F := F)) $$ [HSI H1]
  · isplitl [HSI] <;> iassumption
  icases H with ⟨%e1, HSI⟩
  ihave H := (agrees (F := F)) $$ [HSI H2]
  · isplitl [HSI] <;> iassumption
  icases H with ⟨%e2, HSI⟩
  ihave H := (agrees (F := F)) $$ [HSI H3]
  · isplitl [HSI] <;> iassumption
  icases H with ⟨%e3, HSI⟩
  ihave H := (agrees (F := F)) $$ [HSI H4]
  · isplitl [HSI] <;> iassumption
  icases H with ⟨%e4, HSI⟩
  ihave H := (agrees (F := F)) $$ [HSI H5]
  · isplitl [HSI] <;> iassumption
  icases H with ⟨%e5, HSI⟩
  ihave H := (agrees (F := F)) $$ [HSI H6]
  · isplitl [HSI] <;> iassumption
  icases H with ⟨%e6, HSI⟩
  ihave H := (agrees (F := F)) $$ [HSI H10]
  · isplitl [HSI] <;> iassumption
  icases H with ⟨%e10, -⟩
  ipureintro
  exact ⟨e10, e0, e1, e2, e3, e4, e5, e6⟩

/-! ## The run -/

def u₀ : UU := (initOf (K (F := F)).hsCells (K (F := F)).hsToks, 1)

theorem emps {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

def QC : PUnit × MemSt nD τ sig (Elt F) → Prop := fun r =>
  (∀ c : Dev nD, r.2.mem (oLoc c) = result (m (tLoc c)) (m (pLoc c))
    ∧ r.2.mem ((SparseCore.T c).loc main_arg0) = m ((SparseCore.T c).loc main_arg0) ∧ r.2.mem ((SparseCore.T c).loc main_arg1) = m ((SparseCore.T c).loc main_arg1)
    ∧ r.2.mem (tLoc c) = m (tLoc c) ∧ r.2.mem ((SparseCore.T c).loc main_arg3) = m ((SparseCore.T c).loc main_arg3)
    ∧ r.2.mem (pLoc c) = m (pLoc c) ∧ r.2.mem ((SparseCore.T c).loc main_arg5) = m ((SparseCore.T c).loc main_arg5)
    ∧ r.2.mem ((SparseCore.T c).loc main_arg6) = m ((SparseCore.T c).loc main_arg6))
    ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tpp

end
-- ==== Proof.Frames.lean ====
/- The runs of the kernel as printed and as idealized, and the constant the idealization names. -/
module

public import proofs.«01_k».proof.Proof.Main
public import proofs.«01_k».proof.Proof.Gen.Kernel

@[expose] public section

set_option maxHeartbeats 4000000
set_option maxRecDepth 100000

noncomputable section

namespace Cert.Proof.Tpp

open Idealize.ShloMosaic Idealize.SL.Sem

/-- At the floating-point numbers a named constant is the number its pattern denotes. -/
@[instance_reducible] def plainNamed : Named Bits where
  named _ _ {φ} b := FloatOps.ofBits φ b

/-- The run of the kernel at the exact numbers. -/
theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (QC m) := run_main (F := Ideal) m ρ

theorem frame_ideal : Cert.quiescent_KernelIdeal := fun m ρ _ =>
  (θ_run Cert.KernelIdeal.defs _ _).mono (fun _ h => ⟨fun c => (h.1 c).2, h.2⟩) (run_ideal m ρ)

/-- The same run at the floating-point numbers, the named constant read as its pattern. -/
theorem run_bits (m : (ℓ : Loc Cert.KernelIdeal.nD Cert.KernelIdeal.τ Cert.KernelIdeal.sig) → Buf (Elt Bits) ℓ) (ρ : Dev Cert.KernelIdeal.nD → PrngReg) :
    letI := plainNamed
    θ_run (Cert.KernelIdeal.defs (F := Bits)) (Cert.KernelIdeal.threads (F := Bits)) ⟨m, fun _ => 0, ρ⟩ (QC m) :=
  letI := plainNamed
  run_main (F := Bits) m ρ

/-- The kernel's body table as printed is the idealized one's, the named constant read as its pattern. -/
theorem defs_eq : @Cert.Kernel.defs Bits _ Cert.Kernel.Gen.facts = @Cert.KernelIdeal.defs Bits _ plainNamed Cert.KernelIdeal.Gen.facts := rfl

theorem threads_eq : Cert.Kernel.threads (F := Bits) = letI := plainNamed; Cert.KernelIdeal.threads (F := Bits) := rfl

theorem run_printed (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (@QC Bits _ plainNamed m) := by
  have h := run_bits m ρ
  rw [← threads_eq] at h
  exact (congrArg (fun D => θ_run D (Cert.Kernel.threads (F := Bits)) ⟨m, fun _ => 0, ρ⟩ (@QC Bits _ plainNamed m)) defs_eq).mpr h

theorem frame_printed : Cert.quiescent_Kernel := fun m ρ _ =>
  (θ_run Cert.Kernel.defs _ _).mono (fun _ h => ⟨fun c => (h.1 c).2, h.2⟩) (run_printed m ρ)

theorem preserves : Cert.preserves_Kernel_KernelIdeal :=
  IdealRules.named_const.statement Cert.KernelIdeal.κ "floor" .f32 0xFF7FC99E#32 ⊥ rfl

end Cert.Proof.Tpp

end
-- ==== Proof.Last.lean ====
/- The two passes over the extended reals: each gives a row the decay from its last word at or before its time, and zero
   when it has none. -/
module

public import proofs.«01_k».proof.Proof.Ends
public import Idealize.ShloMosaic.Lib.StableHlo.Predicate
public import Idealize.ShloMosaic.PureOps.IdealRules

@[expose] public section

noncomputable section

namespace Cert.Proof.Tpp

open Cert.KernelIdeal Cert.KernelIdeal.Gen
open Idealize.ShloMosaic Idealize.ShloMosaic.StableHlo.Predicate

/-! ## The last word at or before a time -/

/-- `j` is the last of the first `n` positions whose word is at or before `t`. -/
structure LastAt (t : EReal) (X : ℕ → EReal) (n j : ℕ) : Prop where
  lt : j < n
  le : X j ≤ t
  after : ∀ k, j < k → k < n → ¬ X k ≤ t

theorem LastAt.unique {t : EReal} {X : ℕ → EReal} {n j k : ℕ} (h : LastAt t X n j) (h' : LastAt t X n k) : j = k := by
  rcases Nat.lt_trichotomy j k with e | e | e
  · exact absurd h'.le (h.after k e h'.lt)
  · exact e
  · exact absurd h.le (h'.after j e h.lt)

theorem LastAt.here {t : EReal} {X : ℕ → EReal} {n : ℕ} (h : X n ≤ t) : LastAt t X (n + 1) n :=
  ⟨Nat.lt_succ_self n, h, fun k hk hk' => absurd hk (by omega)⟩

theorem LastAt.skip {t : EReal} {X : ℕ → EReal} {n j : ℕ} (h : LastAt t X n j) (h' : ¬ X n ≤ t) : LastAt t X (n + 1) j :=
  ⟨Nat.lt_succ_of_lt h.lt, h.le, fun k hk hk' => (Nat.lt_succ_iff_lt_or_eq.mp hk').elim (h.after k hk) (fun e => e ▸ h')⟩

theorem last_or_none (t : EReal) (X : ℕ → EReal) (n : ℕ) : (∀ k < n, ¬ X k ≤ t) ∨ ∃ j, LastAt t X n j := by
  induction n with
  | zero => exact Or.inl fun k hk => absurd hk (Nat.not_lt_zero k)
  | succ n ih =>
    by_cases h : X n ≤ t
    · exact Or.inr ⟨n, LastAt.here h⟩
    · rcases ih with ih | ⟨j, hj⟩
      · exact Or.inl fun k hk => (Nat.lt_succ_iff_lt_or_eq.mp hk).elim (ih k) (fun e => e ▸ h)
      · exact Or.inr ⟨j, hj.skip h⟩

theorem cmp_ole (x t : EReal) : (FloatOps.cmpf (F := Ideal) (φ := .f32) .ole x t = 1#1) ↔ x ≤ t := by
  show BitVec.ofBool (decide (x ≤ t)) = 1#1 ↔ _
  rw [ofBool_eq_one_iff, decide_eq_true_eq]

theorem cmp_olt (x t : EReal) : (FloatOps.cmpf (F := Ideal) (φ := .f32) .olt x t = 1#1) ↔ x < t := by
  show BitVec.ofBool (decide (x < t)) = 1#1 ↔ _
  rw [ofBool_eq_one_iff, decide_eq_true_eq]

theorem sel {α : Type} (c : BitVec 1) (a b : α) : Scalar.select c a b = if c = 1#1 then a else b := rfl

/-! ## The first pass -/

theorem sent_not_hit : ¬ (hit (F := Ideal) sent = 1#1) := by
  unfold hit sent
  rw [cmp_olt, not_lt]
  show Ideal.ofBits .f32 0x7E967699#32 ≤ Ideal.ofBits .f32 0x7F7FC99E#32
  have hs : (BitVec.extractLsb' (8 + 23) 1 0x7E967699#32 == 1#1) = false := by decide
  have hs' : (BitVec.extractLsb' (8 + 23) 1 0x7F7FC99E#32 == 1#1) = false := by decide
  have he : (BitVec.extractLsb' 23 8 0x7E967699#32).toNat = 253 := by decide
  have he' : (BitVec.extractLsb' 23 8 0x7F7FC99E#32).toNat = 254 := by decide
  have hf : (BitVec.extractLsb' 0 23 0x7E967699#32).toNat = 1472153 := by decide
  have hf' : (BitVec.extractLsb' 0 23 0x7F7FC99E#32).toNat = 8374686 := by decide
  simp only [Ideal.ofBits, Ideal.ieee, hs, hs', he, he', hf, hf']
  norm_num [EReal.coe_le_coe_iff, -EReal.coe_mul]

theorem colFold_cases (A : ℕ → ℕ → EReal) (T : ℕ → EReal) (r n : ℕ) :
    colFold (F := Ideal) A T r n = sent ∨ ∃ j, LastAt (T r) (fun c => A c r) n j ∧ colFold (F := Ideal) A T r n = A j r := by
  induction n with
  | zero => exact Or.inl rfl
  | succ n ih =>
    show pick (F := Ideal) _ _ _ = _ ∨ ∃ j, _ ∧ pick (F := Ideal) _ _ _ = _
    unfold pick
    simp only [sel, cmp_ole]
    by_cases h : A n r ≤ T r
    · exact Or.inr ⟨n, LastAt.here h, if_pos h⟩
    · simp only [if_neg h]
      rcases ih with ih | ⟨j, hj, e⟩
      · exact Or.inl ih
      · exact Or.inr ⟨j, hj.skip h, e⟩

/-- A row the first pass settles ends at the decay from its last word among the last 64 columns. -/
theorem first_settled (A : ℕ → ℕ → EReal) (T : ℕ → EReal) (r : ℕ) (h : missW (F := Ideal) A T r = 0#32) :
    ∃ j, LastAt (T r) (fun c => A c r) 64 j ∧ first (F := Ideal) A T r = decay (F := Ideal) (T r) (A j r) := by
  have hh : hit (F := Ideal) (colFold (F := Ideal) A T r 64) = 1#1 := by
    by_contra hn
    unfold missW at h
    rw [sel, if_neg hn] at h
    exact absurd h (by decide)
  rcases colFold_cases A T r 64 with e | ⟨j, hj, e⟩
  · rw [e] at hh; exact absurd hh sent_not_hit
  · refine ⟨j, hj, ?_⟩
    unfold first
    rw [sel, if_pos hh, e]

/-! ## The time on every lane -/

/-- Whether lane `x` has seen lane `a` after the four steps of an exchange. -/
def seen (k : ℕ) (S : ℕ → ℕ → Bool) (x a : ℕ) : Bool := S x a || S (x ^^^ k) a
def seen0 (x a : ℕ) : Bool := x == a
def seen4 : ℕ → ℕ → Bool := seen 8 (seen 4 (seen 2 (seen 1 seen0)))

theorem seen4_all : ∀ x < 16, ∀ a < 16, seen4 x a = true := by decide

theorem xor_lt {k : ℕ} (hk : k < 16) (x : S16.Idx) : (x 0).val ^^^ k < 16 := Nat.xor_lt_two_pow (n := 4) (lane_lt x) hk

/-- Each lane holds `t` where it has seen lane `a`, and the bottom elsewhere. -/
def Holds (t : EReal) (a : ℕ) (S : ℕ → ℕ → Bool) (w : FVec Ideal S16 .f32) : Prop := ∀ x, w x = if S (x 0).val a = true then t else ⊥

theorem Holds.step {t : EReal} {a : ℕ} {S : ℕ → ℕ → Bool} {w : FVec Ideal S16 .f32} (h : Holds t a S w) {k : ℕ} (hk : k < 16) :
    Holds t a (seen k S) (mx (F := Ideal) k w) := fun x => by
  have hx := xor_lt hk x
  show max (w x) (w (i16 ((x 0).val ^^^ k))) = _
  rw [h, h, i16_val hx]
  unfold seen
  cases S (x 0).val a <;> cases S ((x 0).val ^^^ k) a <;> simp

theorem time_all (T : ℕ → EReal) (r : ℕ) (x : S16.Idx) : timeW (F := Ideal) T ⊥ r x = T r := by
  have h0 : Holds (T r) (r % 16) seen0 (startW (F := Ideal) T ⊥ r) := fun y => by
    unfold startW seen0
    simp only [beq_iff_eq]
    split
    · next e => rw [e, Nat.div_add_mod]
    · rfl
  have h4 := (((h0.step (k := 1) (by decide)).step (k := 2) (by decide)).step (k := 4) (by decide)).step (k := 8) (by decide)
  exact (h4 x).trans (if_pos (seen4_all _ (lane_lt x) _ (Nat.mod_lt _ (by decide))))

/-! ## The scan and the search over the lanes -/

/-- `i` and `v` are the column and the word of the last word at or before `t` among the lanes of `S`; `i` is −1 if there is none. -/
def Found (t : EReal) (X : ℕ → EReal) (S : ℕ → Bool) (i : BitVec 32) (v : EReal) : Prop :=
  (i.toInt = -1 ∧ ∀ q < 2048, S (q % 16) = true → ¬ X q ≤ t)
    ∨ ∃ q : ℕ, q < 2048 ∧ S (q % 16) = true ∧ X q ≤ t ∧ (∀ k, q < k → k < 2048 → S (k % 16) = true → ¬ X k ≤ t) ∧ i.toInt = q ∧ v = X q

theorem Found.join {t : EReal} {X : ℕ → EReal} {S S' : ℕ → Bool} {i i' : BitVec 32} {v v' : EReal} (h : Found t X S i v) (h' : Found t X S' i' v') :
    Found t X (fun a => S a || S' a) (Scalar.select (IntOp.cmpi .sgt i' i) i' i) (Scalar.select (IntOp.cmpi .sgt i' i) v' v) := by
  have hc : IntOp.cmpi .sgt i' i = 1#1 ↔ i.toInt < i'.toInt := by
    show BitVec.ofBool (i.slt i') = 1#1 ↔ _
    rw [ofBool_eq_one_iff, BitVec.slt, decide_eq_true_eq]
  simp only [sel, hc]
  by_cases hlt : i.toInt < i'.toInt
  · simp only [if_pos hlt]
    rcases h' with ⟨e', -⟩ | ⟨q', hq', hS', hX', ha', e', rfl⟩
    · rcases h with ⟨e, -⟩ | ⟨q, -, -, -, -, e, -⟩ <;> omega
    · refine Or.inr ⟨q', hq', by simp [hS'], hX', fun k hk hk' hS => ?_, e', rfl⟩
      rcases Bool.or_eq_true_iff.mp hS with hS | hS
      · rcases h with ⟨-, hn⟩ | ⟨q, hq, -, -, ha, e, -⟩
        · exact hn k hk' hS
        · exact ha k (by omega) hk' hS
      · exact ha' k hk hk' hS
  · simp only [if_neg hlt]
    rcases h with ⟨e, hn⟩ | ⟨q, hq, hS, hX, ha, e, rfl⟩
    · refine Or.inl ⟨e, fun k hk hS => ?_⟩
      rcases Bool.or_eq_true_iff.mp hS with hS | hS
      · exact hn k hk hS
      · rcases h' with ⟨-, hn'⟩ | ⟨q', -, -, -, -, e', -⟩
        · exact hn' k hk hS
        · omega
    · refine Or.inr ⟨q, hq, by simp [hS], hX, fun k hk hk' hS => ?_, e, rfl⟩
      rcases Bool.or_eq_true_iff.mp hS with hS | hS
      · exact ha k hk hk' hS
      · rcases h' with ⟨-, hn'⟩ | ⟨q', -, -, -, ha', e', -⟩
        · exact hn' k hk' hS
        · exact ha' k (by omega) hk' hS

/-- A lane's scan of its first `n` words. -/
theorem scan_cases (t : EReal) (x : ℕ → EReal) (n : ℕ) :
    ((∀ k < n, ¬ x k ≤ t) ∧ scanI (F := Ideal) t x n = 4294967295#32)
      ∨ ∃ j, LastAt t x n j ∧ scanI (F := Ideal) t x n = BitVec.ofNat 32 j ∧ scanV (F := Ideal) t x n = x j := by
  induction n with
  | zero => exact Or.inl ⟨fun k hk => absurd hk (Nat.not_lt_zero k), rfl⟩
  | succ n ih =>
    show (_ ∧ Scalar.select _ _ _ = _) ∨ ∃ j, _ ∧ Scalar.select _ _ _ = _ ∧ Scalar.select _ _ _ = _
    simp only [sel, cmp_ole]
    by_cases h : x n ≤ t
    · exact Or.inr ⟨n, LastAt.here h, if_pos h, if_pos h⟩
    · simp only [if_neg h]
      rcases ih with ⟨ih, e⟩ | ⟨j, hj, e⟩
      · exact Or.inl ⟨fun k hk => (Nat.lt_succ_iff_lt_or_eq.mp hk).elim (ih k) (fun e => e ▸ h), e⟩
      · exact Or.inr ⟨j, hj.skip h, e⟩

theorem col_word : ∀ j < 128, ∀ a < 16, IntOp.addi (IntOp.muli (BitVec.ofNat 32 j) 16#32) (BitVec.ofNat 32 a) = BitVec.ofNat 32 (16 * j + a) := by
  intro j hj a ha
  show BitVec.ofNat 32 j * BitVec.ofNat 32 16 + BitVec.ofNat 32 a = _
  rw [← BitVec.ofNat_mul, ← BitVec.ofNat_add, Nat.mul_comm]

theorem sge_zero (n : ℕ) (hn : n < 2 ^ 31) : IntOp.cmpi .sge (BitVec.ofNat 32 n) 0#32 = 1#1 := by
  show BitVec.ofBool ((0#32).sle (BitVec.ofNat 32 n)) = 1#1
  rw [ofBool_eq_one_iff, BitVec.sle, decide_eq_true_eq, toInt_ofNat_small n hn]
  exact Int.natCast_nonneg n

/-- What a lane brings to the search. -/
theorem lane_found (tb : FVec Ideal S16 .f32) (X : ℕ → EReal) (x : S16.Idx) :
    Found (tb x) X (seen0 (x 0).val) (lastI (F := Ideal) tb X x) (lastV (F := Ideal) tb X x) := by
  have hx := lane_lt x
  unfold lastI lastV
  rcases scan_cases (tb x) (fun n => X (16 * n + (x 0).val)) 128 with ⟨hn, e⟩ | ⟨j, hj, e, e'⟩
  · rw [e]
    refine Or.inl ⟨by rw [sel, if_neg (by decide)]; decide, fun q hq hS => ?_⟩
    have hq' : (x 0).val = q % 16 := beq_iff_eq.mp hS
    have := hn (q / 16) (by omega)
    rw [hq', Nat.div_add_mod] at this
    exact this
  · have hj' := hj.lt
    rw [e, e', sel, if_pos (sge_zero j (by omega)), col_word j hj' _ hx]
    refine Or.inr ⟨16 * j + (x 0).val, by omega, beq_iff_eq.mpr (by omega), hj.le, fun k hk hk' hS => ?_, toInt_ofNat_small _ (by omega), rfl⟩
    have hq' : (x 0).val = k % 16 := beq_iff_eq.mp hS
    have := hj.after (k / 16) (by omega) (by omega)
    simp only [hq', Nat.div_add_mod] at this
    exact this

/-- Each lane of a pair has found the last word among the lanes it has seen. -/
def AllFound (t : EReal) (X : ℕ → EReal) (S : ℕ → ℕ → Bool) (p : IVec S16 32 × FVec Ideal S16 .f32) : Prop := ∀ x, Found t X (S (x 0).val) (p.1 x) (p.2 x)

theorem AllFound.step {t : EReal} {X : ℕ → EReal} {S : ℕ → ℕ → Bool} {p : IVec S16 32 × FVec Ideal S16 .f32} (h : AllFound t X S p) {k : ℕ} (hk : k < 16) :
    AllFound t X (seen k S) (argx (F := Ideal) k p) := fun x => by
  have h' := h (i16 ((x 0).val ^^^ k))
  rw [i16_val (xor_lt hk x)] at h'
  exact (h x).join h'

/-- A search that has seen every lane gives the decay from the row's last word, or zero when there is none. -/
theorem decay_found {t : EReal} {X : ℕ → EReal} {S : ℕ → Bool} {i : BitVec 32} {v : EReal} (h : Found t X S i v) (hS : ∀ q, S (q % 16) = true) :
    ((∀ k < 2048, ¬ X k ≤ t) ∧ Scalar.select (IntOp.cmpi .sge i 0#32) (decay (F := Ideal) t v) zro = zro (F := Ideal))
      ∨ ∃ j, LastAt t X 2048 j ∧ Scalar.select (IntOp.cmpi .sge i 0#32) (decay (F := Ideal) t v) zro = decay (F := Ideal) t (X j) := by
  have hc : IntOp.cmpi .sge i 0#32 = 1#1 ↔ 0 ≤ i.toInt := by
    show BitVec.ofBool ((0#32).sle i) = 1#1 ↔ _
    rw [ofBool_eq_one_iff, BitVec.sle, decide_eq_true_eq]; rfl
  rcases h with ⟨e, hn⟩ | ⟨q, hq, -, hX, ha, e, rfl⟩
  · exact Or.inl ⟨fun k hk => hn k hk (hS k), if_neg fun h => absurd (hc.mp h) (by omega)⟩
  · exact Or.inr ⟨q, ⟨hq, hX, fun k hk hk' => ha k hk hk' (hS k)⟩, if_pos (hc.mpr (by omega))⟩

/-- The second pass's word over a whole row. -/
theorem second_cases (T : ℕ → EReal) (X : ℕ → EReal) (r : ℕ) :
    ((∀ k < 2048, ¬ X k ≤ T r) ∧ second (F := Ideal) T ⊥ X r = zro (F := Ideal))
      ∨ ∃ j, LastAt (T r) X 2048 j ∧ second (F := Ideal) T ⊥ X r = decay (F := Ideal) (T r) (X j) := by
  have ht : timeW (F := Ideal) T ⊥ r = fun _ => T r := funext (time_all T r)
  unfold second
  rw [ht]
  have h0 : AllFound (T r) X seen0 (lastI (F := Ideal) (fun _ => T r) X, lastV (F := Ideal) (fun _ => T r) X) := fun x => lane_found (fun _ => T r) X x
  have h4 := (((h0.step (k := 1) (by decide)).step (k := 2) (by decide)).step (k := 4) (by decide)).step (k := 8) (by decide)
  have h : Found (T r) X (seen4 ((i16 (r % 16)) 0).val) ((bestW (F := Ideal) (fun _ => T r) X).1 (i16 (r % 16))) ((bestW (F := Ideal) (fun _ => T r) X).2 (i16 (r % 16))) :=
    h4 (i16 (r % 16))
  have hS : ∀ q, seen4 ((i16 (r % 16)) 0).val (q % 16) = true := fun q => seen4_all _ (lane_lt _) _ (Nat.mod_lt _ (by decide))
  exact decay_found h hS

theorem floor_bot : floorC (F := Ideal) = (⊥ : EReal) := IdealRules.named_const.ideal_named_scalar _ _ _ _ rfl

/-- A row's word, of its words and its time. -/
theorem row_cases (ma : S32x64x256.Idx → EReal) (mt : S8192.Idx → EReal) (mp : S8192x2048.Idx → EReal) (w r : ℕ) (hw : w < 32) (hr : r < 256)
    (hm : ∀ c < 64, ma (i32x64x256 w c r) = mp (i8192x2048 (256 * w + r) (1984 + c))) :
    ((∀ k < 2048, ¬ mp (i8192x2048 (256 * w + r) k) ≤ mt (i8192 (256 * w + r))) ∧ rowRes (F := Ideal) ma mt mp w r = zro (F := Ideal))
      ∨ ∃ j, LastAt (mt (i8192 (256 * w + r))) (fun k => mp (i8192x2048 (256 * w + r) k)) 2048 j
        ∧ rowRes (F := Ideal) ma mt mp w r = decay (F := Ideal) (mt (i8192 (256 * w + r))) (mp (i8192x2048 (256 * w + r) j)) := by
  have ht : timeOf (F := Ideal) mt w r = mt (i8192 (256 * w + r)) := by unfold timeOf; rw [Nat.mod_eq_of_lt hr]
  unfold rowRes
  by_cases h : missW (F := Ideal) (lastOf (F := Ideal) ma w) (timeOf (F := Ideal) mt w) r = 0#32
  · rw [if_pos h]
    obtain ⟨j, hj, e⟩ := first_settled _ _ _ h
    have hj' := hj.lt
    have hm' : ∀ c < 64, lastOf (F := Ideal) ma w c r = mp (i8192x2048 (256 * w + r) (1984 + c)) := hm
    rw [ht] at hj e
    refine Or.inr ⟨1984 + j, ⟨by omega, ?_, fun k hk hk' => ?_⟩, ?_⟩
    · rw [← hm' j hj']; exact hj.le
    · have := hj.after (k - 1984) (by omega) (by omega)
      rw [hm' _ (by omega), show 1984 + (k - 1984) = k by omega] at this
      exact this
    · rw [e, hm' j hj']
  · rw [if_neg h]
    unfold again
    rw [floor_bot]
    have hs := second_cases (timeOf (F := Ideal) mt w) (fun q => mp (i8192x2048 (256 * w + r) q)) r
    rw [ht] at hs
    exact hs

end Cert.Proof.Tpp

end
-- ==== Proof.Ranks.lean ====
/- Reading the reference's ranks: the running count of the words at or before a time, its largest value, and the one
   position whose count is that value and whose word is at or before the time. -/
module

public import proofs.«01_k».proof.Proof.Last
public import Idealize.ShloMosaic.Lib.Routing.Ops

@[expose] public section

noncomputable section

namespace Cert.Proof.Tpp

open Idealize.ShloMosaic Idealize.ShloMosaic.StableHlo.Predicate Idealize.ShloMosaic.ValueIdx Idealize.ShloMosaic.Routing

/-! ## Counting -/

/-- 1 where the word is at or before `t`, 0 elsewhere. -/
def bit (t : EReal) (X : ℕ → EReal) (k : ℕ) : ℕ := if X k ≤ t then 1 else 0
/-- How many of the first `n` words are. -/
def cnt (t : EReal) (X : ℕ → EReal) (n : ℕ) : ℕ := ((List.range n).map (bit t X)).sum

theorem cnt_succ (t : EReal) (X : ℕ → EReal) (n : ℕ) : cnt t X (n + 1) = cnt t X n + bit t X n := by
  unfold cnt
  rw [List.range_succ, List.map_append, List.sum_append, List.map_singleton, List.sum_singleton]

theorem bit_le (t : EReal) (X : ℕ → EReal) (n : ℕ) : bit t X n ≤ 1 := by unfold bit; split <;> omega

theorem cnt_le (t : EReal) (X : ℕ → EReal) (n : ℕ) : cnt t X n ≤ n := by
  induction n with
  | zero => exact Nat.le_refl 0
  | succ n ih => have := bit_le t X n; rw [cnt_succ]; omega

theorem cnt_mono (t : EReal) (X : ℕ → EReal) (n k : ℕ) : cnt t X n ≤ cnt t X (n + k) := by
  induction k with
  | zero => exact Nat.le_refl _
  | succ k ih => rw [← Nat.add_assoc, cnt_succ]; omega

theorem cnt_flat (t : EReal) (X : ℕ → EReal) (n k : ℕ) : cnt t X (n + k) = cnt t X n ↔ ∀ l < k, ¬ X (n + l) ≤ t := by
  induction k with
  | zero => exact ⟨fun _ l hl => absurd hl (Nat.not_lt_zero l), fun _ => rfl⟩
  | succ k ih =>
    have hm := cnt_mono t X n k
    rw [← Nat.add_assoc, cnt_succ]
    constructor
    · intro h l hl hX
      rcases Nat.lt_succ_iff_lt_or_eq.mp hl with hl | rfl
      · exact ih.mp (by omega) l hl hX
      · have : bit t X (n + l) = 1 := if_pos hX
        omega
    · intro h
      rw [ih.mpr fun l hl => h l (Nat.lt_succ_of_lt hl), show bit t X (n + k) = 0 from if_neg (h k (Nat.lt_succ_self k)), Nat.add_zero]

/-- The count up to and including `j` is the whole row's, and the word at `j` is at or before `t`, exactly when `j` is the last such. -/
theorem last_iff (t : EReal) (X : ℕ → EReal) (n j : ℕ) (hj : j < n) : (cnt t X n = cnt t X (j + 1) ∧ X j ≤ t) ↔ LastAt t X n j := by
  obtain ⟨k, rfl⟩ : ∃ k, n = (j + 1) + k := ⟨n - (j + 1), by omega⟩
  rw [cnt_flat]
  constructor
  · rintro ⟨h, hX⟩
    refine ⟨hj, hX, fun l hl hl' => ?_⟩
    have := h (l - (j + 1)) (by omega)
    rwa [show j + 1 + (l - (j + 1)) = l by omega] at this
  · intro h
    exact ⟨fun l hl => h.after _ (by omega) (by omega), h.le⟩

/-! ## The operations on one row -/

/-- The running sum of row `i`, whichever row of the matrix it is: the window does not leave the row. -/
theorem window_row {R N Nm1 : ℕ} (x : IVec (shape2 R N) 32) (init : IVec shape0 32)
    (h : (shape2 R N).ReduceWindows (![1, N] : Fin 2 → ℕ) ![1, 1] ![0, Nm1] ![0, 0] (shape2 R N))
    (h' : (shape2 1 N).ReduceWindows (![1, N] : Fin 2 → ℕ) ![1, 1] ![0, Nm1] ![0, 0] (shape2 1 N)) (hu : 0 < shape0.numel) (i : Fin R) (j : Fin N) :
    Host.reduceWindow IntOp.addi ![1, N] ![1, 1] ![0, Nm1] ![0, 0] x init h hu (ix2 i j)
      = Host.reduceWindow IntOp.addi ![1, N] ![1, 1] ![0, Nm1] ![0, 0] (fun y : (shape2 1 N).Idx => x (ix2 i (y 1))) init h' hu (ix2 (0 : Fin 1) j) := by
  unfold Host.reduceWindow
  dsimp only
  refine congrArg (fun f => List.foldl f _ _) (funext fun r => funext fun n => congrArg (IntOp.addi r) ?_)
  have hw0 : ((shape2 1 N).rowMajor.symm n 0).val = 0 := Nat.lt_one_iff.mp ((shape2 1 N).rowMajor.symm n 0).isLt
  have hi := i.isLt
  have key : (∀ a : Fin 2, (![0, Nm1] : Fin 2 → ℕ) a ≤ (ix2 i j a).val * (![1, 1] : Fin 2 → ℕ) a + ((shape2 1 N).rowMajor.symm n a).val
        ∧ (ix2 i j a).val * (![1, 1] : Fin 2 → ℕ) a + ((shape2 1 N).rowMajor.symm n a).val - (![0, Nm1] : Fin 2 → ℕ) a < (shape2 R N).size a)
      ↔ ∀ a : Fin 2, (![0, Nm1] : Fin 2 → ℕ) a ≤ (ix2 (0 : Fin 1) j a).val * (![1, 1] : Fin 2 → ℕ) a + ((shape2 1 N).rowMajor.symm n a).val
        ∧ (ix2 (0 : Fin 1) j a).val * (![1, 1] : Fin 2 → ℕ) a + ((shape2 1 N).rowMajor.symm n a).val - (![0, Nm1] : Fin 2 → ℕ) a < (shape2 1 N).size a := by
    constructor
    · intro hin a
      match a with
      | ⟨0, _⟩ =>
        show 0 ≤ 0 * 1 + ((shape2 1 N).rowMajor.symm n 0).val ∧ 0 * 1 + ((shape2 1 N).rowMajor.symm n 0).val - 0 < 1
        rw [hw0]; omega
      | ⟨1, _⟩ => exact hin 1
    · intro hin a
      match a with
      | ⟨0, _⟩ =>
        show 0 ≤ i.val * 1 + ((shape2 1 N).rowMajor.symm n 0).val ∧ i.val * 1 + ((shape2 1 N).rowMajor.symm n 0).val - 0 < R
        rw [hw0]; omega
      | ⟨1, _⟩ => exact hin 1
  rcases Classical.em (∀ a : Fin 2, (![0, Nm1] : Fin 2 → ℕ) a ≤ (ix2 (0 : Fin 1) j a).val * (![1, 1] : Fin 2 → ℕ) a + ((shape2 1 N).rowMajor.symm n a).val
        ∧ (ix2 (0 : Fin 1) j a).val * (![1, 1] : Fin 2 → ℕ) a + ((shape2 1 N).rowMajor.symm n a).val - (![0, Nm1] : Fin 2 → ℕ) a < (shape2 1 N).size a) with hin | hin
  · refine (dif_pos (key.mpr hin)).trans (Eq.trans ?_ (dif_pos hin).symm)
    refine congrArg x (funext fun a => Fin.ext ?_)
    match a with
    | ⟨0, _⟩ =>
      show i.val * 1 + ((shape2 1 N).rowMajor.symm n 0).val - 0 = i.val
      rw [hw0]; omega
    | ⟨1, _⟩ => rfl
  · refine (dif_neg fun h => hin (key.mp h)).trans ?_
    symm
    exact dif_neg hin

theorem toInt_maxsi (a b : BitVec 32) : (IntOp.maxsi a b).toInt = max a.toInt b.toInt := by
  unfold IntOp.maxsi
  by_cases h : b.toInt < a.toInt
  · rw [if_pos (by rw [BitVec.slt, decide_eq_true_eq]; exact h), max_eq_left h.le]
  · rw [if_neg (by rw [BitVec.slt, decide_eq_true_eq]; exact h), max_eq_right (not_lt.mp h)]

/-- The signed maximum of a family is a member that none exceeds. -/
theorem fold_max {ι : Type} [DecidableEq ι] (s : Finset ι) (f : ι → BitVec 32) (v : BitVec 32) (k : ι) (hk : k ∈ s) (hv : v.toInt ≤ (f k).toInt)
    (hf : ∀ l ∈ s, (f l).toInt ≤ (f k).toInt) : s.fold IntOp.maxsi v f = f k := by
  have hle : ∀ s' : Finset ι, (∀ l ∈ s', (f l).toInt ≤ (f k).toInt) → (s'.fold IntOp.maxsi v f).toInt ≤ (f k).toInt := by
    intro s'
    induction s' using Finset.induction with
    | empty => intro _; rw [Finset.fold_empty]; exact hv
    | insert a s' ha ih =>
      intro h
      rw [Finset.fold_insert ha, toInt_maxsi]
      exact max_le (h a (Finset.mem_insert_self a s')) (ih fun l hl => h l (Finset.mem_insert_of_mem hl))
  have hge : (f k).toInt ≤ (s.fold IntOp.maxsi v f).toInt := by
    rw [← Finset.insert_erase hk, Finset.fold_insert (Finset.notMem_erase k s), toInt_maxsi]
    exact le_max_left _ _
  exact BitVec.toInt_inj.mp (le_antisymm (hle s hf) hge)

theorem ori_one (a b : BitVec 1) : IntOp.ori a b = 1#1 ↔ a = 1#1 ∨ b = 1#1 := by revert a b; decide

/-- The disjunction of a family of bits is set exactly when one of them is. -/
theorem fold_or {ι : Type} [DecidableEq ι] (s : Finset ι) (f : ι → BitVec 1) : s.fold IntOp.ori 0#1 f = 1#1 ↔ ∃ k ∈ s, f k = 1#1 := by
  induction s using Finset.induction with
  | empty => rw [Finset.fold_empty]; exact ⟨fun h => absurd h (by decide), fun ⟨k, hk, _⟩ => absurd hk (Finset.notMem_empty k)⟩
  | insert a s ha ih => rw [Finset.fold_insert ha, ori_one, ih, Finset.exists_mem_insert]

/-- A reduction along the rows of the matrix, at a row: the fold over the row. -/
theorem row_fold {α : Type} (op : α → α → α) [Std.Commutative op] [Std.Associative op] (x : (shape2 8192 2048).Idx → α) (init : shape0.Idx → α)
    (h : (shape2 8192 2048).ReducesTo [1] (shape1 8192)) (hu : 0 < shape0.numel) (i : Fin 8192) :
    Host.reduce op x init h hu (ix1 i) = (Finset.univ : Finset (Fin 2048)).fold op (init (Shape.Idx.first hu)) fun k => x (ix2 i k) := by
  have hr : (shape2 8192 2048).Reduces [1] (shape1 8192) := by decide
  refine (Host.reduce_eq_fold_single op x init h hr hu (ix1 i)).trans ?_
  exact congrArg (Finset.fold op _ · _) (funext fun k => congrArg x (ext2 rfl rfl))

/-- The signed maximum of the running counts is the last of them. -/
theorem fold_count (t : EReal) (X : ℕ → EReal) (f : Fin 2048 → BitVec 32) (v : BitVec 32) (hv : v.toInt ≤ 0) (hf : ∀ k, f k = BitVec.ofNat 32 (cnt t X (k.val + 1))) :
    (Finset.univ : Finset (Fin 2048)).fold IntOp.maxsi v f = BitVec.ofNat 32 (cnt t X 2048) := by
  have hi : ∀ k, (f k).toInt = cnt t X (k.val + 1) := fun k => by
    have := cnt_le t X (k.val + 1)
    have hk := k.isLt
    rw [hf, toInt_ofNat_small _ (by omega)]
  refine (fold_max Finset.univ f v (⟨2047, by decide⟩ : Fin 2048) (Finset.mem_univ _) ?_ fun l _ => ?_).trans (hf _)
  · rw [hi]; omega
  · rw [hi, hi]
    have hl := l.isLt
    have := cnt_mono t X (l.val + 1) (2047 - l.val)
    rw [show l.val + 1 + (2047 - l.val) = 2047 + 1 by omega] at this
    exact_mod_cast this

theorem andi_one (a b : BitVec 1) : IntOp.andi a b = 1#1 ↔ a = 1#1 ∧ b = 1#1 := by revert a b; decide

/-- A count's distance from a larger one is below one exactly when they are equal. -/
theorem rank_zero (a b : ℕ) (hb : b ≤ a) (ha : a ≤ 2048) : IntOp.cmpi .slt (IntOp.subi (BitVec.ofNat 32 a) (BitVec.ofNat 32 b)) 1#32 = 1#1 ↔ a = b := by
  have e : IntOp.subi (BitVec.ofNat 32 a) (BitVec.ofNat 32 b) = BitVec.ofNat 32 (a - b) := by
    obtain ⟨c, rfl⟩ : ∃ c, a = b + c := ⟨a - b, by omega⟩
    show BitVec.ofNat 32 (b + c) - BitVec.ofNat 32 b = _
    rw [BitVec.ofNat_add, Nat.add_sub_cancel_left]
    exact add_sub_cancel_left _ _
  rw [e]
  show BitVec.ofBool ((BitVec.ofNat 32 (a - b)).slt 1#32) = 1#1 ↔ _
  rw [ofBool_eq_one_iff, BitVec.slt, decide_eq_true_eq, toInt_ofNat_small _ (by omega), show (1#32).toInt = 1 from rfl]
  omega

end Cert.Proof.Tpp

end
-- ==== Proof.Reference.lean ====
/- The reference's run, and its result over the extended reals, row by row. -/
module

public import proofs.«01_k».proof.Defs
public import proofs.«01_k».proof.Proof.Ranks
public import proofs.«01_k».proof.Proof.Gen.ReferenceIdeal.Run
public import proofs.«01_k».proof.Proof.Gen.ReferenceIdeal.Read

@[expose] public section

noncomputable section

namespace Cert.Proof.Tpp

open Cert.ReferenceIdeal Cert.ReferenceIdeal.Gen Cert.ReferenceIdeal.Read
open Idealize.ShloMosaic Idealize.ShloMosaic.StableHlo.Predicate Idealize.ShloMosaic.ValueIdx Idealize.ShloMosaic.Routing Idealize.SL.Sem

/-- The reference leaves its arguments alone, and it has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

variable (x2 : S8192.Idx → EReal) (x4 : S8192x2048.Idx → EReal)

/-- A row's words, and its time. -/
def rowX (i : Fin 8192) (k : ℕ) : EReal := x4 (i8192x2048 i.val k)
def rowT (i : Fin 8192) : EReal := x2 (ix1 i)

theorem rowX_at (i : Fin 8192) (k : Fin 2048) : rowX x4 i k.val = x4 (ix2 i k) :=
  congrArg x4 (ext2 (Nat.mod_eq_of_lt i.isLt) (Nat.mod_eq_of_lt k.isLt))

/-- Whether a word is at or before its row's time. -/
theorem ref_before (i : Fin 8192) (k : Fin 2048) : val_main_v19 (F := Ideal) x2 x4 (ix2 i k) = 1#1 ↔ rowX x4 i k.val ≤ rowT x2 i := by
  rw [val_main_v19_apply, val_main_v18_apply, val_main_v17_apply, cmp_ole, rowX_at]
  have e : idx_main_v17 (idx_main_v18 (ix2 i k)) = ix1 i := ext1 rfl
  rw [e]
  exact Iff.rfl

/-- The running count. -/
theorem ref_count (i : Fin 8192) (k : Fin 2048) :
    val_main_v21 (F := Ideal) x2 x4 (ix2 i k) = BitVec.ofNat 32 (cnt (rowT x2 i) (rowX x4 i) (k.val + 1)) := by
  unfold val_main_v21
  refine (window_row (R := 8192) (N := 2048) (Nm1 := 2047) _ _ _ (by decide) _ i k).trans ?_
  refine cumsum2 (by rfl) _ (bit (rowT x2 i) (rowX x4 i)) (fun l => ?_) _ ?_ _ _ k
  · show val_main_v20 (F := Ideal) x2 x4 (ix2 i l) = _
    rw [val_main_v20_apply]
    unfold bit
    by_cases h : rowX x4 i l.val ≤ rowT x2 i
    · rw [(ref_before x2 x4 i l).mpr h, if_pos h]; rfl
    · rw [if_neg h, eq_zero_of_ne_one fun h' => h ((ref_before x2 x4 i l).mp h')]; rfl
  · rw [val_main_call1_call0_v0_apply, val_main_call1_call0_c_apply]

/-- The row's whole count. -/
theorem ref_total (i : Fin 8192) : val_main_v22 (F := Ideal) x2 x4 (ix1 i) = BitVec.ofNat 32 (cnt (rowT x2 i) (rowX x4 i) 2048) := by
  refine (row_fold IntOp.maxsi (val_main_v21 (F := Ideal) x2 x4) (val_main_c_3 (F := Ideal)) _ _ i).trans ?_
  exact fold_count _ _ _ _ (by rw [val_main_c_3_apply]; decide) (ref_count x2 x4 i)

/-- The mask names the last word at or before the time. -/
theorem ref_mask (i : Fin 8192) (k : Fin 2048) : val_main_v28 (F := Ideal) x2 x4 (ix2 i k) = 1#1 ↔ LastAt (rowT x2 i) (rowX x4 i) 2048 k.val := by
  have hk := k.isLt
  have e : idx_main_v23 (idx_main_v24 (ix2 i k)) = ix1 i := ext1 rfl
  rw [val_main_v28_apply, andi_one, ref_before, val_main_v27_apply, val_main_v25_apply, val_main_v26_apply, val_main_c_4_apply, val_main_v24_apply, val_main_v23_apply, e,
    ref_total, ref_count, rank_zero _ _ _ (cnt_le _ _ _), last_iff _ _ _ _ hk]
  have := cnt_mono (rowT x2 i) (rowX x4 i) (k.val + 1) (2047 - k.val)
  rwa [show k.val + 1 + (2047 - k.val) = 2048 by omega] at this

/-- Whether the row has one. -/
theorem ref_any (i : Fin 8192) : val_main_v29 (F := Ideal) x2 x4 (ix1 i) = 1#1 ↔ ∃ k : Fin 2048, LastAt (rowT x2 i) (rowX x4 i) 2048 k.val := by
  have e : val_main_v29 (F := Ideal) x2 x4 (ix1 i) = (Finset.univ : Finset (Fin 2048)).fold IntOp.ori 0#1 fun k => val_main_v28 (F := Ideal) x2 x4 (ix2 i k) :=
    row_fold IntOp.ori (val_main_v28 (F := Ideal) x2 x4) (val_main_c_5 (F := Ideal)) _ _ i
  rw [e, fold_or]
  exact exists_congr fun k => (and_iff_right (Finset.mem_univ k)).trans (ref_mask x2 x4 i k)

theorem word_zero : FloatOps.ofBits (F := Ideal) .f32 0x00000000#32 = (0 : EReal) := by
  rw [Ideal.ofBits_def]; simp [Ideal.ofBits, Ideal.ieee]

theorem word_one : FloatOps.ofBits (F := Ideal) .f32 0x3F800000#32 = (1 : EReal) := by
  rw [Ideal.ofBits_def]
  have hs : (BitVec.extractLsb' (8 + 23) 1 0x3F800000#32 == 1#1) = false := by decide
  have he : (BitVec.extractLsb' 23 8 0x3F800000#32).toNat = 127 := by decide
  have hf : (BitVec.extractLsb' 0 23 0x3F800000#32).toNat = 0 := by decide
  simp only [Ideal.ofBits, Ideal.ieee, hs, he, hf]
  norm_num

/-- The masked sum is that word. -/
theorem ref_word (i : Fin 8192) (j : ℕ) (hj : LastAt (rowT x2 i) (rowX x4 i) 2048 j) : val_main_v31 (F := Ideal) x2 x4 (ix1 i) = rowX x4 i j := by
  have hl : ∀ k : Fin 2048, idx_main_v31 (ix1 i) k = ix2 i k := fun k => ext2 rfl rfl
  rw [val_main_v31_apply, val_main_cst_7_apply, word_zero, zero_add]
  have ht : ∀ k : Fin 2048, val_main_v30 (F := Ideal) x2 x4 (idx_main_v31 (ix1 i) k) = if k.val = j then rowX x4 i j else 0 := fun k => by
    rw [hl, val_main_v30_apply, val_main_call2_v0_apply, val_main_cst_6_apply, word_zero, sel]
    by_cases h : k.val = j
    · subst h
      rw [if_pos ((ref_mask x2 x4 i k).mpr hj), if_pos rfl, rowX_at]
    · rw [if_neg fun h' => h (((ref_mask x2 x4 i k).mp h').unique hj), if_neg h]
  rw [Finset.sum_congr rfl fun k _ => ht k]
  rw [Finset.sum_eq_single (⟨j, hj.lt⟩ : Fin 2048) (fun k _ hk => if_neg fun h => hk (Fin.ext h)) fun h => absurd (Finset.mem_univ _) h]
  exact if_pos rfl

/-- The reference's result in a row: the decay from its last word at or before its time, or zero when it has none. -/
theorem ref_cases (i : Fin 8192) :
    ((∀ k < 2048, ¬ rowX x4 i k ≤ rowT x2 i) ∧ val_main_v40 (F := Ideal) x2 x4 (ix1 i) = (0 : EReal))
      ∨ ∃ j, LastAt (rowT x2 i) (rowX x4 i) 2048 j ∧ val_main_v40 (F := Ideal) x2 x4 (ix1 i) = Ideal.exp (-(rowT x2 i - rowX x4 i j)) := by
  rw [val_main_v40_apply, sel]
  rcases last_or_none (rowT x2 i) (rowX x4 i) 2048 with hn | ⟨j, hj⟩
  · refine Or.inl ⟨hn, ?_⟩
    rw [if_neg fun h => let ⟨k, hk⟩ := (ref_any x2 x4 i).mp h; hn k.val k.isLt hk.le, val_main_v39_apply, val_main_cst_10_apply, word_zero]
  · refine Or.inr ⟨j, hj, ?_⟩
    rw [if_pos ((ref_any x2 x4 i).mpr ⟨⟨j, hj.lt⟩, hj⟩), val_main_v38_apply, val_main_v37_apply, val_main_cst_9_apply, val_main_v36_apply, val_main_v35_apply,
      val_main_v34_apply, val_main_v33_apply, val_main_cst_8_apply, val_main_v32_apply, ref_word x2 x4 i j hj, word_one]
    show (1 : EReal) * Ideal.exp (-((1 : EReal) * (rowT x2 i - rowX x4 i j))) = _
    rw [one_mul, one_mul]

end Cert.Proof.Tpp

end
-- ==== Proof.Meet.lean ====
/- The kernel's result and the reference's are the same function of the arguments over the extended reals. -/
module

public import proofs.«01_k».proof.Proof.Frames
public import proofs.«01_k».proof.Proof.Reference

@[expose] public section

noncomputable section

namespace Cert.Proof.Tpp

open Cert.KernelIdeal Cert.KernelIdeal.Gen
open Idealize.ShloMosaic Idealize.ShloMosaic.ValueIdx Idealize.SL.Sem

/-- An index of the last columns by tile and row, and of all rows. -/
def i32x256x64 (w r c : ℕ) : S32x256x64.Idx := fun | 0 => ⟨w % 32, Nat.mod_lt _ (by decide)⟩ | 1 => ⟨r % 256, Nat.mod_lt _ (by decide)⟩ | 2 => ⟨c % 64, Nat.mod_lt _ (by decide)⟩
def i8192x64 (r c : ℕ) : S8192x64.Idx := fun | 0 => ⟨r % 8192, Nat.mod_lt _ (by decide)⟩ | 1 => ⟨c % 64, Nat.mod_lt _ (by decide)⟩

/-- The blocks of last columns hold each row's last 64 words. -/
theorem turned_at (mp : S8192x2048.Idx → EReal) (w c r : ℕ) (hw : w < 32) (hc : c < 64) (hr : r < 256) :
    turned (F := Ideal) mp (i32x64x256 w c r) = mp (i8192x2048 (256 * w + r) (1984 + c)) := by
  unfold turned
  refine (transpose_apply [0, 2, 1] _ _ (i32x64x256 w c r) (i32x256x64 w r c) fun b => ?_).trans ?_
  · match b with
    | ⟨0, _⟩ => rfl
    | ⟨1, _⟩ => rfl
    | ⟨2, _⟩ => rfl
  refine (shapeCast_apply _ _ (i32x256x64 w r c) (i8192x64 (256 * w + r) c) ?_).trans ?_
  · rw [Shape.rowMajor_val_two, Shape.rowMajor_val_three]
    show (256 * w + r) % 8192 * 64 + c % 64 = (w % 32 * 256 + r % 256) * 64 + c % 64
    omega
  refine extractStridedSlice_apply _ _ _ (i8192x64 (256 * w + r) c) _ fun a => ?_
  match a with
  | ⟨0, _⟩ => show (256 * w + r) % 8192 = 0 + (256 * w + r) % 8192; omega
  | ⟨1, _⟩ => show (1984 + c) % 2048 = 1984 + c % 64; omega

theorem zro_zero : zro (F := Ideal) = (0 : EReal) := word_zero

theorem decay_exp (t v : EReal) : decay (F := Ideal) t v = Ideal.exp (-(t - v)) := by
  show Ideal.exp (FloatOps.ofBits (F := Ideal) .f32 0x00000000#32 - (t - v)) = _
  rw [word_zero, sub_eq_add_neg, zero_add]

/-- Row by row the two results agree. -/
theorem result_eq (mt : S8192.Idx → EReal) (mp : S8192x2048.Idx → EReal) :
    result (F := Ideal) mt mp = Cert.ReferenceIdeal.Read.val_main_v40 (F := Ideal) mt mp := by
  funext y
  obtain ⟨i, rfl⟩ : ∃ i : Fin 8192, y = ix1 i := ⟨y 0, eq_ix1 y⟩
  have hi := i.isLt
  have he : 256 * (i.val / 256) + i.val % 256 = i.val := Nat.div_add_mod _ _
  have hy : i8192 i.val = ix1 i := ext1 (Nat.mod_eq_of_lt hi)
  have hk := row_cases (turned (F := Ideal) mp) mt mp (i.val / 256) (i.val % 256) (by omega) (by omega)
    fun c hc => turned_at mp _ c _ (by omega) hc (by omega)
  rw [he, hy] at hk
  show rowRes (F := Ideal) (turned (F := Ideal) mp) mt mp (i.val / 256) (i.val % 256) = _
  rcases hk with ⟨hn, e⟩ | ⟨j, hj, e⟩ <;> rcases ref_cases mt mp i with ⟨hn', e'⟩ | ⟨k, hk, e'⟩
  · rw [e, e', zro_zero]
  · exact absurd hk.le (hn k hk.lt)
  · exact absurd hj.le (hn' j hj.lt)
  · rw [e, e', decay_exp, hj.unique hk]
    rfl

/-- From memories that agree on the arguments the two runs end with equal results. -/
theorem meets : Cert.algebraic_KernelIdeal_ReferenceIdeal := fun m g m' g' _ hagree => by
  refine ⟨fun c => result (F := Ideal) (m (tLoc c)) (m (pLoc c)), ?_, ?_⟩
  · exact (θ_run Cert.KernelIdeal.defs _ _).mono (fun _ h => h.1) (run_ideal m g)
  · refine (θ_run Cert.ReferenceIdeal.defs _ _).mono (fun r h c => ⟨?_, (h c).2⟩) (Cert.ReferenceIdeal.Value.run (F := Ideal) m' g')
    refine ((h c).1.trans (Cert.ReferenceIdeal.Read.val_main_v40_eq _ _)).trans ?_
    rw [(hagree c).2.2.1, (hagree c).2.2.2.2.1]
    exact (result_eq _ _).symm

end Cert.Proof.Tpp

end
-- ==== Proof.lean ====
/- The certificate's claims, put together: the three programs leave their arguments alone and their semaphores at zero
   (Proof/Frames.lean, Proof/Reference.lean), the idealized kernel differs from the printed one by its named constant
   (Proof/Frames.lean), and over the extended reals the idealized kernel and the reference end with equal results
   (Proof/Meet.lean). -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Frames
public import proofs.«01_k».proof.Proof.Reference
public import proofs.«01_k».proof.Proof.Meet

@[expose] public section

noncomputable section

namespace Cert.Proof

/-- Everything the certificate claims. -/
theorem claim : Cert.Claim :=
  ⟨Cert.Kernel.Gen.facts, Cert.KernelIdeal.Gen.facts, Cert.ReferenceIdeal.Gen.facts,
    Tpp.frame_printed, Tpp.frame_ideal, Tpp.frame_ref, Tpp.preserves, Tpp.meets⟩

end Cert.Proof

end
